-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Moe [hPre_experts_named : Cert.Pre_experts_named.Facts] (m : (ℓ : Loc Cert.Moe.nD Cert.Moe.τ Cert.Moe.sig) → Buf (Elt Bits) ℓ) : Prop :=
  ∀ c : Dev Cert.Moe.nD,
    (Cert.Pre_experts_named.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_experts_named : Cert.Pre_experts_named.Facts] (m : (ℓ : Loc Cert.MoeIdeal.nD Cert.MoeIdeal.τ Cert.MoeIdeal.sig) → Buf (Elt Ideal) ℓ) : Prop :=
  ∀ c : Dev Cert.MoeIdeal.nD,
    (Cert.Pre_experts_named.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeReferenceIdeal [hPre_experts_named : Cert.Pre_experts_named.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_experts_named.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5))) = (fun _ => 1#1)

def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontReferenceIdeal (m : (ℓ : Loc Cert.FrontReferenceIdeal.nD Cert.FrontReferenceIdeal.τ Cert.FrontReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Moe [hMoe : Cert.Moe.Facts] [hPre_experts_named : Cert.Pre_experts_named.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeReferenceIdeal [hMoeReferenceIdeal : Cert.MoeReferenceIdeal.Facts] [hPre_experts_named : Cert.Pre_experts_named.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5))
      ∧ r.2.sem = fun _ => 0)

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ r.2.sem = fun _ => 0)

def quiescent_FrontReferenceIdeal [hFrontReferenceIdeal : Cert.FrontReferenceIdeal.Facts] : Prop :=
  ∀ (m : (ℓ : Loc Cert.FrontReferenceIdeal.nD Cert.FrontReferenceIdeal.τ Cert.FrontReferenceIdeal.sig) → Buf (Elt Ideal) ℓ) (g : Dev Cert.FrontReferenceIdeal.nD → PrngReg), Pre_FrontReferenceIdeal m →
    θ_run (Cert.FrontReferenceIdeal.defs (F := Ideal)) (onTc (τ := Cert.FrontReferenceIdeal.τ) (Cert.FrontReferenceIdeal.main (F := Ideal))) ⟨m, fun _ => 0, g⟩ (fun r => (∀ c : Dev Cert.FrontReferenceIdeal.nD,
      r.2.mem ((c.tc : Thread Cert.FrontReferenceIdeal.nD Cert.FrontReferenceIdeal.τ).loc Cert.FrontReferenceIdeal.main_arg0) = m ((c.tc : Thread Cert.FrontReferenceIdeal.nD Cert.FrontReferenceIdeal.τ).loc Cert.FrontReferenceIdeal.main_arg0)
      ∧ r.2.mem ((c.tc : Thread Cert.FrontReferenceIdeal.nD Cert.FrontReferenceIdeal.τ).loc Cert.FrontReferenceIdeal.main_arg1) = m ((c.tc : Thread Cert.FrontReferenceIdeal.nD Cert.FrontReferenceIdeal.τ).loc Cert.FrontReferenceIdeal.main_arg1)
      ∧ r.2.mem ((c.tc : Thread Cert.FrontReferenceIdeal.nD Cert.FrontReferenceIdeal.τ).loc Cert.FrontReferenceIdeal.main_arg2) = m ((c.tc : Thread Cert.FrontReferenceIdeal.nD Cert.FrontReferenceIdeal.τ).loc Cert.FrontReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v6) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Moe_MoeIdeal : Prop :=
  True

def algebraic_MoeIdeal_MoeReferenceIdeal [hMoeIdeal : Cert.MoeIdeal.Facts] [hMoeReferenceIdeal : Cert.MoeReferenceIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v33) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5))

def preserves_Front_FrontIdeal : Prop :=
  True

def algebraic_FrontIdeal_FrontReferenceIdeal [hFrontIdeal : Cert.FrontIdeal.Facts] [hFrontReferenceIdeal : Cert.FrontReferenceIdeal.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontReferenceIdeal.nD Cert.FrontReferenceIdeal.τ Cert.FrontReferenceIdeal.sig) → Buf (Elt Ideal) ℓ) (g' : Dev Cert.FrontReferenceIdeal.nD → PrngReg), Pre_FrontIdeal m →
    (∀ c : Dev Cert.FrontIdeal.nD,
      m' ((c.tc : Thread Cert.FrontReferenceIdeal.nD Cert.FrontReferenceIdeal.τ).loc Cert.FrontReferenceIdeal.main_arg0) = m ((c.tc : Thread Cert.FrontIdeal.nD Cert.FrontIdeal.τ).loc Cert.FrontIdeal.main_arg0)
      ∧ m' ((c.tc : Thread Cert.FrontReferenceIdeal.nD Cert.FrontReferenceIdeal.τ).loc Cert.FrontReferenceIdeal.main_arg1) = m ((c.tc : Thread Cert.FrontIdeal.nD Cert.FrontIdeal.τ).loc Cert.FrontIdeal.main_arg1)
      ∧ m' ((c.tc : Thread Cert.FrontReferenceIdeal.nD Cert.FrontReferenceIdeal.τ).loc Cert.FrontReferenceIdeal.main_arg2) = m ((c.tc : Thread Cert.FrontIdeal.nD Cert.FrontIdeal.τ).loc Cert.FrontIdeal.main_arg2)) →
    ∃ (v0 : (c : Dev Cert.FrontIdeal.nD) → Buf (Elt Ideal) ((c.tc : Thread Cert.FrontIdeal.nD Cert.FrontIdeal.τ).loc Cert.FrontIdeal.main_v32_0)) (v1 : (c : Dev Cert.FrontIdeal.nD) → Buf (Elt Ideal) ((c.tc : Thread Cert.FrontIdeal.nD Cert.FrontIdeal.τ).loc Cert.FrontIdeal.main_v32_1)) (v2 : (c : Dev Cert.FrontIdeal.nD) → Buf (Elt Ideal) ((c.tc : Thread Cert.FrontIdeal.nD Cert.FrontIdeal.τ).loc Cert.FrontIdeal.main_v32_2)) (v3 : (c : Dev Cert.FrontIdeal.nD) → Buf (Elt Ideal) ((c.tc : Thread Cert.FrontIdeal.nD Cert.FrontIdeal.τ).loc Cert.FrontIdeal.main_v32_3)) (v4 : (c : Dev Cert.FrontIdeal.nD) → Buf (Elt Ideal) ((c.tc : Thread Cert.FrontIdeal.nD Cert.FrontIdeal.τ).loc Cert.FrontIdeal.main_v32_4)) (v5 : (c : Dev Cert.FrontIdeal.nD) → Buf (Elt Ideal) ((c.tc : Thread Cert.FrontIdeal.nD Cert.FrontIdeal.τ).loc Cert.FrontIdeal.main_v32_5)) (v6 : (c : Dev Cert.FrontIdeal.nD) → Buf (Elt Ideal) ((c.tc : Thread Cert.FrontIdeal.nD Cert.FrontIdeal.τ).loc Cert.FrontIdeal.main_v32_6)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v32_0) = v0 c
          ∧ r.2.mem ((c.tc : Thread Cert.FrontIdeal.nD Cert.FrontIdeal.τ).loc Cert.FrontIdeal.main_v32_1) = v1 c
          ∧ r.2.mem ((c.tc : Thread Cert.FrontIdeal.nD Cert.FrontIdeal.τ).loc Cert.FrontIdeal.main_v32_2) = v2 c
          ∧ r.2.mem ((c.tc : Thread Cert.FrontIdeal.nD Cert.FrontIdeal.τ).loc Cert.FrontIdeal.main_v32_3) = v3 c
          ∧ r.2.mem ((c.tc : Thread Cert.FrontIdeal.nD Cert.FrontIdeal.τ).loc Cert.FrontIdeal.main_v32_4) = v4 c
          ∧ r.2.mem ((c.tc : Thread Cert.FrontIdeal.nD Cert.FrontIdeal.τ).loc Cert.FrontIdeal.main_v32_5) = v5 c
          ∧ r.2.mem ((c.tc : Thread Cert.FrontIdeal.nD Cert.FrontIdeal.τ).loc Cert.FrontIdeal.main_v32_6) = v6 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2))
      ∧ θ_run (Cert.FrontReferenceIdeal.defs (F := Ideal)) (onTc (τ := Cert.FrontReferenceIdeal.τ) (Cert.FrontReferenceIdeal.main (F := Ideal))) ⟨m', fun _ => 0, g'⟩ (fun r => ∀ c : Dev Cert.FrontReferenceIdeal.nD,
          r.2.mem ((c.tc : Thread Cert.FrontReferenceIdeal.nD Cert.FrontReferenceIdeal.τ).loc Cert.FrontReferenceIdeal.main_v147) = v0 c
          ∧ r.2.mem ((c.tc : Thread Cert.FrontReferenceIdeal.nD Cert.FrontReferenceIdeal.τ).loc Cert.FrontReferenceIdeal.main_v149) = v1 c
          ∧ r.2.mem ((c.tc : Thread Cert.FrontReferenceIdeal.nD Cert.FrontReferenceIdeal.τ).loc Cert.FrontReferenceIdeal.main_v150) = v2 c
          ∧ r.2.mem ((c.tc : Thread Cert.FrontReferenceIdeal.nD Cert.FrontReferenceIdeal.τ).loc Cert.FrontReferenceIdeal.main_v151) = v3 c
          ∧ r.2.mem ((c.tc : Thread Cert.FrontReferenceIdeal.nD Cert.FrontReferenceIdeal.τ).loc Cert.FrontReferenceIdeal.main_v152) = v4 c
          ∧ r.2.mem ((c.tc : Thread Cert.FrontReferenceIdeal.nD Cert.FrontReferenceIdeal.τ).loc Cert.FrontReferenceIdeal.main_v153) = v5 c
          ∧ r.2.mem ((c.tc : Thread Cert.FrontReferenceIdeal.nD Cert.FrontReferenceIdeal.τ).loc Cert.FrontReferenceIdeal.main_v154) = v6 c
          ∧ r.2.mem ((c.tc : Thread Cert.FrontReferenceIdeal.nD Cert.FrontReferenceIdeal.τ).loc Cert.FrontReferenceIdeal.main_arg0) = m' ((c.tc : Thread Cert.FrontReferenceIdeal.nD Cert.FrontReferenceIdeal.τ).loc Cert.FrontReferenceIdeal.main_arg0)
          ∧ r.2.mem ((c.tc : Thread Cert.FrontReferenceIdeal.nD Cert.FrontReferenceIdeal.τ).loc Cert.FrontReferenceIdeal.main_arg1) = m' ((c.tc : Thread Cert.FrontReferenceIdeal.nD Cert.FrontReferenceIdeal.τ).loc Cert.FrontReferenceIdeal.main_arg1)
          ∧ r.2.mem ((c.tc : Thread Cert.FrontReferenceIdeal.nD Cert.FrontReferenceIdeal.τ).loc Cert.FrontReferenceIdeal.main_arg2) = m' ((c.tc : Thread Cert.FrontReferenceIdeal.nD Cert.FrontReferenceIdeal.τ).loc Cert.FrontReferenceIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMoe : Cert.Moe.Facts) (hMoeIdeal : Cert.MoeIdeal.Facts) (hMoeReferenceIdeal : Cert.MoeReferenceIdeal.Facts) (hFront : Cert.Front.Facts) (hFrontIdeal : Cert.FrontIdeal.Facts) (hFrontReferenceIdeal : Cert.FrontReferenceIdeal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Moe (hMoe := hMoe) (hPre_experts_named := hPre_experts_named)
    ∧ quiescent_MoeIdeal (hMoeIdeal := hMoeIdeal) (hPre_experts_named := hPre_experts_named)
    ∧ quiescent_MoeReferenceIdeal (hMoeReferenceIdeal := hMoeReferenceIdeal) (hPre_experts_named := hPre_experts_named)
    ∧ quiescent_Front (hFront := hFront)
    ∧ quiescent_FrontIdeal (hFrontIdeal := hFrontIdeal)
    ∧ quiescent_FrontReferenceIdeal (hFrontReferenceIdeal := hFrontReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Moe_MoeIdeal
    ∧ algebraic_MoeIdeal_MoeReferenceIdeal (hMoeIdeal := hMoeIdeal) (hMoeReferenceIdeal := hMoeReferenceIdeal) (hPre_experts_named := hPre_experts_named)
    ∧ preserves_Front_FrontIdeal
    ∧ algebraic_FrontIdeal_FrontReferenceIdeal (hFrontIdeal := hFrontIdeal) (hFrontReferenceIdeal := hFrontReferenceIdeal)
-- ==== Pre_experts_named.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S40 : S_.BroadcastsInDim S40 (![] : Fin 0 → Fin S40.rank)

variable [Facts]

def fn {F : FTy → Type} [FloatOps F] (main_arg0 : IVec S40 32) (main_arg1 : IVec S1 32) (main_arg2 : FVec F S40960x1024 .f32) (main_arg3 : FVec F S8x1024x3584 .f32) (main_arg4 : FVec F S8x1024x3584 .f32) (main_arg5 : FVec F S8x3584x1024 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 7#32
  let main_v2 : IVec S40 32 := broadcastInDim S40 ![] bcast_S_S40 main_c_0
  let main_v3 : IVec S40 1 := cmpi .sle main_arg0 main_v2
  let main_v4 : IVec S40 1 := andi main_v1 main_v3
  main_v4
-- ==== Kernel.lean ====
abbrev S1x16384x512 : Shape := ⟨3, ![1, 16384, 512]⟩
abbrev S1x16384x1024 : Shape := ⟨3, ![1, 16384, 1024]⟩
abbrev S1x16384x128 : Shape := ⟨3, ![1, 16384, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S8x1024 : Shape := ⟨2, ![8, 1024]⟩
abbrev S1 : Shape := ⟨1, ![1]⟩
abbrev S1x1024 : Shape := ⟨2, ![1, 1024]⟩
abbrev S1x128 : Shape := ⟨2, ![1, 128]⟩
abbrev S2 : Shape := ⟨1, ![2]⟩
abbrev S8x64 : Shape := ⟨2, ![8, 64]⟩
abbrev S1x512 : Shape := ⟨2, ![1, 512]⟩
abbrev S1x8x1024 : Shape := ⟨3, ![1, 8, 1024]⟩
abbrev S1x512x128 : Shape := ⟨3, ![1, 512, 128]⟩
abbrev S1x128x512 : Shape := ⟨3, ![1, 128, 512]⟩
abbrev S1x128x1024 : Shape := ⟨3, ![1, 128, 1024]⟩
abbrev S1x128x128 : Shape := ⟨3, ![1, 128, 128]⟩
abbrev S136x1024 : Shape := ⟨2, ![136, 1024]⟩
abbrev S128x512 : Shape := ⟨2, ![128, 512]⟩
abbrev S512x128 : Shape := ⟨2, ![512, 128]⟩
abbrev S128x1024 : Shape := ⟨2, ![128, 1024]⟩
abbrev S128x256 : Shape := ⟨2, ![128, 256]⟩
abbrev S128x128 : Shape := ⟨2, ![128, 128]⟩
abbrev S128x1 : Shape := ⟨2, ![128, 1]⟩
abbrev S1x256 : Shape := ⟨2, ![1, 256]⟩
abbrev S128 : Shape := ⟨1, ![128]⟩

abbrev nBuf : Space → Nat
  | .hbm => 44
  | .vmem => 20
  | .smem => 0
  | _ => 0

abbrev bufTy : (tb : Table) → Fin (tcTables nBuf tb) → BufTy
  | .hbm, ⟨0, _⟩ => ⟨S1x16384x512, .f32⟩
  | .hbm, ⟨1, _⟩ => ⟨S1x16384x1024, .f32⟩
  | .hbm, ⟨2, _⟩ => ⟨S1x16384x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S_, .f32⟩
  | .hbm, ⟨10, _⟩ => ⟨S8x1024, .f32⟩
  | .hbm, ⟨11, _⟩ => ⟨S_, .i32⟩
  | .hbm, ⟨12, _⟩ => ⟨S1, .i32⟩
  | .hbm, ⟨13, _⟩ => ⟨S8x1024, .f32⟩
  | .hbm, ⟨14, _⟩ => ⟨S1x1024, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S1x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S1x128, .f32⟩
  | .hbm, ⟨33, _⟩ => ⟨S8x64, .f32⟩
  | .hbm, ⟨34, _⟩ => ⟨S512, .f32⟩
  | .hbm, ⟨35, _⟩ => ⟨S1x512, .f32⟩
  | .hbm, ⟨36, _⟩ => ⟨S1x512, .f32⟩
  | .hbm, ⟨37, _⟩ => ⟨S_, .f32⟩
  | .hbm, ⟨38, _⟩ => ⟨S1x8x1024, .f32⟩
  | .hbm, ⟨39, _⟩ => ⟨S_, .f32⟩
  | .hbm, ⟨40, _⟩ => ⟨S1x512x128, .f32⟩
  | .hbm, ⟨41, _⟩ => ⟨S1x16384x512, .f32⟩
  | .hbm, ⟨42, _⟩ => ⟨S1x8x1024, .f32⟩
  | .hbm, ⟨43, _⟩ => ⟨S1x512x128, .f32⟩
  | .local _ .vmem, ⟨0, _⟩ => ⟨S1x128x512, .f32⟩
  | .local _ .vmem, ⟨1, _⟩ => ⟨S1x128x512, .f32⟩
  | .local _ .vmem, ⟨2, _⟩ => ⟨S1x128x1024, .f32⟩
  | .local _ .vmem, ⟨3, _⟩ => ⟨S1x128x1024, .f32⟩
  | .local _ .vmem, ⟨4, _⟩ => ⟨S1x128x128, .f32⟩
  | .local _ .vmem, ⟨5, _⟩ => ⟨S1x128x128, .f32⟩
  | .local _ .vmem, ⟨6, _⟩ => ⟨S1x8x1024, .f32⟩
  | .local _ .vmem, ⟨7, _⟩ => ⟨S1x512x128, .f32⟩
  | .local _ .vmem, ⟨8, _⟩ => ⟨S8x1024, .f32⟩
  | .local _ .vmem, ⟨9, _⟩ => ⟨S1x1024, .f32⟩
  | .local _ .vmem, ⟨10, _⟩ => ⟨S1x128, .f32⟩
  | .local _ .vmem, ⟨11, _⟩ => ⟨S1x128, .f32⟩
  | .local _ .vmem, ⟨12, _⟩ => ⟨S1x512, .f32⟩
  | .local _ .vmem, ⟨13, _⟩ => ⟨S1x512, .f32⟩
  | .local _ .vmem, ⟨14, _⟩ => ⟨S1x128x512, .f32⟩
  | .local _ .vmem, ⟨15, _⟩ => ⟨S1x128x512, .f32⟩
  | .local _ .vmem, ⟨16, _⟩ => ⟨S1x8x1024, .f32⟩
  | .local _ .vmem, ⟨17, _⟩ => ⟨S1x512x128, .f32⟩
  | .local _ .vmem, ⟨18, _⟩ => ⟨S136x1024, .f32⟩
  | .local _ .vmem, ⟨19, _⟩ => ⟨S128x512, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_c_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_cst_7 : Ref sig .tc := ⟨.hbm, 39, rfl⟩
abbrev main_v21 : Ref sig .tc := ⟨.hbm, 40, rfl⟩
abbrev main_v22_0 : Ref sig .tc := ⟨.hbm, 41, rfl⟩
abbrev main_v22_1 : Ref sig .tc := ⟨.hbm, 42, rfl⟩
abbrev main_v22_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨2, ![1, 128], ![false, false]⟩

def k0_cond2 (i : grid0.Coords) : BitVec 1 :=
  let arg1 : BitVec 32 := BitVec.ofNat 32 (i 1).val
  let c127_i32_87 : BitVec 32 := 127#32
  let v372 : BitVec 1 := Scalar.cmpi .eq arg1 c127_i32_87
  let v373 : BitVec 32 := Scalar.extui v372
  let c0_i32_88 : BitVec 32 := 0#32
  let v374 : BitVec 1 := Scalar.cmpi .ne v373 c0_i32_88
  v374

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S1x512x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S1x16384x512 : Shape := ⟨3, ![1, 16384, 512]⟩
abbrev S1x16384x1024 : Shape := ⟨3, ![1, 16384, 1024]⟩
abbrev S1x16384x128 : Shape := ⟨3, ![1, 16384, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S1x3x1024 : Shape := ⟨3, ![1, 3, 1024]⟩
abbrev S1x8x64x128 : Shape := ⟨4, ![1, 8, 64, 128]⟩
abbrev S1x16384x8 : Shape := ⟨3, ![1, 16384, 8]⟩
abbrev S1x16387x1024 : Shape := ⟨3, ![1, 16387, 1024]⟩
abbrev S1x1024 : Shape := ⟨2, ![1, 1024]⟩
abbrev S1x1x1024 : Shape := ⟨3, ![1, 1, 1024]⟩
abbrev S1x16384x8x64 : Shape := ⟨4, ![1, 16384, 8, 64]⟩
abbrev S1x16384x256 : Shape := ⟨3, ![1, 16384, 256]⟩
abbrev S1x16384x2x128 : Shape := ⟨4, ![1, 16384, 2, 128]⟩
abbrev S1x1x8 : Shape := ⟨3, ![1, 1, 8]⟩
abbrev S1x128x128x2x4x64 : Shape := ⟨6, ![1, 128, 128, 2, 4, 64]⟩
abbrev S1x128x128x2x4 : Shape := ⟨5, ![1, 128, 128, 2, 4]⟩
abbrev S1x128x128x2x128 : Shape := ⟨5, ![1, 128, 128, 2, 128]⟩
abbrev S1x2x4x64x128 : Shape := ⟨5, ![1, 2, 4, 64, 128]⟩
abbrev S128x1x128x2x4x64 : Shape := ⟨6, ![128, 1, 128, 2, 4, 64]⟩
abbrev S128x1x128x2x4 : Shape := ⟨5, ![128, 1, 128, 2, 4]⟩
abbrev S128x1x128x2x128 : Shape := ⟨5, ![128, 1, 128, 2, 128]⟩
abbrev S1x1x128x2x4x64 : Shape := ⟨6, ![1, 1, 128, 2, 4, 64]⟩
abbrev S1x128x2x4x64 : Shape := ⟨5, ![1, 128, 2, 4, 64]⟩
abbrev S1x1x128x2x4 : Shape := ⟨5, ![1, 1, 128, 2, 4]⟩
abbrev S1x128x2x4 : Shape := ⟨4, ![1, 128, 2, 4]⟩
abbrev S1x1x128x2x128 : Shape := ⟨5, ![1, 1, 128, 2, 128]⟩
abbrev S1x128x2x128 : Shape := ⟨4, ![1, 128, 2, 128]⟩
abbrev S2x4 : Shape := ⟨2, ![2, 4]⟩
abbrev S1x1x2x4 : Shape := ⟨4, ![1, 1, 2, 4]⟩
abbrev S128x128 : Shape := ⟨2, ![128, 128]⟩
abbrev S1x128x128x1x1 : Shape := ⟨5, ![1, 128, 128, 1, 1]⟩
abbrev S1x128x1x2x4 : Shape := ⟨5, ![1, 128, 1, 2, 4]⟩
abbrev S1x2x128x128 : Shape := ⟨4, ![1, 2, 128, 128]⟩
abbrev S1x128x128x2 : Shape := ⟨4, ![1, 128, 128, 2]⟩
abbrev S1x128x2x4x1 : Shape := ⟨5, ![1, 128, 2, 4, 1]⟩
abbrev S1x128x128x2x1 : Shape := ⟨5, ![1, 128, 128, 2, 1]⟩
abbrev S1x2x4 : Shape := ⟨3, ![1, 2, 4]⟩
abbrev S2x4x1 : Shape := ⟨3, ![2, 4, 1]⟩
abbrev S1x1x2x4x1 : Shape := ⟨5, ![1, 1, 2, 4, 1]⟩
abbrev S1x2x4x1x1 : Shape := ⟨5, ![1, 2, 4, 1, 1]⟩
abbrev S1x16384 : Shape := ⟨2, ![1, 16384]⟩
abbrev S1x16384x1 : Shape := ⟨3, ![1, 16384, 1]⟩
abbrev S1x1x512 : Shape := ⟨3, ![1, 1, 512]⟩
abbrev S1x8x1024 : Shape := ⟨3, ![1, 8, 1024]⟩
abbrev S1x512x128 : Shape := ⟨3, ![1, 512, 128]⟩

abbrev nBuf : Space → Nat
  | .hbm => 236
  | .vmem => 0
  | .smem => 0
  | _ => 0

abbrev hbmTy0_0 (i : Nat) : BufTy := match i % 128 with
  | 0 => ⟨S1x16384x512, .f32⟩
  | 1 => ⟨S1x16384x1024, .f32⟩
  | 2 => ⟨S1x16384x128, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S_, .f32⟩
  | 10 => ⟨S1x3x1024, .f32⟩
  | 11 => ⟨S_, .f32⟩
  | 12 => ⟨S1x8x64x128, .f32⟩
  | 13 => ⟨S1x16384x8, .f32⟩
  | 14 => ⟨S1x16387x1024, .f32⟩
  | 15 => ⟨S1x16384x1024, .f32⟩
  | 16 => ⟨S1x1024, .f32⟩
  | 17 => ⟨S1024, .f32⟩
  | 18 => ⟨S1x1x1024, .f32⟩
  | 19 => ⟨S1x16384x1024, .f32⟩
  | 20 => ⟨S1x16384x1024, .f32⟩
  | 21 => ⟨S1x1x1024, .f32⟩
  | 22 => ⟨S1x16384x1024, .f32⟩
  | 23 => ⟨S1x16384x1024, .f32⟩
  | 24 => ⟨S1x16384x1024, .f32⟩
  | 25 => ⟨S1x1024, .f32⟩
  | 26 => ⟨S1024, .f32⟩
  | 27 => ⟨S1x1x1024, .f32⟩
  | 28 => ⟨S1x16384x1024, .f32⟩
  | 29 => ⟨S1x16384x1024, .f32⟩
  | 30 => ⟨S1x16384x1024, .f32⟩
  | 31 => ⟨S1x16384x1024, .f32⟩
  | 32 => ⟨S1x1024, .f32⟩
  | 33 => ⟨S1024, .f32⟩
  | 34 => ⟨S1x1x1024, .f32⟩
  | 35 => ⟨S1x16384x1024, .f32⟩
  | 36 => ⟨S1x16384x1024, .f32⟩
  | 37 => ⟨S1x16384x1024, .f32⟩
  | 38 => ⟨S1x16384x1024, .f32⟩
  | 39 => ⟨S1x1024, .f32⟩
  | 40 => ⟨S1024, .f32⟩
  | 41 => ⟨S1x1x1024, .f32⟩
  | 42 => ⟨S1x16384x1024, .f32⟩
  | 43 => ⟨S1x16384x1024, .f32⟩
  | 44 => ⟨S1x16384x1024, .f32⟩
  | 45 => ⟨S1x16384x1024, .f32⟩
  | 46 => ⟨S1x16384x1024, .f32⟩
  | 47 => ⟨S_, .f32⟩
  | 48 => ⟨S1x16384x1024, .f32⟩
  | 49 => ⟨S1x16384x1024, .f32⟩
  | 50 => ⟨S_, .f32⟩
  | 51 => ⟨S1x16384x1024, .f32⟩
  | 52 => ⟨S1x16384x1024, .f32⟩
  | 53 => ⟨S1x16384x1024, .f32⟩
  | 54 => ⟨S1x3x1024, .f32⟩
  | 55 => ⟨S1x16384x512, .f32⟩
  | 56 => ⟨S1x16384x8x64, .f32⟩
  | 57 => ⟨S1x16384x256, .f32⟩
  | 58 => ⟨S1x16384x2x128, .f32⟩
  | 59 => ⟨S1x16384x256, .f32⟩
  | 60 => ⟨S1x16384x2x128, .f32⟩
  | 61 => ⟨S1x1x8, .f32⟩
  | 62 => ⟨S1x16384x8, .f32⟩
  | 63 => ⟨S1x16384x8, .f32⟩
  | 64 => ⟨S_, .f32⟩
  | 65 => ⟨S1x16384x8, .f32⟩
  | 66 => ⟨S1x16384x8, .f32⟩
  | 67 => ⟨S1x16384x8, .f32⟩
  | 68 => ⟨S1x16384x8, .f32⟩
  | 69 => ⟨S1x16384x8, .i1⟩
  | 70 => ⟨S1x16384x8, .f32⟩
  | 71 => ⟨S1x16384x8, .f32⟩
  | 72 => ⟨S1x16384x8, .f32⟩
  | 73 => ⟨S1x16384x8, .f32⟩
  | 74 => ⟨S1x16384x8, .f32⟩
  | 75 => ⟨S1x16384x8, .f32⟩
  | 76 => ⟨S1x16384x8, .f32⟩
  | 77 => ⟨S1x16384x8, .f32⟩
  | 78 => ⟨S8, .f32⟩
  | 79 => ⟨S8, .f32⟩
  | 80 => ⟨S1x128x128x2x4x64, .f32⟩
  | 81 => ⟨S1x128x128x2x4, .f32⟩
  | 82 => ⟨S1x128x128x2x128, .f32⟩
  | 83 => ⟨S1x128x128x2x128, .f32⟩
  | 84 => ⟨S1x2x4x64x128, .f32⟩
  | 85 => ⟨S128x1x128x2x4x64, .f32⟩
  | 86 => ⟨S128x1x128x2x4, .f32⟩
  | 87 => ⟨S128x1x128x2x128, .f32⟩
  | 88 => ⟨S128x1x128x2x128, .f32⟩
  | 89 => ⟨S_, .f32⟩
  | 90 => ⟨S128x1x128x2x4x64, .f32⟩
  | 91 => ⟨S_, .i32⟩
  | 92 => ⟨S128x1x128x2x4x64, .f32⟩
  | 93 => ⟨S128x1x128x2x4, .f32⟩
  | 94 => ⟨S128x1x128x2x128, .f32⟩
  | 95 => ⟨S128x1x128x2x128, .f32⟩
  | 96 => ⟨S8, .f32⟩
  | 97 => ⟨S8, .f32⟩
  | 98 => ⟨S_, .i32⟩
  | 99 => ⟨S1x2x4x64x128, .f32⟩
  | 100 => ⟨S128x1x128x2x4x64, .f32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S1x1x128x2x4x64, .f32⟩
  | 109 => ⟨S1x128x2x4x64, .f32⟩
  | 110 => ⟨S_, .i32⟩
  | 111 => ⟨S_, .i32⟩
  | 112 => ⟨S_, .i32⟩
  | 113 => ⟨S_, .i32⟩
  | 114 => ⟨S1x1x128x2x4, .f32⟩
  | 115 => ⟨S1x128x2x4, .f32⟩
  | 116 => ⟨S_, .i32⟩
  | 117 => ⟨S_, .i32⟩
  | 118 => ⟨S_, .i32⟩
  | 119 => ⟨S_, .i32⟩
  | 120 => ⟨S1x1x128x2x128, .f32⟩
  | 121 => ⟨S1x128x2x128, .f32⟩
  | 122 => ⟨S_, .i32⟩
  | 123 => ⟨S_, .i32⟩
  | 124 => ⟨S_, .i32⟩
  | 125 => ⟨S_, .i32⟩
  | 126 => ⟨S1x1x128x2x128, .f32⟩
  | 127 => ⟨S1x128x2x128, .f32⟩
  | _ => ⟨S1x16384x512, .f32⟩

abbrev hbmTy0_1 (i : Nat) : BufTy := match i % 128 with
  | 0 => ⟨S2x4, .f32⟩
  | 1 => ⟨S2x4, .f32⟩
  | 2 => ⟨S1x1x2x4, .f32⟩
  | 3 => ⟨S1x128x2x4, .f32⟩
  | 4 => ⟨S1x128x2x4, .f32⟩
  | 5 => ⟨S_, .f32⟩
  | 6 => ⟨S_, .f32⟩
  | 7 => ⟨S1x128x2x4, .f32⟩
  | 8 => ⟨S_, .i1⟩
  | 9 => ⟨S128x128, .i1⟩
  | 10 => ⟨S128x128, .i32⟩
  | 11 => ⟨S_, .i32⟩
  | 12 => ⟨S128x128, .i32⟩
  | 13 => ⟨S128x128, .i32⟩
  | 14 => ⟨S128x128, .i32⟩
  | 15 => ⟨S128x128, .i1⟩
  | 16 => ⟨S_, .i1⟩
  | 17 => ⟨S128x128, .i1⟩
  | 18 => ⟨S128x128, .i1⟩
  | 19 => ⟨S1x128x128x1x1, .i1⟩
  | 20 => ⟨S1x128x1x2x4, .f32⟩
  | 21 => ⟨S1x1x128x2x4, .f32⟩
  | 22 => ⟨S1x128x128x2x4, .f32⟩
  | 23 => ⟨S1x128x128x2x4, .f32⟩
  | 24 => ⟨S1x128x128x2x4, .f32⟩
  | 25 => ⟨S_, .f32⟩
  | 26 => ⟨S1x128x128x2x4, .i1⟩
  | 27 => ⟨S1x128x128x2x4, .f32⟩
  | 28 => ⟨S1x128x128x2x4, .f32⟩
  | 29 => ⟨S1x128x128x2x4, .f32⟩
  | 30 => ⟨S1x2x128x128, .f32⟩
  | 31 => ⟨S1x128x128x2, .f32⟩
  | 32 => ⟨S1x128x2x4x1, .f32⟩
  | 33 => ⟨S1x128x2x4x64, .f32⟩
  | 34 => ⟨S1x128x2x4x64, .f32⟩
  | 35 => ⟨S1x128x128x2x1, .f32⟩
  | 36 => ⟨S1x128x128x2x4, .f32⟩
  | 37 => ⟨S1x128x128x2x4, .f32⟩
  | 38 => ⟨S1x2x4x64x128, .f32⟩
  | 39 => ⟨S1x128x2x4x64, .f32⟩
  | 40 => ⟨S1x2x4x64x128, .f32⟩
  | 41 => ⟨S1x128x2x4x64, .f32⟩
  | 42 => ⟨S1x128x2x4, .f32⟩
  | 43 => ⟨S1x128x2x4x1, .f32⟩
  | 44 => ⟨S1x128x2x4x64, .f32⟩
  | 45 => ⟨S1x128x2x4x64, .f32⟩
  | 46 => ⟨S1x1x2x4, .f32⟩
  | 47 => ⟨S1x128x2x4, .f32⟩
  | 48 => ⟨S1x128x2x4, .f32⟩
  | 49 => ⟨S1x128x2x4, .f32⟩
  | 50 => ⟨S1x128x2x4x1, .f32⟩
  | 51 => ⟨S1x128x2x4x64, .f32⟩
  | 52 => ⟨S1x128x2x4x64, .f32⟩
  | 53 => ⟨S1x2x4x64x128, .f32⟩
  | 54 => ⟨S1x1x2x4, .f32⟩
  | 55 => ⟨S1x2x4, .f32⟩
  | 56 => ⟨S1x2x4, .f32⟩
  | 57 => ⟨S1x128x2x4x64, .f32⟩
  | 58 => ⟨S2x4x1, .f32⟩
  | 59 => ⟨S1x1x2x4x1, .f32⟩
  | 60 => ⟨S1x128x2x4x64, .f32⟩
  | 61 => ⟨S1x128x2x4x64, .f32⟩
  | 62 => ⟨S1x128x2x4x64, .f32⟩
  | 63 => ⟨S1x2x4x1x1, .f32⟩
  | 64 => ⟨S1x2x4x64x128, .f32⟩
  | 65 => ⟨S1x2x4x64x128, .f32⟩
  | 66 => ⟨S1x2x4x64x128, .f32⟩
  | 67 => ⟨S1x1x128x2x4x64, .f32⟩
  | 68 => ⟨S_, .i32⟩
  | 69 => ⟨S_, .i32⟩
  | 70 => ⟨S_, .i32⟩
  | 71 => ⟨S_, .i32⟩
  | 72 => ⟨S_, .i32⟩
  | 73 => ⟨S128x1x128x2x4x64, .f32⟩
  | 74 => ⟨S_, .i32⟩
  | 75 => ⟨S_, .i32⟩
  | 76 => ⟨S1x128x128x2x4x64, .f32⟩
  | 77 => ⟨S1x16384x8x64, .f32⟩
  | 78 => ⟨S1x8x64x128, .f32⟩
  | 79 => ⟨S1x16384x512, .f32⟩
  | 80 => ⟨S1x16384x512, .f32⟩
  | 81 => ⟨S1x16384x512, .f32⟩
  | 82 => ⟨S_, .f32⟩
  | 83 => ⟨S1x16384x512, .f32⟩
  | 84 => ⟨S1x16384x512, .f32⟩
  | 85 => ⟨S_, .f32⟩
  | 86 => ⟨S1x16384x512, .f32⟩
  | 87 => ⟨S1x16384x512, .f32⟩
  | 88 => ⟨S1x16384x512, .f32⟩
  | 89 => ⟨S1x16384x512, .f32⟩
  | 90 => ⟨S1x16384x512, .f32⟩
  | 91 => ⟨S_, .f32⟩
  | 92 => ⟨S1x16384, .f32⟩
  | 93 => ⟨S1x16384x1, .f32⟩
  | 94 => ⟨S_, .f32⟩
  | 95 => ⟨S1x16384x1, .f32⟩
  | 96 => ⟨S1x16384x1, .f32⟩
  | 97 => ⟨S_, .f32⟩
  | 98 => ⟨S1x16384x1, .f32⟩
  | 99 => ⟨S1x16384x1, .f32⟩
  | 100 => ⟨S1x16384x1, .f32⟩
  | 101 => ⟨S1x16384x512, .f32⟩
  | 102 => ⟨S1x16384x512, .f32⟩
  | 103 => ⟨S1x1x512, .f32⟩
  | 104 => ⟨S1x16384x512, .f32⟩
  | 105 => ⟨S1x16384x512, .f32⟩
  | 106 => ⟨S1x8x1024, .f32⟩
  | 107 => ⟨S1x512x128, .f32⟩
  | _ => ⟨S1x16384x512, .f32⟩

abbrev hbmTy (i : Nat) : BufTy := match i / 128 with
  | 0 => hbmTy0_0 i
  | 1 => hbmTy0_1 i
  | _ => ⟨S1x16384x512, .f32⟩

abbrev bufTy : (tb : Table) → Fin (tcTables nBuf tb) → BufTy
  | .hbm, ⟨i, _⟩ => hbmTy i
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_1 : Ref sig .tc := ⟨.hbm, 89, rfl⟩
abbrev main_v57 : Ref sig .tc := ⟨.hbm, 90, rfl⟩
abbrev main_c : Ref sig .tc := ⟨.hbm, 91, rfl⟩
abbrev main_v58_0 : Ref sig .tc := ⟨.hbm, 92, rfl⟩
abbrev main_v58_1 : Ref sig .tc := ⟨.hbm, 93, rfl⟩
abbrev main_v58_2 : Ref sig .tc := ⟨.hbm, 94, rfl⟩
abbrev main_v58_3 : Ref sig .tc := ⟨.hbm, 95, rfl⟩
abbrev main_v58_4 : Ref sig .tc := ⟨.hbm, 96, rfl⟩
abbrev main_v58_5 : Ref sig .tc := ⟨.hbm, 97, rfl⟩
abbrev main_v58_6 : Ref sig .tc := ⟨.hbm, 98, rfl⟩
abbrev main_v58_7 : Ref sig .tc := ⟨.hbm, 99, rfl⟩
abbrev main_v58_8 : Ref sig .tc := ⟨.hbm, 100, rfl⟩
abbrev main_while0c_c_13 : Ref sig .tc := ⟨.hbm, 101, rfl⟩
abbrev main_while0c_v80 : Ref sig .tc := ⟨.hbm, 102, rfl⟩
abbrev main_while0b_call2_c : Ref sig .tc := ⟨.hbm, 103, rfl⟩
abbrev main_while0b_call2_c_0 : Ref sig .tc := ⟨.hbm, 104, rfl⟩
abbrev main_while0b_call2_c_1 : Ref sig .tc := ⟨.hbm, 105, rfl⟩
abbrev main_while0b_call2_c_2 : Ref sig .tc := ⟨.hbm, 106, rfl⟩
abbrev main_while0b_call2_c_3 : Ref sig .tc := ⟨.hbm, 107, rfl⟩
abbrev main_while0b_call2_v0 : Ref sig .tc := ⟨.hbm, 108, rfl⟩
abbrev main_while0b_v80 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_call3_c_2 : Ref sig .tc := ⟨.hbm, 113, rfl⟩
abbrev main_while0b_call3_v0 : Ref sig .tc := ⟨.hbm, 114, rfl⟩
abbrev main_while0b_v81 : Ref sig .tc := ⟨.hbm, 115, rfl⟩
abbrev main_while0b_call4_c : Ref sig .tc := ⟨.hbm, 116, rfl⟩
abbrev main_while0b_call4_c_0 : Ref sig .tc := ⟨.hbm, 117, rfl⟩
abbrev main_while0b_call4_c_1 : Ref sig .tc := ⟨.hbm, 118, rfl⟩
abbrev main_while0b_call4_c_2 : Ref sig .tc := ⟨.hbm, 119, rfl⟩
abbrev main_while0b_call4_v0 : Ref sig .tc := ⟨.hbm, 120, rfl⟩
abbrev main_while0b_v82 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_c_1 : Ref sig .tc := ⟨.hbm, 124, rfl⟩
abbrev main_while0b_call5_c_2 : Ref sig .tc := ⟨.hbm, 125, rfl⟩
abbrev main_while0b_call5_v0 : Ref sig .tc := ⟨.hbm, 126, rfl⟩
abbrev main_while0b_v83 : Ref sig .tc := ⟨.hbm, 127, rfl⟩
abbrev main_while0b_v84 : Ref sig .tc := ⟨.hbm, 128, rfl⟩
abbrev main_while0b_v85 : Ref sig .tc := ⟨.hbm, 129, rfl⟩
abbrev main_while0b_v86 : Ref sig .tc := ⟨.hbm, 130, rfl⟩
abbrev main_while0b_v87 : Ref sig .tc := ⟨.hbm, 131, rfl⟩
abbrev main_while0b_v88 : Ref sig .tc := ⟨.hbm, 132, rfl⟩
abbrev main_while0b_call6_call0_cst : Ref sig .tc := ⟨.hbm, 133, rfl⟩
abbrev main_while0b_call6_call0_v0 : Ref sig .tc := ⟨.hbm, 134, rfl⟩
abbrev main_while0b_v89 : Ref sig .tc := ⟨.hbm, 135, rfl⟩
abbrev main_while0b_c_13 : Ref sig .tc := ⟨.hbm, 136, rfl⟩
abbrev main_while0b_v90 : Ref sig .tc := ⟨.hbm, 137, rfl⟩
abbrev main_while0b_call7_v0 : Ref sig .tc := ⟨.hbm, 138, rfl⟩
abbrev main_while0b_call7_c : Ref sig .tc := ⟨.hbm, 139, rfl⟩
abbrev main_while0b_call7_v1 : Ref sig .tc := ⟨.hbm, 140, rfl⟩
abbrev main_while0b_call7_v2 : Ref sig .tc := ⟨.hbm, 141, rfl⟩
abbrev main_while0b_call7_v3 : Ref sig .tc := ⟨.hbm, 142, rfl⟩
abbrev main_while0b_call7_v4 : Ref sig .tc := ⟨.hbm, 143, rfl⟩
abbrev main_while0b_call7_c_0 : Ref sig .tc := ⟨.hbm, 144, rfl⟩
abbrev main_while0b_call7_v5 : Ref sig .tc := ⟨.hbm, 145, rfl⟩
abbrev main_while0b_v91 : Ref sig .tc := ⟨.hbm, 146, rfl⟩
abbrev main_while0b_v92 : Ref sig .tc := ⟨.hbm, 147, rfl⟩
abbrev main_while0b_v93 : Ref sig .tc := ⟨.hbm, 148, rfl⟩
abbrev main_while0b_v94 : Ref sig .tc := ⟨.hbm, 149, rfl⟩
abbrev main_while0b_v95 : Ref sig .tc := ⟨.hbm, 150, rfl⟩
abbrev main_while0b_v96 : Ref sig .tc := ⟨.hbm, 151, rfl⟩
abbrev main_while0b_v97 : Ref sig .tc := ⟨.hbm, 152, rfl⟩
abbrev main_while0b_cst_14 : Ref sig .tc := ⟨.hbm, 153, rfl⟩
abbrev main_while0b_call8_v0 : Ref sig .tc := ⟨.hbm, 154, rfl⟩
abbrev main_while0b_call8_v1 : Ref sig .tc := ⟨.hbm, 155, rfl⟩
abbrev main_while0b_v98 : Ref sig .tc := ⟨.hbm, 156, rfl⟩
abbrev main_while0b_v99 : Ref sig .tc := ⟨.hbm, 157, rfl⟩
abbrev main_while0b_v100 : Ref sig .tc := ⟨.hbm, 158, rfl⟩
abbrev main_while0b_v101 : Ref sig .tc := ⟨.hbm, 159, rfl⟩
abbrev main_while0b_v102 : Ref sig .tc := ⟨.hbm, 160, rfl⟩
abbrev main_while0b_v103 : Ref sig .tc := ⟨.hbm, 161, rfl⟩
abbrev main_while0b_v104 : Ref sig .tc := ⟨.hbm, 162, rfl⟩
abbrev main_while0b_v105 : Ref sig .tc := ⟨.hbm, 163, rfl⟩
abbrev main_while0b_v106 : Ref sig .tc := ⟨.hbm, 164, rfl⟩
abbrev main_while0b_v107 : Ref sig .tc := ⟨.hbm, 165, rfl⟩
abbrev main_while0b_v108 : Ref sig .tc := ⟨.hbm, 166, rfl⟩
abbrev main_while0b_v109 : Ref sig .tc := ⟨.hbm, 167, rfl⟩
abbrev main_while0b_v110 : Ref sig .tc := ⟨.hbm, 168, rfl⟩
abbrev main_while0b_v111 : Ref sig .tc := ⟨.hbm, 169, rfl⟩
abbrev main_while0b_v112 : Ref sig .tc := ⟨.hbm, 170, rfl⟩
abbrev main_while0b_v113 : Ref sig .tc := ⟨.hbm, 171, rfl⟩
abbrev main_while0b_v114 : Ref sig .tc := ⟨.hbm, 172, rfl⟩
abbrev main_while0b_v115 : Ref sig .tc := ⟨.hbm, 173, rfl⟩
abbrev main_while0b_v116 : Ref sig .tc := ⟨.hbm, 174, rfl⟩
abbrev main_while0b_v117 : Ref sig .tc := ⟨.hbm, 175, rfl⟩
abbrev main_while0b_v118 : Ref sig .tc := ⟨.hbm, 176, rfl⟩
abbrev main_while0b_v119 : Ref sig .tc := ⟨.hbm, 177, rfl⟩
abbrev main_while0b_v120 : Ref sig .tc := ⟨.hbm, 178, rfl⟩
abbrev main_while0b_v121 : Ref sig .tc := ⟨.hbm, 179, rfl⟩
abbrev main_while0b_v122 : Ref sig .tc := ⟨.hbm, 180, rfl⟩
abbrev main_while0b_v123 : Ref sig .tc := ⟨.hbm, 181, rfl⟩
abbrev main_while0b_v124 : Ref sig .tc := ⟨.hbm, 182, rfl⟩
abbrev main_while0b_v125 : Ref sig .tc := ⟨.hbm, 183, rfl⟩
abbrev main_while0b_v126 : Ref sig .tc := ⟨.hbm, 184, rfl⟩
abbrev main_while0b_v127 : Ref sig .tc := ⟨.hbm, 185, rfl⟩
abbrev main_while0b_v128 : Ref sig .tc := ⟨.hbm, 186, rfl⟩
abbrev main_while0b_v129 : Ref sig .tc := ⟨.hbm, 187, rfl⟩
abbrev main_while0b_v130 : Ref sig .tc := ⟨.hbm, 188, rfl⟩
abbrev main_while0b_v131 : Ref sig .tc := ⟨.hbm, 189, rfl⟩
abbrev main_while0b_v132 : Ref sig .tc := ⟨.hbm, 190, rfl⟩
abbrev main_while0b_v133 : Ref sig .tc := ⟨.hbm, 191, rfl⟩
abbrev main_while0b_v134 : Ref sig .tc := ⟨.hbm, 192, rfl⟩
abbrev main_while0b_v135 : Ref sig .tc := ⟨.hbm, 193, rfl⟩
abbrev main_while0b_v136 : Ref sig .tc := ⟨.hbm, 194, rfl⟩
abbrev main_while0b_call9_v0 : Ref sig .tc := ⟨.hbm, 195, rfl⟩
abbrev main_while0b_call9_c : Ref sig .tc := ⟨.hbm, 196, rfl⟩
abbrev main_while0b_call9_c_0 : Ref sig .tc := ⟨.hbm, 197, rfl⟩
abbrev main_while0b_call9_c_1 : Ref sig .tc := ⟨.hbm, 198, rfl⟩
abbrev main_while0b_call9_c_2 : Ref sig .tc := ⟨.hbm, 199, rfl⟩
abbrev main_while0b_call9_c_3 : Ref sig .tc := ⟨.hbm, 200, rfl⟩
abbrev main_while0b_v137 : Ref sig .tc := ⟨.hbm, 201, rfl⟩
abbrev main_while0b_c_15 : Ref sig .tc := ⟨.hbm, 202, rfl⟩
abbrev main_while0b_v138 : Ref sig .tc := ⟨.hbm, 203, rfl⟩
abbrev main_v59 : Ref sig .tc := ⟨.hbm, 204, rfl⟩
abbrev main_v60 : Ref sig .tc := ⟨.hbm, 205, rfl⟩
abbrev main_v61 : Ref sig .tc := ⟨.hbm, 206, rfl⟩
abbrev main_v62 : Ref sig .tc := ⟨.hbm, 207, rfl⟩
abbrev main_call10_v0 : Ref sig .tc := ⟨.hbm, 208, rfl⟩
abbrev main_call10_v1 : Ref sig .tc := ⟨.hbm, 209, rfl⟩
abbrev main_call10_cst : Ref sig .tc := ⟨.hbm, 210, rfl⟩
abbrev main_call10_v2 : Ref sig .tc := ⟨.hbm, 211, rfl⟩
abbrev main_call10_v3 : Ref sig .tc := ⟨.hbm, 212, rfl⟩
abbrev main_call10_cst_0 : Ref sig .tc := ⟨.hbm, 213, rfl⟩
abbrev main_call10_v4 : Ref sig .tc := ⟨.hbm, 214, rfl⟩
abbrev main_call10_v5 : Ref sig .tc := ⟨.hbm, 215, rfl⟩
abbrev main_v63 : Ref sig .tc := ⟨.hbm, 216, rfl⟩
abbrev main_v64 : Ref sig .tc := ⟨.hbm, 217, rfl⟩
abbrev main_v65 : Ref sig .tc := ⟨.hbm, 218, rfl⟩
abbrev main_cst_2 : Ref sig .tc := ⟨.hbm, 219, rfl⟩
abbrev main_v66 : Ref sig .tc := ⟨.hbm, 220, rfl⟩
abbrev main_v67 : Ref sig .tc := ⟨.hbm, 221, rfl⟩
abbrev main_cst_3 : Ref sig .tc := ⟨.hbm, 222, rfl⟩
abbrev main_v68 : Ref sig .tc := ⟨.hbm, 223, rfl⟩
abbrev main_v69 : Ref sig .tc := ⟨.hbm, 224, rfl⟩
abbrev main_cst_4 : Ref sig .tc := ⟨.hbm, 225, rfl⟩
abbrev main_v70 : Ref sig .tc := ⟨.hbm, 226, rfl⟩
abbrev main_v71 : Ref sig .tc := ⟨.hbm, 227, rfl⟩
abbrev main_v72 : Ref sig .tc := ⟨.hbm, 228, rfl⟩
abbrev main_v73 : Ref sig .tc := ⟨.hbm, 229, rfl⟩
abbrev main_v74 : Ref sig .tc := ⟨.hbm, 230, rfl⟩
abbrev main_v75 : Ref sig .tc := ⟨.hbm, 231, rfl⟩
abbrev main_v76 : Ref sig .tc := ⟨.hbm, 232, rfl⟩
abbrev main_v77 : Ref sig .tc := ⟨.hbm, 233, rfl⟩
abbrev main_v78 : Ref sig .tc := ⟨.hbm, 234, rfl⟩
abbrev main_v79 : Ref sig .tc := ⟨.hbm, 235, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S16384x1024 : Shape := ⟨2, ![16384, 1024]⟩
abbrev S1024x2816 : Shape := ⟨2, ![1024, 2816]⟩
abbrev S2816x1024 : Shape := ⟨2, ![2816, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Moe.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S1024x1024 : Shape := ⟨2, ![1024, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 5
  | .vmem => 11
  | .smem => 2
  | _ => 0

abbrev bufTy : (tb : Table) → Fin (tcTables nBuf tb) → BufTy
  | .hbm, ⟨0, _⟩ => ⟨S40960x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S40960x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .smem, ⟨0, _⟩ => ⟨S40, .i32⟩
  | .local _ .smem, ⟨1, _⟩ => ⟨S1, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S40.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeReferenceIdeal.lean ====
abbrev S40 : Shape := ⟨1, ![40]⟩
abbrev S1 : Shape := ⟨1, ![1]⟩
abbrev S40960x1024 : Shape := ⟨2, ![40960, 1024]⟩
abbrev S8x1024x3584 : Shape := ⟨3, ![8, 1024, 3584]⟩
abbrev S8x3584x1024 : Shape := ⟨3, ![8, 3584, 1024]⟩
abbrev S40x1024x1024 : Shape := ⟨3, ![40, 1024, 1024]⟩
abbrev S_ : Shape := ⟨0, ![]⟩
abbrev S40x1 : Shape := ⟨2, ![40, 1]⟩
abbrev S40x1024x3584 : Shape := ⟨3, ![40, 1024, 3584]⟩
abbrev S40x3584x1024 : Shape := ⟨3, ![40, 3584, 1024]⟩
abbrev S40x1x1 : Shape := ⟨3, ![40, 1, 1]⟩

abbrev nBuf : Space → Nat
  | .hbm => 58
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S40960x1024, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S40x1024x1024, .f32⟩
  | .hbm, ⟨7, _⟩ => ⟨S_, .i32⟩
  | .hbm, ⟨8, _⟩ => ⟨S40, .i32⟩
  | .hbm, ⟨9, _⟩ => ⟨S40, .i1⟩
  | .hbm, ⟨10, _⟩ => ⟨S_, .i32⟩
  | .hbm, ⟨11, _⟩ => ⟨S40, .i32⟩
  | .hbm, ⟨12, _⟩ => ⟨S40, .i32⟩
  | .hbm, ⟨13, _⟩ => ⟨S40, .i32⟩
  | .hbm, ⟨14, _⟩ => ⟨S40x1, .i32⟩
  | .hbm, ⟨15, _⟩ => ⟨S40x1024x3584, .f32⟩
  | .hbm, ⟨16, _⟩ => ⟨S_, .i32⟩
  | .hbm, ⟨17, _⟩ => ⟨S40, .i32⟩
  | .hbm, ⟨18, _⟩ => ⟨S40, .i1⟩
  | .hbm, ⟨19, _⟩ => ⟨S_, .i32⟩
  | .hbm, ⟨20, _⟩ => ⟨S40, .i32⟩
  | .hbm, ⟨21, _⟩ => ⟨S40, .i32⟩
  | .hbm, ⟨22, _⟩ => ⟨S40, .i32⟩
  | .hbm, ⟨23, _⟩ => ⟨S40x1, .i32⟩
  | .hbm, ⟨24, _⟩ => ⟨S40x1024x3584, .f32⟩
  | .hbm, ⟨25, _⟩ => ⟨S_, .i32⟩
  | .hbm, ⟨26, _⟩ => ⟨S40, .i32⟩
  | .hbm, ⟨27, _⟩ => ⟨S40, .i1⟩
  | .hbm, ⟨28, _⟩ => ⟨S_, .i32⟩
  | .hbm, ⟨29, _⟩ => ⟨S40, .i32⟩
  | .hbm, ⟨30, _⟩ => ⟨S40, .i32⟩
  | .hbm, ⟨31, _⟩ => ⟨S40, .i32⟩
  | .hbm, ⟨32, _⟩ => ⟨S40x1, .i32⟩
  | .hbm, ⟨33, _⟩ => ⟨S40x3584x1024, .f32⟩
  | .hbm, ⟨34, _⟩ => ⟨S40x1024x3584, .f32⟩
  | .hbm, ⟨35, _⟩ => ⟨S40x1024x3584, .f32⟩
  | .hbm, ⟨36, _⟩ => ⟨S40x1024x3584, .f32⟩
  | .hbm, ⟨37, _⟩ => ⟨S_, .f32⟩
  | .hbm, ⟨38, _⟩ => ⟨S40x1024x3584, .f32⟩
  | .hbm, ⟨39, _⟩ => ⟨S40x1024x3584, .f32⟩
  | .hbm, ⟨40, _⟩ => ⟨S_, .f32⟩
  | .hbm, ⟨41, _⟩ => ⟨S40x1024x3584, .f32⟩
  | .hbm, ⟨42, _⟩ => ⟨S40x1024x3584, .f32⟩
  | .hbm, ⟨43, _⟩ => ⟨S40x1024x3584, .f32⟩
  | .hbm, ⟨44, _⟩ => ⟨S40x1024x3584, .f32⟩
  | .hbm, ⟨45, _⟩ => ⟨S40x1024x3584, .f32⟩
  | .hbm, ⟨46, _⟩ => ⟨S40x1024x1024, .f32⟩
  | .hbm, ⟨47, _⟩ => ⟨S40, .i32⟩
  | .hbm, ⟨48, _⟩ => ⟨S_, .i32⟩
  | .hbm, ⟨49, _⟩ => ⟨S40, .i32⟩
  | .hbm, ⟨50, _⟩ => ⟨S40, .i1⟩
  | .hbm, ⟨51, _⟩ => ⟨S40x1x1, .i1⟩
  | .hbm, ⟨52, _⟩ => ⟨S_, .f32⟩
  | .hbm, ⟨53, _⟩ => ⟨S_, .f32⟩
  | .hbm, ⟨54, _⟩ => ⟨S40x1024x1024, .i1⟩
  | .hbm, ⟨55, _⟩ => ⟨S40x1024x1024, .f32⟩
  | .hbm, ⟨56, _⟩ => ⟨S40x1024x1024, .f32⟩
  | .hbm, ⟨57, _⟩ => ⟨S40960x1024, .f32⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]
-- ==== Front.lean ====
abbrev S16384x1024 : Shape := ⟨2, ![16384, 1024]⟩
abbrev S1024 : Shape := ⟨1, ![1024]⟩
abbrev S1024x2848 : Shape := ⟨2, ![1024, 2848]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S1024x1536 : Shape := ⟨2, ![1024, 1536]⟩
abbrev S1024x1280 : Shape := ⟨2, ![1024, 1280]⟩
abbrev S1024x8 : Shape := ⟨2, ![1024, 8]⟩
abbrev S1024x24 : Shape := ⟨2, ![1024, 24]⟩
abbrev S1024x96 : Shape := ⟨2, ![1024, 96]⟩
abbrev S1024x2944 : Shape := ⟨2, ![1024, 2944]⟩
abbrev S1x1024 : Shape := ⟨2, ![1, 1024]⟩
abbrev S16384x512 : Shape := ⟨2, ![16384, 512]⟩
abbrev S16384x256 : Shape := ⟨2, ![16384, 256]⟩
abbrev S256x1024 : Shape := ⟨2, ![256, 1024]⟩
abbrev S256x128 : Shape := ⟨2, ![256, 128]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x2944 : Shape := ⟨2, ![256, 2944]⟩

abbrev nBuf : Space → Nat
  | .hbm => 48
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2848, .f32⟩
  | .hbm, ⟨3, _⟩ => ⟨S16384, .i32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S16384, .f32⟩
  | .hbm, ⟨21, _⟩ => ⟨S16384x1, .f32⟩
  | .hbm, ⟨22, _⟩ => ⟨S1x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x128, .f32⟩
  | .hbm, ⟨29, _⟩ => ⟨S16384x32, .f32⟩
  | .hbm, ⟨30, _⟩ => ⟨S16384x32, .f32⟩
  | .hbm, ⟨31, _⟩ => ⟨S16384x128, .f32⟩
  | .hbm, ⟨32, _⟩ => ⟨S1024x1536, .f32⟩
  | .hbm, ⟨33, _⟩ => ⟨S1024x1280, .f32⟩
  | .hbm, ⟨34, _⟩ => ⟨S1024x8, .f32⟩
  | .hbm, ⟨35, _⟩ => ⟨S1024x24, .f32⟩
  | .hbm, ⟨36, _⟩ => ⟨S_, .f32⟩
  | .hbm, ⟨37, _⟩ => ⟨S1024x96, .f32⟩
  | .hbm, ⟨38, _⟩ => ⟨S1024x2944, .f32⟩
  | .hbm, ⟨39, _⟩ => ⟨S1024x2944, .bf16⟩
  | .hbm, ⟨40, _⟩ => ⟨S1x1024, .f32⟩
  | .hbm, ⟨41, _⟩ => ⟨S16384x512, .f32⟩
  | .hbm, ⟨42, _⟩ => ⟨S16384x1024, .f32⟩
  | .hbm, ⟨43, _⟩ => ⟨S16384x128, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x256, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2944, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | .local _ .vmem, ⟨10, _⟩ => ⟨S256x1024, .f32⟩
  | .local _ .vmem, ⟨11, _⟩ => ⟨S256x1024, .f32⟩
  | .local _ .vmem, ⟨12, _⟩ => ⟨S256x128, .f32⟩
  | .local _ .vmem, ⟨13, _⟩ => ⟨S256x128, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x256, .f32⟩
  | .local _ .vmem, ⟨21, _⟩ => ⟨S256x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32_0 : Ref sig .tc := ⟨.hbm, 41, rfl⟩
abbrev main_v32_1 : Ref sig .tc := ⟨.hbm, 42, rfl⟩
abbrev main_v32_2 : Ref sig .tc := ⟨.hbm, 43, rfl⟩
abbrev main_v32_3 : Ref sig .tc := ⟨.hbm, 44, rfl⟩
abbrev main_v32_4 : Ref sig .tc := ⟨.hbm, 45, rfl⟩
abbrev main_v32_5 : Ref sig .tc := ⟨.hbm, 46, rfl⟩
abbrev main_v32_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FrontReferenceIdeal.lean ====
abbrev S16384x1024 : Shape := ⟨2, ![16384, 1024]⟩
abbrev S1024 : Shape := ⟨1, ![1024]⟩
abbrev S1024x2848 : Shape := ⟨2, ![1024, 2848]⟩
abbrev S1x16384x1024 : Shape := ⟨3, ![1, 16384, 1024]⟩
abbrev S16384 : Shape := ⟨1, ![16384]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x2848 : Shape := ⟨3, ![1, 16384, 2848]⟩
abbrev S1x16384x512 : Shape := ⟨3, ![1, 16384, 512]⟩
abbrev S1x16384x8x64 : Shape := ⟨4, ![1, 16384, 8, 64]⟩
abbrev S1x16384x768 : Shape := ⟨3, ![1, 16384, 768]⟩
abbrev S1x16384x6x2x64 : Shape := ⟨5, ![1, 16384, 6, 2, 64]⟩
abbrev S32 : Shape := ⟨1, ![32]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S1x16384x8x32 : Shape := ⟨4, ![1, 16384, 8, 32]⟩
abbrev S1x16384x1x2x64 : Shape := ⟨5, ![1, 16384, 1, 2, 64]⟩
abbrev S1x16384x2x64 : Shape := ⟨4, ![1, 16384, 2, 64]⟩
abbrev S1x16384x2x32 : Shape := ⟨4, ![1, 16384, 2, 32]⟩
abbrev S1x16384x4x2x64 : Shape := ⟨5, ![1, 16384, 4, 2, 64]⟩
abbrev S1x16384x2x2x64 : Shape := ⟨5, ![1, 16384, 2, 2, 64]⟩
abbrev S1x16384x8 : Shape := ⟨3, ![1, 16384, 8]⟩
abbrev S1x16384x24 : Shape := ⟨3, ![1, 16384, 24]⟩
abbrev S1x16384x96 : Shape := ⟨3, ![1, 16384, 96]⟩
abbrev S1x16384x128 : Shape := ⟨3, ![1, 16384, 128]⟩
abbrev S16384x512 : Shape := ⟨2, ![16384, 512]⟩
abbrev S16384x128 : Shape := ⟨2, ![16384, 128]⟩
abbrev S16384x256 : Shape := ⟨2, ![16384, 256]⟩

abbrev nBuf : Space → Nat
  | .hbm => 177
  | .vmem => 0
  | .smem => 0
  | _ => 0

abbrev hbmTy0_0 (i : Nat) : BufTy := match i % 128 with
  | 0 => ⟨S16384x1024, .f32⟩
  | 1 => ⟨S1024, .f32⟩
  | 2 => ⟨S1024x2848, .f32⟩
  | 3 => ⟨S1x16384x1024, .f32⟩
  | 4 => ⟨S16384, .i32⟩
  | 5 => ⟨S1x16384x1024, .f32⟩
  | 6 => ⟨S_, .f32⟩
  | 7 => ⟨S1x16384, .f32⟩
  | 8 => ⟨S1x16384x1, .f32⟩
  | 9 => ⟨S_, .f32⟩
  | 10 => ⟨S1x16384x1, .f32⟩
  | 11 => ⟨S1x16384x1, .f32⟩
  | 12 => ⟨S_, .f32⟩
  | 13 => ⟨S1x16384x1, .f32⟩
  | 14 => ⟨S1x16384x1, .f32⟩
  | 15 => ⟨S1x16384x1, .f32⟩
  | 16 => ⟨S1x16384x1024, .f32⟩
  | 17 => ⟨S1x16384x1024, .f32⟩
  | 18 => ⟨S1x1x1024, .f32⟩
  | 19 => ⟨S1x16384x1024, .f32⟩
  | 20 => ⟨S1x16384x1024, .f32⟩
  | 21 => ⟨S1x16384x2848, .f32⟩
  | 22 => ⟨S1x16384x512, .f32⟩
  | 23 => ⟨S1x16384x8x64, .f32⟩
  | 24 => ⟨S1x16384x768, .f32⟩
  | 25 => ⟨S1x16384x6x2x64, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S16384, .f32⟩
  | 43 => ⟨S16384x1, .f32⟩
  | 44 => ⟨S1x32, .f32⟩
  | 45 => ⟨S16384x32, .f32⟩
  | 46 => ⟨S16384x32, .f32⟩
  | 47 => ⟨S16384x32, .f32⟩
  | 48 => ⟨S16384x32, .f32⟩
  | 49 => ⟨S1x16384x1x32, .f32⟩
  | 50 => ⟨S16384x32, .f32⟩
  | 51 => ⟨S1x16384x1x32, .f32⟩
  | 52 => ⟨S1x16384x8x32, .f32⟩
  | 53 => ⟨S1x16384x8x32, .f32⟩
  | 54 => ⟨S1x16384x8x32, .f32⟩
  | 55 => ⟨S1x16384x8x32, .f32⟩
  | 56 => ⟨S1x16384x8x32, .f32⟩
  | 57 => ⟨S1x16384x8x32, .f32⟩
  | 58 => ⟨S1x16384x8x32, .f32⟩
  | 59 => ⟨S1x16384x8x32, .f32⟩
  | 60 => ⟨S1x16384x8x32, .f32⟩
  | 61 => ⟨S1x16384x8x32, .f32⟩
  | 62 => ⟨S1x16384x8x32, .f32⟩
  | 63 => ⟨S1x16384x8x32, .f32⟩
  | 64 => ⟨S1x16384x8x64, .f32⟩
  | 65 => ⟨S1x16384x1x2x64, .f32⟩
  | 66 => ⟨S1x16384x2x64, .f32⟩
  | 67 => ⟨S1x16384x1x2x64, .f32⟩
  | 68 => ⟨S1x16384x2x64, .f32⟩
  | 69 => ⟨S1x16384x1x2x64, .f32⟩
  | 70 => ⟨S1x16384x2x64, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S16384, .f32⟩
  | 88 => ⟨S16384x1, .f32⟩
  | 89 => ⟨S1x32, .f32⟩
  | 90 => ⟨S16384x32, .f32⟩
  | 91 => ⟨S16384x32, .f32⟩
  | 92 => ⟨S16384x32, .f32⟩
  | 93 => ⟨S16384x32, .f32⟩
  | 94 => ⟨S1x16384x1x32, .f32⟩
  | 95 => ⟨S16384x32, .f32⟩
  | 96 => ⟨S1x16384x1x32, .f32⟩
  | 97 => ⟨S1x16384x2x32, .f32⟩
  | 98 => ⟨S1x16384x2x32, .f32⟩
  | 99 => ⟨S1x16384x2x32, .f32⟩
  | 100 => ⟨S1x16384x2x32, .f32⟩
  | 101 => ⟨S1x16384x2x32, .f32⟩
  | 102 => ⟨S1x16384x2x32, .f32⟩
  | 103 => ⟨S1x16384x2x32, .f32⟩
  | 104 => ⟨S1x16384x2x32, .f32⟩
  | 105 => ⟨S1x16384x2x32, .f32⟩
  | 106 => ⟨S1x16384x2x32, .f32⟩
  | 107 => ⟨S1x16384x2x32, .f32⟩
  | 108 => ⟨S1x16384x2x32, .f32⟩
  | 109 => ⟨S1x16384x2x64, .f32⟩
  | 110 => ⟨S1x16384x1x2x64, .f32⟩
  | 111 => ⟨S1x16384x2x64, .f32⟩
  | 112 => ⟨S1x16384x1x2x64, .f32⟩
  | 113 => ⟨S1x16384x1x2x64, .f32⟩
  | 114 => ⟨S1x16384x1x2x64, .f32⟩
  | 115 => ⟨S1x16384x1x2x64, .f32⟩
  | 116 => ⟨S1x16384x4x2x64, .f32⟩
  | 117 => ⟨S1x16384x1x2x64, .f32⟩
  | 118 => ⟨S1x16384x2x64, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S_, .f32⟩
  | 127 => ⟨S32, .f32⟩
  | _ => ⟨S16384x1024, .f32⟩

abbrev hbmTy0_1 (i : Nat) : BufTy := match i % 128 with
  | 0 => ⟨S32, .f32⟩
  | 1 => ⟨S_, .f32⟩
  | 2 => ⟨S32, .f32⟩
  | 3 => ⟨S32, .f32⟩
  | 4 => ⟨S_, .f32⟩
  | 5 => ⟨S32, .f32⟩
  | 6 => ⟨S32, .f32⟩
  | 7 => ⟨S16384, .f32⟩
  | 8 => ⟨S16384x1, .f32⟩
  | 9 => ⟨S1x32, .f32⟩
  | 10 => ⟨S16384x32, .f32⟩
  | 11 => ⟨S16384x32, .f32⟩
  | 12 => ⟨S16384x32, .f32⟩
  | 13 => ⟨S16384x32, .f32⟩
  | 14 => ⟨S1x16384x1x32, .f32⟩
  | 15 => ⟨S16384x32, .f32⟩
  | 16 => ⟨S1x16384x1x32, .f32⟩
  | 17 => ⟨S1x16384x2x32, .f32⟩
  | 18 => ⟨S1x16384x2x32, .f32⟩
  | 19 => ⟨S1x16384x2x32, .f32⟩
  | 20 => ⟨S1x16384x2x32, .f32⟩
  | 21 => ⟨S1x16384x2x32, .f32⟩
  | 22 => ⟨S1x16384x2x32, .f32⟩
  | 23 => ⟨S1x16384x2x32, .f32⟩
  | 24 => ⟨S1x16384x2x32, .f32⟩
  | 25 => ⟨S1x16384x2x32, .f32⟩
  | 26 => ⟨S1x16384x2x32, .f32⟩
  | 27 => ⟨S1x16384x2x32, .f32⟩
  | 28 => ⟨S1x16384x2x32, .f32⟩
  | 29 => ⟨S1x16384x2x64, .f32⟩
  | 30 => ⟨S1x16384x1x2x64, .f32⟩
  | 31 => ⟨S1x16384x2x64, .f32⟩
  | 32 => ⟨S1x16384x1x2x64, .f32⟩
  | 33 => ⟨S1x16384x1x2x64, .f32⟩
  | 34 => ⟨S1x16384x2x2x64, .f32⟩
  | 35 => ⟨S1x16384x8, .f32⟩
  | 36 => ⟨S1x16384x24, .f32⟩
  | 37 => ⟨S_, .f32⟩
  | 38 => ⟨S1x16384x96, .f32⟩
  | 39 => ⟨S1x16384x128, .f32⟩
  | 40 => ⟨S1x16384x512, .f32⟩
  | 41 => ⟨S16384x512, .f32⟩
  | 42 => ⟨S1x16384x1024, .f32⟩
  | 43 => ⟨S16384x1024, .f32⟩
  | 44 => ⟨S16384x128, .f32⟩
  | 45 => ⟨S16384x512, .f32⟩
  | 46 => ⟨S16384x512, .f32⟩
  | 47 => ⟨S16384x512, .f32⟩
  | 48 => ⟨S16384x256, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_7 : Ref sig .tc := ⟨.hbm, 72, rfl⟩
abbrev main_v61 : Ref sig .tc := ⟨.hbm, 73, rfl⟩
abbrev main_v62 : Ref sig .tc := ⟨.hbm, 74, rfl⟩
abbrev main_cst_8 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_cst_10 : Ref sig .tc := ⟨.hbm, 81, rfl⟩
abbrev main_v67 : Ref sig .tc := ⟨.hbm, 82, rfl⟩
abbrev main_v68 : Ref sig .tc := ⟨.hbm, 83, rfl⟩
abbrev main_cst_11 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_12 : Ref sig .tc := ⟨.hbm, 120, rfl⟩
abbrev main_v104 : Ref sig .tc := ⟨.hbm, 121, rfl⟩
abbrev main_v105 : Ref sig .tc := ⟨.hbm, 122, rfl⟩
abbrev main_cst_13 : Ref sig .tc := ⟨.hbm, 123, rfl⟩
abbrev main_v106 : Ref sig .tc := ⟨.hbm, 124, rfl⟩
abbrev main_v107 : Ref sig .tc := ⟨.hbm, 125, rfl⟩
abbrev main_cst_14 : Ref sig .tc := ⟨.hbm, 126, rfl⟩
abbrev main_v108 : Ref sig .tc := ⟨.hbm, 127, rfl⟩
abbrev main_v109 : Ref sig .tc := ⟨.hbm, 128, rfl⟩
abbrev main_cst_15 : Ref sig .tc := ⟨.hbm, 129, rfl⟩
abbrev main_v110 : Ref sig .tc := ⟨.hbm, 130, rfl⟩
abbrev main_v111 : Ref sig .tc := ⟨.hbm, 131, rfl⟩
abbrev main_cst_16 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_cst_17 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩

abbrev nD : Nat := 1
abbrev τ : Topo := Topo.v7x

variable {F : FTy → Type} [FloatOps F]
-- ==== Proof.Sums.lean ====
module

public import Idealize.ShloMosaic.Lib.Pipeline.ValueKit

@[expose] public section

/-!
Sums that a run of consecutive grid points leaves in a block it revisits.
-/

namespace Cert.Sums

open Idealize.ShloMosaic

/-- The fold after `j` steps, the number of steps written otherwise. -/
theorem accAt_eq_of_eq {N : ℕ} {α : Type*} (a : (n : ℕ) → n < N → α) (g : (n : ℕ) → n < N → α → α) (b : ℕ)
    {j k : ℕ} (e : j = k) (h : b + j < N) : Pipeline.accAt a g b j h = Pipeline.accAt a g b k (e ▸ h) := by
  subst e; rfl

/-- A fold over the points `b, b+1, …` whose reset is `Z` plus the first point's part and whose every step adds
    that point's part holds, after `j` steps, `Z` plus the parts of the points `b … b + j`. -/
theorem fold_parts {N : ℕ} {ι β : Type*} [AddCommMonoid β] (a : (n : ℕ) → n < N → ι → β)
    (g : (n : ℕ) → n < N → (ι → β) → ι → β) (b : ℕ) (Z : ι → β) (P : (n : ℕ) → n < N → ι → β)
    (ha : ∀ (h : b < N) (i : ι), a b h i = Z i + P b h i)
    (hg : ∀ (n : ℕ) (h : n < N) (acc : ι → β) (i : ι), g n h acc i = acc i + P n h i) :
    ∀ (j : ℕ) (h : b + j < N) (i : ι),
      Pipeline.accAt a g b j h i = Z i + ∑ s : Fin (j + 1), P (b + s.val) (by have := s.isLt; omega) i
  | 0, h, i => by
    rw [Pipeline.accAt_zero, ha]; simp
  | j + 1, h, i => by
    rw [Pipeline.accAt_succ, hg, fold_parts a g b Z P ha hg j (by omega) i, Fin.sum_univ_castSucc (n := j + 1), add_assoc]
    rfl

end Cert.Sums
-- ==== Proof.FfnValue.lean ====
module

public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Sums
public import Idealize.ShloMosaic.Lib.Pipeline.ValueKit

@[expose] public section

set_option maxRecDepth 16384

noncomputable section

/-!
The dense feed-forward call: the array it returns is the skip input plus the SwiGLU of the hidden input.

The kernel walks eleven tiles of 256 hidden units for each block of 1024 rows, starts from the skip rows and adds one
tile's contribution at a time; the reference contracts all 2816 hidden units at once.
-/

namespace Cert.FfnIdeal.Value

open Cert.FfnIdeal Cert.FfnIdeal.Gen Idealize.ShloMosaic Idealize.ShloMosaic.TcCoe Idealize.SL.Sem
open Idealize.ShloMosaic.Pipeline (Dat)

/-- One tile's contribution at row `j 0` and column `j 1`: the gated product of the tile's 256 hidden units with the
    down projection. -/
def tilePart (x0 : FVec Ideal S1024x1024 .bf16) (x2 x3 : FVec Ideal S1024x256 .bf16) (x4 : FVec Ideal S256x1024 .bf16)
    (j : S1024x1024.Idx) : EReal :=
  ∑ u : Fin 256, ((∑ l : Fin 1024, x0 (ix2 (j 0) l) * x2 (ix2 l u))
      * Ideal.logistic (∑ l : Fin 1024, x0 (ix2 (j 0) l) * x2 (ix2 l u))
      * ∑ l : Fin 1024, x0 (ix2 (j 0) l) * x3 (ix2 l u)) * x4 (ix2 u (j 1))

/-- What a point stores is what the block held plus the tile's contribution. -/
theorem pay_apply (x0 : FVec Ideal S1024x1024 .bf16) (x2 x3 : FVec Ideal S1024x256 .bf16) (acc : FVec Ideal S1024x1024 .f32)
    (x4 : FVec Ideal S256x1024 .bf16) (j : S1024x1024.Idx) :
    k0_pay1 x0 x2 x3 acc x4 j = acc j + tilePart x0 x2 x3 x4 j := by
  pointwise [k0_pay1, tilePart]

/-- The reference at row `i 0` and column `i 1`. -/
theorem ref_apply (x0 : FVec Ideal Cert.FfnReferenceIdeal.S16384x1024 .bf16) (x1 : FVec Ideal Cert.FfnReferenceIdeal.S16384x1024 .f32)
    (x2 x3 : FVec Ideal Cert.FfnReferenceIdeal.S1024x2816 .f32) (x4 : FVec Ideal Cert.FfnReferenceIdeal.S2816x1024 .f32)
    (i : Cert.FfnReferenceIdeal.S16384x1024.Idx) :
    Cert.FfnReferenceIdeal.Read.val_main_v6 (F := Ideal) x0 x1 x2 x3 x4 i
      = x1 i + ∑ u : Fin 2816, ((∑ l : Fin 1024, x0 (ix2 (i 0) l) * x2 (ix2 l u))
          * Ideal.logistic (∑ l : Fin 1024, x0 (ix2 (i 0) l) * x2 (ix2 l u))
          * ∑ l : Fin 1024, x0 (ix2 (i 0) l) * x3 (ix2 l u)) * x4 (ix2 u (i 1)) := by
  pointwise [Cert.FfnReferenceIdeal.Read.val_main_v6, Cert.FfnReferenceIdeal.Read.val_main_v5, Cert.FfnReferenceIdeal.Read.val_main_v4, Cert.FfnReferenceIdeal.Read.val_main_v3, Cert.FfnReferenceIdeal.Read.val_main_v2, Cert.FfnReferenceIdeal.Read.val_main_v1, Cert.FfnReferenceIdeal.Read.val_main_v0, Cert.FfnReferenceIdeal.Read.val_main_call0_v5, Cert.FfnReferenceIdeal.Read.val_main_call0_v4, Cert.FfnReferenceIdeal.Read.val_main_call0_v3, Cert.FfnReferenceIdeal.Read.val_main_call0_v2, Cert.FfnReferenceIdeal.Read.val_main_call0_v1, Cert.FfnReferenceIdeal.Read.val_main_call0_v0, Cert.FfnReferenceIdeal.Read.val_main_call0_cst, Cert.FfnReferenceIdeal.Read.val_main_call0_cst_0]
  rfl

variable (m : (ℓ : Loc nD τ sig) → Buf (Elt Ideal) ℓ)

/-- The windows' block numbers at each grid point: the row block is the point over eleven, the tile the remainder. -/
theorem idx : ∀ t : Fin cfg0.N, win0_0.index t = ![t.val / 11, 0] ∧ win0_1.index t = ![t.val / 11, 0]
    ∧ win0_2.index t = ![0, t.val % 11] ∧ win0_3.index t = ![0, t.val % 11] ∧ win0_4.index t = ![t.val % 11, 0]
    ∧ win0_5.index t = ![t.val / 11, 0] ∧ t.val / 11 < 16 :=
  (by decide +kernel : ∀ t : Fin grid0.N, _)

/-- The array the kernel returns is the reference's, over the kernel's own arguments. -/
theorem final (c : Dev nD) : (dats m 0 c).arrAt 5 (cfgs 0).N
    = Cert.FfnReferenceIdeal.Read.val_main_v6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have hm : t.val % 11 = 10 := (flush0_5 t).mp hf
  have hN : t.val < 176 := lt_of_lt_of_eq t.isLt N_0
  have hb : 11 * (t.val / 11) < cfg0.N := lt_of_lt_of_eq (show 11 * (t.val / 11) < 176 by omega) N_0.symm
  blk_simp
  rw [after0_5, outsAt_5_eq, Cert.Sums.accAt_eq_of_eq _ _ _ hm,
    Cert.Sums.fold_parts (reset5 m c) (step5 m c) (11 * (t.val / 11)) (iblk m c 1 ⟨11 * (t.val / 11), hb⟩)
    (fun n h => tilePart (iblk m c 0 ⟨n, h⟩) (iblk m c 2 ⟨n, h⟩) (iblk m c 3 ⟨n, h⟩) (iblk m c 4 ⟨n, h⟩))
    (fun h i => pay_apply _ _ _ _ _ i) (fun n h acc i => pay_apply _ _ _ _ _ i)]
  refine Eq.trans ?_ (ref_apply _ _ _ _ _ _).symm
  refine congrArg₂ (· + ·) ?_ ?_
  · blk_ext [iblk, V, idx t, idx ⟨11 * (t.val / 11), hb⟩]
  · unfold tilePart
    refine Fin.sum_mul_add_congr fun s k hl => ?_
    have hs : 11 * (t.val / 11) + s.val < cfg0.N := lt_of_lt_of_eq (show 11 * (t.val / 11) + s.val < 176 by omega) N_0.symm
    blk_point [iblk, V, idx t, idx ⟨11 * (t.val / 11) + s.val, hs⟩]

end Cert.FfnIdeal.Value

end
-- ==== Proof.FrontMath.lean ====
module

public import Idealize.ShloMosaic.Lib.Pipeline.ValueKit

@[expose] public section

noncomputable section

/-!
The front of a layer in formulas: the normed rows' projection and the rotation of a column by its row's angle.
-/

namespace Cert.FrontMath

open Idealize.ShloMosaic

variable (x : (⟨2, ![16384, 1024]⟩ : Shape).Idx → EReal) (g : (⟨1, ![1024]⟩ : Shape).Idx → EReal)
  (w : (⟨2, ![1024, 2848]⟩ : Shape).Idx → EReal)

/-- Row `i` of the input over its root mean square, scaled, at lane `l`. -/
def normed (i : Fin 16384) (l : Fin 1024) : EReal :=
  x (ix2 i l) * Ideal.rsqrt (Ideal.div (∑ k : Fin 1024, x (ix2 i k) * x (ix2 i k)) (Ideal.ofBits FTy.f32 1149239296#32)
    + Ideal.ofBits FTy.f32 897988541#32) * g (ix1 l)

/-- Column `n` of the weights, zero past the last one. -/
def col (l : Fin 1024) (n : ℕ) : EReal := if h : n < 2848 then w (ix2 l ⟨n, h⟩) else 0

/-- The projected row `i` at column `n`. -/
def proj (i : Fin 16384) (n : ℕ) : EReal := ∑ l : Fin 1024, normed x g i l * col w l n

/-- The angle of row `i` for the `k`th pair of lanes of a head. -/
def angle (i : Fin 16384) (k : Fin 32) : EReal :=
  FloatOps.sitofp (F := Ideal) FTy.f32 (BitVec.ofNat 32 i.val) * Ideal.div 1 (Ideal.pow (Ideal.ofBits FTy.f32 1176256512#32)
    (Ideal.div (Ideal.ofBits FTy.f32 1073741824#32 * FloatOps.sitofp (F := Ideal) FTy.f32 (BitVec.ofNat 32 k.val)) (Ideal.ofBits FTy.f32 1115684864#32)))

/-- The row `P` rotated, at column `n`, which is lane `d` of its head: the first 32 lanes pair with the last. -/
def turn (P : ℕ → EReal) (i : Fin 16384) (n : ℕ) (d : Fin 64) : EReal :=
  if h : d.val < 32 then P n * Ideal.cos (angle i ⟨d.val, h⟩) - P (n + 32) * Ideal.sin (angle i ⟨d.val, h⟩)
  else P n * Ideal.cos (angle i ⟨d.val - 32, by omega⟩) + P (n - 32) * Ideal.sin (angle i ⟨d.val - 32, by omega⟩)

/-- The lane of column `c` in its head. -/
def lane (c : ℕ) : Fin 64 := ⟨c % 64, Nat.mod_lt _ (by decide)⟩

end Cert.FrontMath

end
-- ==== Proof.FrontPoints.lean ====
module

public import proofs.«01_k».proof.Proof.Gen.FrontIdeal.Value
public import proofs.«01_k».proof.Proof.FrontMath
public import Idealize.ShloMosaic.Lib.Pipeline.ValueKit
public import Idealize.ShloMosaic.Lib.Pipeline.ReadBack
public import Idealize.ShloMosaic.Lib.WritesUnit

@[expose] public section

set_option maxRecDepth 16384
set_option maxHeartbeats 1000000
noncomputable section

/-!
What a point of the front's kernel stores, from the values it reads.
-/

namespace Cert.FrontIdeal.Value

open Cert.FrontIdeal Cert.FrontIdeal.Gen Idealize.ShloMosaic Idealize.ShloMosaic.TcCoe Idealize.SL.Sem
open Idealize.ShloMosaic.Pipeline (Dat)
open Cert.FrontMath

/-- The mask holds the first 32 lanes of each head. -/
theorem mask_apply (r : Fin 256) (j : Fin 128) :
    k0_pay13 k0_pay10 k0_pay11 k0_pay12 (ix2 r j) = if j.val % 64 < 32 then 1#1 else 0#1 := by
  pointwise [k0_pay13, k0_pay10, k0_pay11, k0_pay12]
  revert j
  decide +kernel

/-- A slab of 128 columns rotated: each lane takes its own and its partner's column, by the two tables. -/
def slab (P : ℕ → EReal) (cs sn : EReal) (o : ℕ) (j : Fin 128) : EReal :=
  P (o + j.val) * cs + (if j.val % 64 < 32 then P (o + j.val + 32) else P (o + j.val - 32)) * sn

/-- A lane, and its partner picked from the slab turned by a quarter and by three quarters, are the rotated slab's. -/
theorem slab_of (P : ℕ → EReal) (cs sn : EReal) (o : ℕ) (j : Fin 128) (a b : ℕ) (ha : a = o + (j.val + 32) % 128)
    (hb : b = o + (j.val + 96) % 128) :
    P (o + j.val) * cs + Scalar.select (if j.val % 64 < 32 then 1#1 else 0#1) (P a) (P b) * sn = slab P cs sn o j := by
  have := j.isLt
  unfold slab
  by_cases h : j.val % 64 < 32
  · rw [if_pos h, if_pos h, ha, Nat.mod_eq_of_lt (by omega), Nat.add_assoc]
    rfl
  · rw [if_neg h, if_neg h, hb, show o + (j.val + 96) % 128 = o + j.val - 32 by omega]
    rfl

variable (v : FVec Ideal S256x2944 .f32) (cs sn : FVec Ideal S256x128 .f32) (P : Fin 256 → ℕ → EReal)

/-- The first slab of queries that is stored is the rotated one, -/
theorem pay18_apply (hv : ∀ r k, v (ix2 r k) = P r k.val) (r : Fin 256) (j : Fin 128) :
    k0_pay18 v cs sn k0_pay10 k0_pay11 k0_pay12 (ix2 r j) = slab (P r) (cs (ix2 r j)) (sn (ix2 r j)) 1536 j := by
  pointwise [k0_pay18]
  simp only [hv, mask_apply]
  exact slab_of _ _ _ _ _ _ _ (by omega) (by omega)

/-- so is the second, -/
theorem pay19_apply (hv : ∀ r k, v (ix2 r k) = P r k.val) (r : Fin 256) (j : Fin 128) :
    k0_pay19 v cs sn k0_pay10 k0_pay11 k0_pay12 (ix2 r j) = slab (P r) (cs (ix2 r j)) (sn (ix2 r j)) 1664 j := by
  pointwise [k0_pay19]
  simp only [hv, mask_apply]
  exact slab_of _ _ _ _ _ _ _ (by omega) (by omega)

/-- the third -/
theorem pay20_apply (hv : ∀ r k, v (ix2 r k) = P r k.val) (r : Fin 256) (j : Fin 128) :
    k0_pay20 v cs sn k0_pay10 k0_pay11 k0_pay12 (ix2 r j) = slab (P r) (cs (ix2 r j)) (sn (ix2 r j)) 1792 j := by
  pointwise [k0_pay20]
  simp only [hv, mask_apply]
  exact slab_of _ _ _ _ _ _ _ (by omega) (by omega)

/-- and the fourth. -/
theorem pay1_apply (hv : ∀ r k, v (ix2 r k) = P r k.val) (r : Fin 256) (j : Fin 128) :
    k0_pay1 v cs sn (k0_pay13 k0_pay10 k0_pay11 k0_pay12) (ix2 r j) = slab (P r) (cs (ix2 r j)) (sn (ix2 r j)) 1920 j := by
  pointwise [k0_pay1]
  simp only [hv, mask_apply]
  exact slab_of _ _ _ _ _ _ _ (by omega) (by omega)

/-- The slab of selected keys that is stored is the rotated one. -/
theorem pay3_apply (hv : ∀ r k, v (ix2 r k) = P r k.val) (r : Fin 256) (j : Fin 128) :
    k0_pay3 v cs sn (k0_pay13 k0_pay10 k0_pay11 k0_pay12) (ix2 r j) = slab (P r) (cs (ix2 r j)) (sn (ix2 r j)) 2304 j := by
  pointwise [k0_pay3]
  simp only [hv, mask_apply]
  exact slab_of _ _ _ _ _ _ _ (by omega) (by omega)

/-- The slab of window keys that is stored is the rotated one. -/
theorem pay5_apply (hv : ∀ r k, v (ix2 r k) = P r k.val) (r : Fin 256) (j : Fin 128) :
    k0_pay5 v cs sn (k0_pay13 k0_pay10 k0_pay11 k0_pay12) (ix2 r j) = slab (P r) (cs (ix2 r j)) (sn (ix2 r j)) 2560 j := by
  pointwise [k0_pay5]
  simp only [hv, mask_apply]
  exact slab_of _ _ _ _ _ _ _ (by omega) (by omega)

/-- The gates stored are the product's first 512 columns, -/
theorem pay14_apply (hv : ∀ r k, v (ix2 r k) = P r k.val) (r : Fin 256) (j : Fin 512) :
    k0_pay14 v (ix2 r j) = P r (0 + j.val) := by
  pointwise [k0_pay14]
  rw [hv]

/-- the convolution's rows the next 1024, -/
theorem pay15_apply (hv : ∀ r k, v (ix2 r k) = P r k.val) (r : Fin 256) (j : Fin 1024) :
    k0_pay15 v (ix2 r j) = P r (512 + j.val) := by
  pointwise [k0_pay15]
  rw [hv]

/-- the steps and the attention's gates the last 128, -/
theorem pay16_apply (hv : ∀ r k, v (ix2 r k) = P r k.val) (r : Fin 256) (j : Fin 128) :
    k0_pay16 v (ix2 r j) = P r (2816 + j.val) := by
  pointwise [k0_pay16]
  rw [hv]

/-- and the queries the 512 from 1536. -/
theorem pay17_apply (hv : ∀ r k, v (ix2 r k) = P r k.val) (r : Fin 256) (j : Fin 512) :
    k0_pay17 v (ix2 r j) = P r (1536 + j.val) := by
  pointwise [k0_pay17]
  rw [hv]

/-- The keys and values to be compressed are stored as they are, -/
theorem pay2_apply (hv : ∀ r k, v (ix2 r k) = P r k.val) (r : Fin 256) (j : Fin 256) :
    k0_pay2 v (ix2 r j) = P r (2048 + j.val) := by
  pointwise [k0_pay2]
  rw [hv]

/-- so are the selected values -/
theorem pay4_apply (hv : ∀ r k, v (ix2 r k) = P r k.val) (r : Fin 256) (j : Fin 128) :
    k0_pay4 v (ix2 r j) = P r (2432 + j.val) := by
  pointwise [k0_pay4]
  rw [hv]

/-- and the window's values. -/
theorem pay6_apply (hv : ∀ r k, v (ix2 r k) = P r k.val) (r : Fin 256) (j : Fin 128) :
    k0_pay6 v (ix2 r j) = P r (2688 + j.val) := by
  pointwise [k0_pay6]
  rw [hv]

/-- The normed rows' product with the weights. -/
theorem pay7_apply (v0 : Vec Ideal S256x1024 .f32) (v1 : Vec Ideal S1x1024 .f32) (v16 : Vec Ideal S1024x2944 .bf16) (r : Fin 256) (k : Fin 2944) :
    k0_pay7 v0 v1 v16 (ix2 r k) = ∑ l : Fin 1024, v0 (ix2 r l) * Ideal.rsqrt (Ideal.div (∑ x : Fin 1024, v0 (ix2 r x) * v0 (ix2 r x)) (Ideal.ofBits FTy.f32 1149239296#32)
      + Ideal.ofBits FTy.f32 897988541#32) * v1 (ix2 0 l) * v16 (ix2 l k) := by
  pointwise [k0_pay7]

/-! ## Stores side by side -/

/-- The stores of an output's bands of columns, from the last: where each band holds the row `G` at its columns, so do the stores up to its end. -/
theorem band_step {N W o : ℕ} (inb : ∀ a, (![0, o] : Fin 2 → ℕ) a + (![256, W] : Fin 2 → ℕ) a ≤ (⟨2, ![256, N]⟩ : Shape).size a)
    (w : (⟨2, ![256, W]⟩ : Shape).Idx → EReal) (L : List (View.Piece (Elt Ideal) (⟨2, ![256, N]⟩ : Shape) .f32)) (r : Fin 256) (G : ℕ → EReal)
    (hw : ∀ j : Fin W, w (ix2 r j) = G (o + j.val))
    (hL : ∀ k : Fin N, k.val < o → View.canon (Val := Elt Ideal) (e := .f32) L (ix2 r k) = G k.val) (k : Fin N) (hk : k.val < o + W) :
    View.canon (Val := Elt Ideal) (e := .f32) (⟨Rect.unit (s := (⟨2, ![256, N]⟩ : Shape)) ![0, o] ![256, W] inb, w⟩ :: L) (ix2 r k) = G k.val := by
  by_cases ho : k.val < o
  · refine (View.canon_cons_of_not_mem _ L ?_).trans (hL k ho)
    intro hm
    have := ((Rect.mem_set_unit (inb := inb)).mp hm (1 : Fin 2)).1
    exact absurd (show o ≤ k.val from this) (by omega)
  · have he : (Rect.unit (s := (⟨2, ![256, N]⟩ : Shape)) ![0, o] ![256, W] inb).emb (ix2 r (⟨k.val - o, by omega⟩ : Fin W)) = ix2 r k := by
      funext a
      fin_cases a
      · exact Fin.ext (show 0 + 1 * r.val = r.val by omega)
      · exact Fin.ext (show o + 1 * (k.val - o) = k.val by omega)
    have h1 := View.canon_cons_emb (Val := Elt Ideal) (e := .f32) (Rect.unit (s := (⟨2, ![256, N]⟩ : Shape)) ![0, o] ![256, W] inb) w L
      (ix2 r (⟨k.val - o, by omega⟩ : Fin W))
    rw [he] at h1
    refine h1.trans ((hw ⟨k.val - o, by omega⟩).trans ?_)
    exact congrArg G (show o + (k.val - o) = k.val by omega)

end Cert.FrontIdeal.Value
end
-- ==== Proof.FrontBlocks.lean ====
module

public import proofs.«01_k».proof.Proof.Gen.FrontIdeal.Value
public import proofs.«01_k».proof.Proof.FrontMath
public import Idealize.ShloMosaic.Lib.Pipeline.ValueKit
public import Idealize.ShloMosaic.Lib.Pipeline.ReadBack
public import Idealize.ShloMosaic.Lib.StableHlo.RunRead

@[expose] public section

set_option maxRecDepth 16384
set_option maxHeartbeats 1000000
noncomputable section

/-!
The blocks a point of the front's kernel reads, from the kernel's arguments.
-/

namespace Cert.FrontIdeal.Value

open Cert.FrontIdeal Cert.FrontIdeal.Gen Idealize.ShloMosaic Idealize.ShloMosaic.TcCoe Idealize.SL.Sem
open Idealize.ShloMosaic.Pipeline (Dat)
open Cert.FrontMath

variable (m : (ℓ : Loc nD τ sig) → Buf (Elt Ideal) ℓ)

/-- At a point the rows and the tables take the block of its number, the gain and the weights their only one. -/
theorem idx (t : Fin cfg0.N) : win0_0.index t = ![t.val, 0] ∧ win0_1.index t = ![0, 0] ∧ win0_2.index t = ![0, 0]
    ∧ win0_3.index t = ![t.val, 0] ∧ win0_4.index t = ![t.val, 0] := by
  revert t; decide +kernel

/-- The row of the prompt at row `r` of block `t`. -/
def rowNo (t : Fin cfg0.N) (r : Fin 256) : Fin 16384 := ⟨256 * t.val + r.val, by have := t.isLt; change t.val < 64 at this; omega⟩

/-- A block of the prompt's rows holds the prompt at its rows. -/
theorem block0 (c : Dev nD) (t : Fin cfg0.N) (r : Fin 256) (l : Fin 1024) :
    (iblk m c 0 t : Vec Ideal S256x1024 .f32) (ix2 r l) = m ((c : Thread nD τ).loc main_arg0) (ix2 (rowNo t r) l) := by
  unfold rowNo
  blk_ext [iblk, V, idx t]

/-- The gain's block is the gain. -/
theorem block1 (c : Dev nD) (t : Fin cfg0.N) (l : Fin 1024) :
    (iblk m c 1 t : Vec Ideal S1x1024 .f32) (ix2 0 l) = m ((c : Thread nD τ).loc main_arg1) (ix1 l) := by
  blk_simp [iblk, idx t]
  entry_read
  pointwise
  blk_ext [idx t]

/-- The angles of all rows, as the host computes them. -/
def angles : FVec Ideal S16384x32 .f32 :=
  mulf (broadcastInDim S16384x32 ![0, 1] bcast_S16384x1_S16384x32_0_1 (broadcastInDim S16384x1 ![0] bcast_S16384_S16384x1_0
      (sitofp .f32 (iotaInDim S16384 32 0))))
    (broadcastInDim S16384x32 ![0, 1] bcast_S1x32_S16384x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (addf (broadcastInDim S32 ![] bcast_S_S32 (constant S_ .f32 0x00000000#32))
              (mulf (broadcastInDim S32 ![] bcast_S_S32 (constant S_ .f32 0x40000000#32)) (sitofp .f32 (iotaInDim S32 32 0))))
            (broadcastInDim S32 ![] bcast_S_S32 (constant S_ .f32 0x42800000#32)))))))

/-- The host's angle at a row and a pair. -/
theorem angles_apply (i : Fin 16384) (k : Fin 32) : angles (ix2 i k) = angle i k := by
  pointwise [angles]
  rfl

/-- Four pieces side by side, each replaced by an equal one. -/
theorem cat4 {s s0 s1 s2 s3 : Shape} {a a' : FVec Ideal s0 .f32} {b b' : FVec Ideal s1 .f32} {d d' : FVec Ideal s2 .f32}
    {e e' : FVec Ideal s3 .f32} {k : Fin s.rank} (h : Shape.Concatenates [s0, s1, s2, s3] s k) (ha : a = a') (hb : b = b') (hd : d = d') (he : e = e') :
    concatenate s k [⟨s0, a⟩, ⟨s1, b⟩, ⟨s2, d⟩, ⟨s3, e⟩] h = concatenate s k [⟨s0, a'⟩, ⟨s1, b'⟩, ⟨s2, d'⟩, ⟨s3, e'⟩] h := by
  subst ha hb hd he
  rfl

/-- Five pieces side by side, each replaced by an equal one. -/
theorem cat5 {s s0 s1 s2 s3 s4 : Shape} {a a' : FVec Ideal s0 .f32} {b b' : FVec Ideal s1 .f32} {d d' : FVec Ideal s2 .f32}
    {e e' : FVec Ideal s3 .f32} {f f' : FVec Ideal s4 .f32} {k : Fin s.rank} (h : Shape.Concatenates [s0, s1, s2, s3, s4] s k)
    (ha : a = a') (hb : b = b') (hd : d = d') (he : e = e') (hf : f = f') :
    concatenate s k [⟨s0, a⟩, ⟨s1, b⟩, ⟨s2, d⟩, ⟨s3, e⟩, ⟨s4, f⟩] h
      = concatenate s k [⟨s0, a'⟩, ⟨s1, b'⟩, ⟨s2, d'⟩, ⟨s3, e'⟩, ⟨s4, f'⟩] h := by
  subst ha hb hd he hf
  rfl

/-- The table of cosines: the cosines of a row's angles four times. -/
def cosTable : FVec Ideal S16384x128 .f32 :=
  concatenate S16384x128 1 [⟨S16384x32, Host.cos angles⟩, ⟨S16384x32, Host.cos angles⟩, ⟨S16384x32, Host.cos angles⟩, ⟨S16384x32, Host.cos angles⟩]
    concatenates_S16384x32_S16384x32_S16384x32_S16384x32_S16384x128_d1

/-- The table of sines: the sines of a row's angles negated and plain, twice. -/
def sinTable : FVec Ideal S16384x128 .f32 :=
  concatenate S16384x128 1 [⟨S16384x32, Host.negf (Host.sin angles)⟩, ⟨S16384x32, Host.sin angles⟩, ⟨S16384x32, Host.negf (Host.sin angles)⟩, ⟨S16384x32, Host.sin angles⟩]
    concatenates_S16384x32_S16384x32_S16384x32_S16384x32_S16384x128_d1

/-- The weights with their columns set in the kernel's order, zeros after the last. -/
def ordered (w : FVec Ideal S1024x2848 .f32) : FVec Ideal S1024x2944 .f32 :=
  concatenate S1024x2944 1 [⟨S1024x1536, extractStridedSlice S1024x1536 ![0, 0] w slices_S1024x2848_S1024x1536_0_0⟩,
    ⟨S1024x1280, extractStridedSlice S1024x1280 ![0, 1544] w slices_S1024x2848_S1024x1280_0_1544⟩,
    ⟨S1024x8, extractStridedSlice S1024x8 ![0, 1536] w slices_S1024x2848_S1024x8_0_1536⟩,
    ⟨S1024x24, extractStridedSlice S1024x24 ![0, 2824] w slices_S1024x2848_S1024x24_0_2824⟩,
    ⟨S1024x96, broadcastInDim S1024x96 ![] bcast_S_S1024x96 (constant S_ .f32 0x00000000#32)⟩]
    concatenates_S1024x1536_S1024x1280_S1024x8_S1024x24_S1024x96_S1024x2944_d1

/-- The region starts with the table of cosines, -/
theorem V_cs (c : Dev nD) : V m c main_v20 = (cosTable : FVec Ideal S16384x128 .f32) := by
  have h : StableHlo.upto hostOps0 (fun b => m (c, b)) 25 (Proc.devRef .tc main_v18) = (Host.cos angles : FVec Ideal S16384x32 .f32) := by
    unfold angles
    after_reads_simp
  unfold V cosTable
  after_reads_simp
  exact cat4 _ h h h h

/-- with the table of sines -/
theorem V_sn (c : Dev nD) : V m c main_v23 = (sinTable : FVec Ideal S16384x128 .f32) := by
  have h : StableHlo.upto hostOps0 (fun b => m (c, b)) 28 (Proc.devRef .tc main_v19) = (Host.sin angles : FVec Ideal S16384x32 .f32) := by
    unfold angles
    after_reads_simp
  have h1 : StableHlo.upto hostOps0 (fun b => m (c, b)) 28 (Proc.devRef .tc main_v21) = (Host.negf (Host.sin angles) : FVec Ideal S16384x32 .f32) := by
    unfold angles
    after_reads_simp
  have h2 : StableHlo.upto hostOps0 (fun b => m (c, b)) 28 (Proc.devRef .tc main_v22) = (Host.negf (Host.sin angles) : FVec Ideal S16384x32 .f32) := by
    unfold angles
    after_reads_simp
  unfold V sinTable
  after_reads_simp
  exact cat4 _ h1 h h2 h

/-- and with the weights in the kernel's order. -/
theorem V_wr (c : Dev nD) :
    V m c main_v30 = (truncf .bf16 (ordered (m ((c : Thread nD τ).loc main_arg2))) bitsLt_bf16_f32 : FVec Ideal S1024x2944 .bf16) := by
  unfold V ordered
  after_reads_simp
  refine congrArg (fun u : FVec Ideal S1024x2944 .f32 => (truncf .bf16 u bitsLt_bf16_f32 : FVec Ideal S1024x2944 .bf16)) (cat5 _ ?_ ?_ ?_ ?_ ?_)
  · show StableHlo.upto hostOps0 (fun b => m (c, b)) 35 (Proc.devRef .tc main_v24) = _
    after_reads_simp
  · show StableHlo.upto hostOps0 (fun b => m (c, b)) 35 (Proc.devRef .tc main_v25) = _
    after_reads_simp
  · show StableHlo.upto hostOps0 (fun b => m (c, b)) 35 (Proc.devRef .tc main_v26) = _
    after_reads_simp
  · show StableHlo.upto hostOps0 (fun b => m (c, b)) 35 (Proc.devRef .tc main_v27) = _
    after_reads_simp
  · show StableHlo.upto hostOps0 (fun b => m (c, b)) 35 (Proc.devRef .tc main_v28) = _
    after_reads_simp

/-- The lane's pair in its half of a head. -/
def pair (j : Fin 128) : Fin 32 := ⟨j.val % 32, Nat.mod_lt _ (by decide)⟩

/-- The table of cosines at a row and a lane. -/
theorem cosTable_apply (i : Fin 16384) (j : Fin 128) : cosTable (ix2 i j) = Ideal.cos (angle i (pair j)) := by
  pointwise [cosTable]
  simp only [angles_apply]
  unfold pair
  have := j.isLt
  split_ifs <;> (refine congrArg (fun k => Ideal.cos (angle i k)) (Fin.ext ?_); dsimp only; omega)

/-- The table of sines at a row and a lane: negated in the first half of a head. -/
theorem sinTable_apply (i : Fin 16384) (j : Fin 128) :
    sinTable (ix2 i j) = if j.val % 64 < 32 then -Ideal.sin (angle i (pair j)) else Ideal.sin (angle i (pair j)) := by
  pointwise [sinTable]
  simp only [angles_apply]
  unfold pair
  have := j.isLt
  split_ifs <;> first
    | omega
    | (refine Eq.trans ?_ (if_pos (by omega)).symm
       refine congrArg (fun k => -Ideal.sin (angle i k)) (Fin.ext ?_); dsimp only; omega)
    | (refine Eq.trans ?_ (if_neg (by omega)).symm
       refine congrArg (fun k => Ideal.sin (angle i k)) (Fin.ext ?_); dsimp only; omega)

/-- The column of the weights that the kernel's column `n` is. -/
def source (n : ℕ) : ℕ := if n < 1536 then n else if n < 2816 then n + 8 else if n < 2824 then n - 1280 else n

/-- The source of a column, by its range. -/
theorem source_cases (n : ℕ) : (n < 1536 → source n = n) ∧ (1536 ≤ n → n < 2816 → source n = n + 8)
    ∧ (2816 ≤ n → n < 2824 → source n = n - 1280) ∧ (2824 ≤ n → source n = n) := by
  unfold source
  refine ⟨fun h => ?_, fun h h' => ?_, fun h h' => ?_, fun h => ?_⟩ <;> split_ifs <;> omega

/-- A column of the weights is the one at its number, -/
theorem col_of (w : FVec Ideal S1024x2848 .f32) (l : Fin 1024) (n n' : ℕ) (h : n < 2848) (e : n' = n) : w (ix2 l ⟨n, h⟩) = col w l n' := by
  subst e
  unfold col
  rw [dif_pos h]

/-- and past the last one zero. -/
theorem col_past (w : FVec Ideal S1024x2848 .f32) (l : Fin 1024) (n : ℕ) (h : 2848 ≤ n) : (0 : EReal) = col w l n := by
  unfold col
  rw [dif_neg (Nat.not_lt.2 h)]

/-- The reordered weights' column is the weights' at its source. -/
theorem ordered_apply (w : FVec Ideal S1024x2848 .f32) (l : Fin 1024) (k : Fin 2944) : ordered w (ix2 l k) = col w l (source k.val) := by
  have := k.isLt
  obtain ⟨h1, h2, h3, h4⟩ := source_cases k.val
  pointwise [ordered]
  split_ifs <;> first
    | omega
    | (refine col_of w l _ _ _ ?_; omega)
    | (refine col_past w l _ ?_; omega)

/-- The weights' block is the reordered weights. -/
theorem block2 (c : Dev nD) (t : Fin cfg0.N) (l : Fin 1024) (k : Fin 2944) :
    (iblk m c 2 t : Vec Ideal S1024x2944 .bf16) (ix2 l k) = col (m ((c : Thread nD τ).loc main_arg2)) l (source k.val) := by
  rw [← ordered_apply]
  blk_simp [iblk, idx t]
  rw [V_wr]
  refine congrArg (ordered _) ?_
  blk_ext [idx t]

/-- A block of the table of cosines at a row and a lane, -/
theorem block3 (c : Dev nD) (t : Fin cfg0.N) (r : Fin 256) (j : Fin 128) :
    (iblk m c 3 t : Vec Ideal S256x128 .f32) (ix2 r j) = Ideal.cos (angle (rowNo t r) (pair j)) := by
  rw [← cosTable_apply]
  blk_simp [iblk, idx t]
  rw [V_cs]
  refine congrArg cosTable ?_
  unfold rowNo
  blk_ext [idx t]

/-- and one of the table of sines. -/
theorem block4 (c : Dev nD) (t : Fin cfg0.N) (r : Fin 256) (j : Fin 128) :
    (iblk m c 4 t : Vec Ideal S256x128 .f32) (ix2 r j)
      = if j.val % 64 < 32 then -Ideal.sin (angle (rowNo t r) (pair j)) else Ideal.sin (angle (rowNo t r) (pair j)) := by
  rw [← sinTable_apply]
  blk_simp [iblk, idx t]
  rw [V_sn]
  refine congrArg sinTable ?_
  unfold rowNo
  blk_ext [idx t]

end Cert.FrontIdeal.Value
end
-- ==== Proof.FrontReferenceValue.lean ====
module

public import proofs.«01_k».proof.Proof.Gen.FrontReferenceIdeal.Run
public import proofs.«01_k».proof.Proof.Gen.FrontReferenceIdeal.Read
public import proofs.«01_k».proof.Proof.FrontMath
public import Idealize.ShloMosaic.Lib.Pipeline.ValueKit

@[expose] public section

set_option maxRecDepth 16384

noncomputable section

/-!
The front's reference, read at a place of each result.
-/

namespace Cert.FrontReferenceIdeal.Value

open Idealize.ShloMosaic Cert.FrontReferenceIdeal Cert.FrontReferenceIdeal.Gen Cert.FrontReferenceIdeal.Read
open Cert.FrontMath

/-- The angles, for the queries, -/
theorem angle_q (i : Fin 16384) (k : Fin 32) : val_main_v36 (F := Ideal) (ix2 i k) = angle i k := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v1, val_main_cst_2, val_main_cst_3, val_main_cst_4, val_main_cst_5, val_main_cst_6]
  rfl

/-- for the selected keys, -/
theorem angle_k (i : Fin 16384) (k : Fin 32) : val_main_v76 (F := Ideal) (ix2 i k) = angle i k := angle_q i k

/-- and for the window's keys. -/
theorem angle_w (i : Fin 16384) (k : Fin 32) : val_main_v119 (F := Ideal) (ix2 i k) = angle i k := angle_q i k

variable (x0 : FVec Ideal S16384x1024 .f32) (x1 : FVec Ideal S1024 .f32) (x2 : FVec Ideal S1024x2848 .f32)

/-- The projection at a row and a column. -/
theorem proj_apply (i : Fin 16384) (k : Fin 2848) : val_main_v15 (F := Ideal) x0 x1 x2 (ix3 0 i k) = proj x0 x1 x2 i k.val := by
  pointwise [val_main_v15, val_main_v14, val_main_v13, val_main_v12, val_main_v11, val_main_v10, val_main_v9, val_main_v8, val_main_v7, val_main_v6, val_main_v5, val_main_v4, val_main_v3, val_main_v2, val_main_v0, val_main_cst, val_main_cst_0, val_main_cst_1]
  unfold proj
  refine Finset.sum_congr rfl fun l _ => ?_
  unfold normed col
  rw [dif_pos k.isLt]

/-- The rotated queries at a head and a lane. -/
theorem turned_q (i : Fin 16384) (h : Fin 8) (d : Fin 64) :
    val_main_v53 (F := Ideal) x0 x1 x2 (ix4 0 i h d) = turn (proj x0 x1 x2 i) i (1544 + (64 * h.val + d.val)) d := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_v37, val_main_v17, val_main_v16]
  simp only [proj_apply, angle_q]
  unfold turn
  split_ifs with hd
  · refine congrArg₂ _ (congrArg (proj x0 x1 x2 i · * _) ?_) (congrArg (proj x0 x1 x2 i · * _) ?_) <;> omega
  · refine congrArg₂ _ (congrArg (proj x0 x1 x2 i · * _) ?_) (congrArg (proj x0 x1 x2 i · * _) ?_) <;> omega
  · rename_i h3
    exact absurd rfl h3

/-- The rotated selected keys at a head and a lane. -/
theorem turned_k (i : Fin 16384) (h : Fin 2) (d : Fin 64) :
    val_main_v93 (F := Ideal) x0 x1 x2 (ix4 0 i h d) = turn (proj x0 x1 x2 i) i (2312 + (64 * h.val + d.val)) d := by
  pointwise [val_main_v93, val_main_v92, val_main_v91, val_main_v90, val_main_v89, val_main_v88, val_main_v87, val_main_v86, val_main_v85, val_main_v84, val_main_v83, val_main_v82, val_main_v81, val_main_v80, val_main_v79, val_main_v78, val_main_v77, val_main_v59, val_main_v58, val_main_v19, val_main_v18]
  simp only [proj_apply, angle_k]
  unfold turn
  split_ifs with hd
  · refine congrArg₂ _ (congrArg (proj x0 x1 x2 i · * _) ?_) (congrArg (proj x0 x1 x2 i · * _) ?_) <;> omega
  · refine congrArg₂ _ (congrArg (proj x0 x1 x2 i · * _) ?_) (congrArg (proj x0 x1 x2 i · * _) ?_) <;> omega
  · rename_i h3
    exact absurd rfl h3

/-- The rotated keys of the window at a head and a lane. -/
theorem turned_w (i : Fin 16384) (h : Fin 2) (d : Fin 64) :
    val_main_v136 (F := Ideal) x0 x1 x2 (ix4 0 i h d) = turn (proj x0 x1 x2 i) i (2568 + (64 * h.val + d.val)) d := by
  pointwise [val_main_v136, val_main_v135, val_main_v134, val_main_v133, val_main_v132, val_main_v131, val_main_v130, val_main_v129, val_main_v128, val_main_v127, val_main_v126, val_main_v125, val_main_v124, val_main_v123, val_main_v122, val_main_v121, val_main_v120, val_main_v102, val_main_v101, val_main_v19, val_main_v18]
  simp only [proj_apply, angle_w]
  unfold turn
  split_ifs with hd
  · refine congrArg₂ _ (congrArg (proj x0 x1 x2 i · * _) ?_) (congrArg (proj x0 x1 x2 i · * _) ?_) <;> omega
  · refine congrArg₂ _ (congrArg (proj x0 x1 x2 i · * _) ?_) (congrArg (proj x0 x1 x2 i · * _) ?_) <;> omega
  · rename_i h3
    exact absurd rfl h3

/-- The gates' columns, -/
theorem z_apply (i : Fin 16384) (c : Fin 512) : val_main_v147 (F := Ideal) x0 x1 x2 (ix2 i c) = proj x0 x1 x2 i c.val := by
  pointwise [val_main_v147, val_main_v146]
  rw [proj_apply]

/-- those of the convolution, -/
theorem xbc_apply (i : Fin 16384) (c : Fin 1024) : val_main_v149 (F := Ideal) x0 x1 x2 (ix2 i c) = proj x0 x1 x2 i (512 + c.val) := by
  pointwise [val_main_v149, val_main_v148]
  rw [proj_apply]

/-- the steps and the attention's gates side by side, -/
theorem dtg_apply (i : Fin 16384) (c : Fin 128) : val_main_v150 (F := Ideal) x0 x1 x2 (ix2 i c)
    = if c.val < 8 then proj x0 x1 x2 i (1536 + c.val) else if c.val < 32 then proj x0 x1 x2 i (2816 + c.val) else 0 := by
  pointwise [val_main_v150, val_main_v145, val_main_v144, val_main_v143, val_main_v142, val_main_cst_17]
  simp only [proj_apply]
  split_ifs <;> first | rfl | omega | (refine congrArg (proj x0 x1 x2 i) ?_; omega)

/-- the queries, -/
theorem q_apply (i : Fin 16384) (c : Fin 512) : val_main_v151 (F := Ideal) x0 x1 x2 (ix2 i c) = proj x0 x1 x2 i (1544 + c.val) := by
  pointwise [val_main_v151, val_main_v17, val_main_v16]
  rw [proj_apply]

/-- the rotated queries, -/
theorem qr_apply (i : Fin 16384) (c : Fin 512) :
    val_main_v152 (F := Ideal) x0 x1 x2 (ix2 i c) = turn (proj x0 x1 x2 i) i (1544 + c.val) (lane c.val) := by
  pointwise [val_main_v152]
  rw [turned_q]
  refine congrArg₂ _ ?_ rfl
  show 1544 + (64 * (c.val / 64) + c.val % 64) = 1544 + c.val
  omega

/-- the cache's rows, the selected keys among them rotated, -/
theorem kv_apply (i : Fin 16384) (c : Fin 512) : val_main_v153 (F := Ideal) x0 x1 x2 (ix2 i c)
    = if 256 ≤ c.val ∧ c.val < 384 then turn (proj x0 x1 x2 i) i (2056 + c.val) (lane c.val) else proj x0 x1 x2 i (2056 + c.val) := by
  pointwise [val_main_v153, val_main_v100, val_main_v99, val_main_v98, val_main_v97, val_main_v96, val_main_v95, val_main_v94, val_main_v57, val_main_v56, val_main_v55, val_main_v54, val_main_v19, val_main_v18]
  simp only [proj_apply, turned_k]
  have hc := c.isLt
  split_ifs <;> first
    | omega
    | (refine congrArg (proj x0 x1 x2 i) ?_; omega)
    | (refine Eq.trans ?_ (if_pos ⟨by omega, by omega⟩).symm; refine congrArg₂ (turn (proj x0 x1 x2 i) i) ?_ rfl; show 2312 + (64 * (c.val / 64 % 2) + c.val % 64) = 2056 + c.val; omega)

/-- and the window's rows, the keys rotated. -/
theorem win_apply (i : Fin 16384) (c : Fin 256) : val_main_v154 (F := Ideal) x0 x1 x2 (ix2 i c)
    = if c.val < 128 then turn (proj x0 x1 x2 i) i (2568 + c.val) (lane c.val) else proj x0 x1 x2 i (2568 + c.val) := by
  pointwise [val_main_v154, val_main_v141, val_main_v140, val_main_v139, val_main_v138, val_main_v137, val_main_v19, val_main_v18]
  simp only [proj_apply, turned_w]
  have hc := c.isLt
  split_ifs <;> first
    | omega
    | (refine congrArg (proj x0 x1 x2 i) ?_; omega)
    | (refine congrArg₂ (turn (proj x0 x1 x2 i) i) ?_ rfl; show 2568 + (64 * (c.val / 64 % 2) + c.val % 64) = 2568 + c.val; omega)

end Cert.FrontReferenceIdeal.Value
end
-- ==== Proof.FrontValue.lean ====
module

public import proofs.«01_k».proof.Proof.FrontPoints
public import proofs.«01_k».proof.Proof.FrontBlocks
public import proofs.«01_k».proof.Proof.FrontReferenceValue

@[expose] public section

set_option maxRecDepth 16384
set_option maxHeartbeats 1000000
noncomputable section

/-!
The front's call: each of the seven arrays it returns is the reference's.
-/

namespace Cert.FrontIdeal.Value

open Cert.FrontIdeal Cert.FrontIdeal.Gen Idealize.ShloMosaic Idealize.ShloMosaic.TcCoe Idealize.SL.Sem
open Idealize.ShloMosaic.Pipeline (Dat)
open Cert.FrontMath

variable (m : (ℓ : Loc nD τ sig) → Buf (Elt Ideal) ℓ)

/-- The projection of a row of the kernel's arguments. -/
def P (c : Dev nD) (i : Fin 16384) : ℕ → EReal :=
  proj (m ((c : Thread nD τ).loc main_arg0)) (m ((c : Thread nD τ).loc main_arg1)) (m ((c : Thread nD τ).loc main_arg2)) i

/-- A row is zero past the weights' last column. -/
theorem P_past (c : Dev nD) (i : Fin 16384) (n : ℕ) (h : 2848 ≤ n) : P m c i n = 0 := by
  unfold P proj
  refine Finset.sum_eq_zero fun l _ => ?_
  rw [← col_past _ l n h, mul_zero]

/-- A point's projected rows. -/
abbrev rows (c : Dev nD) (t : Fin cfg0.N) : FVec Ideal S256x2944 .f32 := k0_pay7 (F := Ideal) (iblk m c 0 t) (iblk m c 1 t) (iblk m c 2 t)

/-- They are the prompt's, their columns in the kernel's order. -/
theorem rows_apply (c : Dev nD) (t : Fin cfg0.N) (r : Fin 256) (k : Fin 2944) :
    rows m c t (ix2 r k) = P m c (rowNo t r) (source k.val) := by
  refine (pay7_apply _ _ _ r k).trans ?_
  unfold P proj normed
  simp only [block0, block1, block2]

/-- The tables' blocks are read as they are. -/
theorem cos_apply (c : Dev nD) (t : Fin cfg0.N) (r : Fin 256) (j : Fin 128) :
    k0_pay8 (F := Ideal) (iblk m c 3 t) (ix2 r j) = Ideal.cos (angle (rowNo t r) (pair j)) := by
  refine Eq.trans ?_ (block3 m c t r j)
  pointwise [k0_pay8]

/-- The sines' block at a row and a lane. -/
theorem sin_apply (c : Dev nD) (t : Fin cfg0.N) (r : Fin 256) (j : Fin 128) :
    k0_pay9 (F := Ideal) (iblk m c 4 t) (ix2 r j)
      = if j.val % 64 < 32 then -Ideal.sin (angle (rowNo t r) (pair j)) else Ideal.sin (angle (rowNo t r) (pair j)) := by
  refine Eq.trans ?_ (block4 m c t r j)
  pointwise [k0_pay9]

/-- A rotated slab of columns in the kernel's order is the row rotated. -/
theorem slab_turn (Q : ℕ → EReal) (i : Fin 16384) (o b : ℕ) (hl : 1536 ≤ o) (hh : o + 128 ≤ 2816) (hb : b % 64 = 0) (j : Fin 128) :
    slab (fun n => Q (source n)) (Ideal.cos (angle i (pair j)))
      (if j.val % 64 < 32 then -Ideal.sin (angle i (pair j)) else Ideal.sin (angle i (pair j))) o j
      = turn Q i (o + 8 + j.val) (lane (b + j.val)) := by
  have hj := j.isLt
  have e (n : ℕ) (h : 1536 ≤ n) (h' : n < 2816) : source n = n + 8 := (source_cases n).2.1 h h'
  have hd : (lane (b + j.val)).val = j.val % 64 := show (b + j.val) % 64 = j.val % 64 by omega
  unfold slab turn
  beta_reduce
  by_cases h : j.val % 64 < 32
  · have hp : (⟨(lane (b + j.val)).val, by omega⟩ : Fin 32) = pair j := Fin.ext (show (b + j.val) % 64 = j.val % 32 by omega)
    rw [dif_pos (by omega), if_pos h, if_pos h, hp, e _ (by omega) (by omega), e _ (by omega) (by omega), mul_neg, ← sub_eq_add_neg,
      show o + j.val + 8 = o + 8 + j.val by omega, show o + j.val + 32 + 8 = o + 8 + j.val + 32 by omega]
  · have hp : (⟨(lane (b + j.val)).val - 32, by omega⟩ : Fin 32) = pair j := Fin.ext (show (b + j.val) % 64 - 32 = j.val % 32 by omega)
    rw [dif_neg (by omega), if_neg h, if_neg h, hp, e _ (by omega) (by omega), e _ (by omega) (by omega),
      show o + j.val + 8 = o + 8 + j.val by omega, show o + j.val - 32 + 8 = o + 8 + j.val - 32 by omega]

/-- A point's block of the gates holds the projected row's first columns, -/
theorem out5 (c : Dev nD) (t : Fin cfg0.N) (r : Fin 256) (k : Fin 512) :
    (outsAt0 m c t).1 (ix2 r k) = P m c (rowNo t r) (k.val) := by
  have e : (outsAt0 m c t).1 = k0_pay14 (F := Ideal) (rows m c t) := by
    unfold outsAt0
    dsimp only
    frame_out
  have hk := k.isLt
  rw [e, pay14_apply (rows m c t) (fun r n => P m c (rowNo t r) (source n)) (rows_apply m c t)]
  rw [(source_cases _).1 (by omega), Nat.zero_add]

/-- that of the convolution's rows the next ones, -/
theorem out6 (c : Dev nD) (t : Fin cfg0.N) (r : Fin 256) (k : Fin 1024) :
    (outsAt0 m c t).2.1 (ix2 r k) = P m c (rowNo t r) (512 + k.val) := by
  have e : (outsAt0 m c t).2.1 = k0_pay15 (F := Ideal) (rows m c t) := by
    unfold outsAt0
    dsimp only
    frame_out
  have hk := k.isLt
  rw [e, pay15_apply (rows m c t) (fun r n => P m c (rowNo t r) (source n)) (rows_apply m c t)]
  rw [(source_cases _).1 (by omega)]

/-- that of the steps and the attention's gates theirs, with zeros after, -/
theorem out7 (c : Dev nD) (t : Fin cfg0.N) (r : Fin 256) (k : Fin 128) :
    (outsAt0 m c t).2.2.1 (ix2 r k) = if k.val < 8 then P m c (rowNo t r) (1536 + k.val) else if k.val < 32 then P m c (rowNo t r) (2816 + k.val) else 0 := by
  have e : (outsAt0 m c t).2.2.1 = k0_pay16 (F := Ideal) (rows m c t) := by
    unfold outsAt0
    dsimp only
    frame_out
  have hk := k.isLt
  rw [e, pay16_apply (rows m c t) (fun r n => P m c (rowNo t r) (source n)) (rows_apply m c t)]
  obtain ⟨h1, h2, h3, h4⟩ := source_cases (2816 + k.val)
  split_ifs with h h'
  · rw [h3 (by omega) (by omega), show 2816 + k.val - 1280 = 1536 + k.val by omega]
  · rw [h4 (by omega)]
  · rw [h4 (by omega), P_past m c _ _ (by omega)]

/-- and that of the queries theirs. -/
theorem out8 (c : Dev nD) (t : Fin cfg0.N) (r : Fin 256) (k : Fin 512) :
    (outsAt0 m c t).2.2.2.1 (ix2 r k) = P m c (rowNo t r) (1544 + k.val) := by
  have e : (outsAt0 m c t).2.2.2.1 = k0_pay17 (F := Ideal) (rows m c t) := by
    unfold outsAt0
    dsimp only
    frame_out
  have hk := k.isLt
  rw [e, pay17_apply (rows m c t) (fun r n => P m c (rowNo t r) (source n)) (rows_apply m c t)]
  rw [(source_cases _).2.1 (by omega) (by omega), show 1536 + k.val + 8 = 1544 + k.val by omega]

/-- A slab's store holds the rotated row, -/
theorem turned (c : Dev nD) (t : Fin cfg0.N) (r : Fin 256) (o b : ℕ) (hl : 1536 ≤ o) (hh : o + 128 ≤ 2816) (hb : b % 64 = 0) (j : Fin 128) :
    slab (fun n => P m c (rowNo t r) (source n)) (k0_pay8 (F := Ideal) (iblk m c 3 t) (ix2 r j)) (k0_pay9 (F := Ideal) (iblk m c 4 t) (ix2 r j)) o j
      = turn (P m c (rowNo t r)) (rowNo t r) (o + 8 + j.val) (lane (b + j.val)) := by
  rw [cos_apply, sin_apply]
  exact slab_turn _ _ o b hl hh hb j

/-- and a plain one the row. -/
theorem plain (c : Dev nD) (t : Fin cfg0.N) (r : Fin 256) (n : ℕ) (hl : 1536 ≤ n) (hh : n < 2816) :
    P m c (rowNo t r) (source n) = P m c (rowNo t r) (n + 8) := by
  rw [(source_cases _).2.1 hl hh]

/-- The rotated queries of a row, by their column, -/
def turnedQueries (c : Dev nD) (i : Fin 16384) (n : ℕ) : EReal := turn (P m c i) i (1544 + n) (lane n)

/-- the cache's row, the selected keys rotated, -/
def cacheRow (c : Dev nD) (i : Fin 16384) (n : ℕ) : EReal :=
  if 256 ≤ n ∧ n < 384 then turn (P m c i) i (2056 + n) (lane n) else P m c i (2056 + n)

/-- and the window's row, the keys rotated. -/
def windowRow (c : Dev nD) (i : Fin 16384) (n : ℕ) : EReal :=
  if n < 128 then turn (P m c i) i (2568 + n) (lane n) else P m c i (2568 + n)

/-- The rotated queries, in four slabs. -/
theorem out9 (c : Dev nD) (t : Fin cfg0.N) (r : Fin 256) (k : Fin 512) :
    (outsAt0 m c t).2.2.2.2.1 (ix2 r k) = turnedQueries m c (rowNo t r) k.val := by
  unfold outsAt0
  dsimp only
  frame_out
  have hk := k.isLt
  refine band_step _ _ _ r (turnedQueries m c (rowNo t r)) (fun j => (pay1_apply (rows m c t) _ _ (fun r n => P m c (rowNo t r) (source n)) (rows_apply m c t) r j).trans ?_) (fun k hk => ?_) k (by omega)
  · have hj := j.isLt
    refine (turned m c t r 1920 384 (by omega) (by omega) (by omega) j).trans ?_
    exact congrArg₂ (turn _ _) (by omega) rfl
  refine band_step _ _ _ r (turnedQueries m c (rowNo t r)) (fun j => (pay20_apply (rows m c t) _ _ (fun r n => P m c (rowNo t r) (source n)) (rows_apply m c t) r j).trans ?_) (fun k hk => ?_) k (by omega)
  · have hj := j.isLt
    refine (turned m c t r 1792 256 (by omega) (by omega) (by omega) j).trans ?_
    exact congrArg₂ (turn _ _) (by omega) rfl
  refine band_step _ _ _ r (turnedQueries m c (rowNo t r)) (fun j => (pay19_apply (rows m c t) _ _ (fun r n => P m c (rowNo t r) (source n)) (rows_apply m c t) r j).trans ?_) (fun k hk => ?_) k (by omega)
  · have hj := j.isLt
    refine (turned m c t r 1664 128 (by omega) (by omega) (by omega) j).trans ?_
    exact congrArg₂ (turn _ _) (by omega) rfl
  refine band_step _ _ _ r (turnedQueries m c (rowNo t r)) (fun j => (pay18_apply (rows m c t) _ _ (fun r n => P m c (rowNo t r) (source n)) (rows_apply m c t) r j).trans ?_) (fun k hk => ?_) k (by omega)
  · have hj := j.isLt
    refine (turned m c t r 1536 0 (by omega) (by omega) (by omega) j).trans ?_
    exact congrArg₂ (turn _ _) (by omega) rfl
  exact absurd hk (Nat.not_lt_zero _)

/-- The cache's rows, in three bands. -/
theorem out10 (c : Dev nD) (t : Fin cfg0.N) (r : Fin 256) (k : Fin 512) :
    (outsAt0 m c t).2.2.2.2.2.1 (ix2 r k) = cacheRow m c (rowNo t r) k.val := by
  unfold outsAt0
  dsimp only
  frame_out
  have hk := k.isLt
  refine band_step _ _ _ r (cacheRow m c (rowNo t r)) (fun j => (pay4_apply (rows m c t) (fun r n => P m c (rowNo t r) (source n)) (rows_apply m c t) r j).trans ?_) (fun k hk => ?_) k (by omega)
  · have hj := j.isLt
    refine (plain m c t r (2432 + j.val) (by omega) (by omega)).trans ?_
    refine Eq.trans ?_ (if_neg (by omega)).symm
    exact congrArg _ (by omega)
  refine band_step _ _ _ r (cacheRow m c (rowNo t r)) (fun j => (pay3_apply (rows m c t) _ _ (fun r n => P m c (rowNo t r) (source n)) (rows_apply m c t) r j).trans ?_) (fun k hk => ?_) k (by omega)
  · have hj := j.isLt
    refine (turned m c t r 2304 256 (by omega) (by omega) (by omega) j).trans ?_
    refine Eq.trans ?_ (if_pos (by omega)).symm
    exact congrArg₂ (turn _ _) (by omega) rfl
  refine band_step _ _ _ r (cacheRow m c (rowNo t r)) (fun j => (pay2_apply (rows m c t) (fun r n => P m c (rowNo t r) (source n)) (rows_apply m c t) r j).trans ?_) (fun k hk => ?_) k (by omega)
  · have hj := j.isLt
    refine (plain m c t r (2048 + j.val) (by omega) (by omega)).trans ?_
    refine Eq.trans ?_ (if_neg (by omega)).symm
    exact congrArg _ (by omega)
  exact absurd hk (Nat.not_lt_zero _)

/-- The window's rows, in two bands. -/
theorem out11 (c : Dev nD) (t : Fin cfg0.N) (r : Fin 256) (k : Fin 256) :
    (outsAt0 m c t).2.2.2.2.2.2 (ix2 r k) = windowRow m c (rowNo t r) k.val := by
  unfold outsAt0
  dsimp only
  frame_out
  have hk := k.isLt
  refine band_step _ _ _ r (windowRow m c (rowNo t r)) (fun j => (pay6_apply (rows m c t) (fun r n => P m c (rowNo t r) (source n)) (rows_apply m c t) r j).trans ?_) (fun k hk => ?_) k (by omega)
  · have hj := j.isLt
    refine (plain m c t r (2688 + j.val) (by omega) (by omega)).trans ?_
    refine Eq.trans ?_ (if_neg (by omega)).symm
    exact congrArg _ (by omega)
  refine band_step _ _ _ r (windowRow m c (rowNo t r)) (fun j => (pay5_apply (rows m c t) _ _ (fun r n => P m c (rowNo t r) (source n)) (rows_apply m c t) r j).trans ?_) (fun k hk => ?_) k (by omega)
  · have hj := j.isLt
    refine (turned m c t r 2560 0 (by omega) (by omega) (by omega) j).trans ?_
    refine Eq.trans ?_ (if_pos (by omega)).symm
    exact congrArg₂ (turn _ _) (by omega) rfl
  exact absurd hk (Nat.not_lt_zero _)

/-! ## The arrays -/

/-- Every result takes the block of the point's number. -/
theorem idxOut (t : Fin cfg0.N) : win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0] := by
  revert t; decide +kernel

/-- The gates' array is the reference's, -/
theorem final5 (c : Dev nD) : (dats m 0 c).arrAt 5 (cfgs 0).N
    = Cert.FrontReferenceIdeal.Read.val_main_v147 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨r, k, rfl⟩ : ∃ (r : Fin 256) (k : Fin 512), y = ix2 r k := ⟨y 0, y 1, by funext d; fin_cases d <;> rfl⟩
  have he : ((cfg0.win 5).blk t).view.emb (ix2 r k) = ix2 (rowNo t r) k := by
    unfold rowNo
    blk_ext [idxOut t]
  blk_simp
  rw [after0_5]
  refine (out5 m c t r k).trans ?_
  refine Eq.trans ?_ (congrArg _ he.symm)
  exact (Cert.FrontReferenceIdeal.Value.z_apply _ _ _ (rowNo t r) k).symm

/-- so is the convolution's, -/
theorem final6 (c : Dev nD) : (dats m 0 c).arrAt 6 (cfgs 0).N
    = Cert.FrontReferenceIdeal.Read.val_main_v149 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  obtain ⟨r, k, rfl⟩ : ∃ (r : Fin 256) (k : Fin 1024), y = ix2 r k := ⟨y 0, y 1, by funext d; fin_cases d <;> rfl⟩
  have he : ((cfg0.win 6).blk t).view.emb (ix2 r k) = ix2 (rowNo t r) k := by
    unfold rowNo
    blk_ext [idxOut t]
  blk_simp
  rw [after0_6]
  refine (out6 m c t r k).trans ?_
  refine Eq.trans ?_ (congrArg _ he.symm)
  exact (Cert.FrontReferenceIdeal.Value.xbc_apply _ _ _ (rowNo t r) k).symm

/-- the steps' and gates', -/
theorem final7 (c : Dev nD) : (dats m 0 c).arrAt 7 (cfgs 0).N
    = Cert.FrontReferenceIdeal.Read.val_main_v150 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  obtain ⟨r, k, rfl⟩ : ∃ (r : Fin 256) (k : Fin 128), y = ix2 r k := ⟨y 0, y 1, by funext d; fin_cases d <;> rfl⟩
  have he : ((cfg0.win 7).blk t).view.emb (ix2 r k) = ix2 (rowNo t r) k := by
    unfold rowNo
    blk_ext [idxOut t]
  blk_simp
  rw [after0_7]
  refine (out7 m c t r k).trans ?_
  refine Eq.trans ?_ (congrArg _ he.symm)
  exact (Cert.FrontReferenceIdeal.Value.dtg_apply _ _ _ (rowNo t r) k).symm

/-- the queries', -/
theorem final8 (c : Dev nD) : (dats m 0 c).arrAt 8 (cfgs 0).N
    = Cert.FrontReferenceIdeal.Read.val_main_v151 (F := Ideal) (m ((c : Thread nD τ).loc main_arg0)) (m ((c : Thread nD τ).loc main_arg1)) (m ((c : Thread nD τ).loc main_arg2)) := by
  refine (dats m 0 c).arrAt_eq_of_covers 8 _ (by decide +kernel) fun t hf y => ?_
  obtain ⟨r, k, rfl⟩ : ∃ (r : Fin 256) (k : Fin 512), y = ix2 r k := ⟨y 0, y 1, by funext d; fin_cases d <;> rfl⟩
  have he : ((cfg0.win 8).blk t).view.emb (ix2 r k) = ix2 (rowNo t r) k := by
    unfold rowNo
    blk_ext [idxOut t]
  blk_simp
  rw [after0_8]
  refine (out8 m c t r k).trans ?_
  refine Eq.trans ?_ (congrArg _ he.symm)
  exact (Cert.FrontReferenceIdeal.Value.q_apply _ _ _ (rowNo t r) k).symm

/-- the rotated queries', -/
theorem final9 (c : Dev nD) : (dats m 0 c).arrAt 9 (cfgs 0).N
    = Cert.FrontReferenceIdeal.Read.val_main_v152 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  obtain ⟨r, k, rfl⟩ : ∃ (r : Fin 256) (k : Fin 512), y = ix2 r k := ⟨y 0, y 1, by funext d; fin_cases d <;> rfl⟩
  have he : ((cfg0.win 9).blk t).view.emb (ix2 r k) = ix2 (rowNo t r) k := by
    unfold rowNo
    blk_ext [idxOut t]
  blk_simp
  rw [after0_9]
  refine (out9 m c t r k).trans ?_
  refine Eq.trans ?_ (congrArg _ he.symm)
  exact (Cert.FrontReferenceIdeal.Value.qr_apply _ _ _ (rowNo t r) k).symm

/-- the cache rows' -/
theorem final10 (c : Dev nD) : (dats m 0 c).arrAt 10 (cfgs 0).N
    = Cert.FrontReferenceIdeal.Read.val_main_v153 (F := Ideal) (m ((c : Thread nD τ).loc main_arg0)) (m ((c : Thread nD τ).loc main_arg1)) (m ((c : Thread nD τ).loc main_arg2)) := by
  refine (dats m 0 c).arrAt_eq_of_covers 10 _ (by decide +kernel) fun t hf y => ?_
  obtain ⟨r, k, rfl⟩ : ∃ (r : Fin 256) (k : Fin 512), y = ix2 r k := ⟨y 0, y 1, by funext d; fin_cases d <;> rfl⟩
  have he : ((cfg0.win 10).blk t).view.emb (ix2 r k) = ix2 (rowNo t r) k := by
    unfold rowNo
    blk_ext [idxOut t]
  blk_simp
  rw [after0_10]
  refine (out10 m c t r k).trans ?_
  refine Eq.trans ?_ (congrArg _ he.symm)
  exact (Cert.FrontReferenceIdeal.Value.kv_apply _ _ _ (rowNo t r) k).symm

/-- and the window rows'. -/
theorem final11 (c : Dev nD) : (dats m 0 c).arrAt 11 (cfgs 0).N
    = Cert.FrontReferenceIdeal.Read.val_main_v154 (F := Ideal) (m ((c : Thread nD τ).loc main_arg0)) (m ((c : Thread nD τ).loc main_arg1)) (m ((c : Thread nD τ).loc main_arg2)) := by
  refine (dats m 0 c).arrAt_eq_of_covers 11 _ (by decide +kernel) fun t hf y => ?_
  obtain ⟨r, k, rfl⟩ : ∃ (r : Fin 256) (k : Fin 256), y = ix2 r k := ⟨y 0, y 1, by funext d; fin_cases d <;> rfl⟩
  have he : ((cfg0.win 11).blk t).view.emb (ix2 r k) = ix2 (rowNo t r) k := by
    unfold rowNo
    blk_ext [idxOut t]
  blk_simp
  rw [after0_11]
  refine (out11 m c t r k).trans ?_
  refine Eq.trans ?_ (congrArg _ he.symm)
  exact (Cert.FrontReferenceIdeal.Value.win_apply _ _ _ (rowNo t r) k).symm

end Cert.FrontIdeal.Value
end
-- ==== Proof.MoeIdealRun.lean ====
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.ValueKit
public import Idealize.ShloMosaic.Lib.Pipeline.Kit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

/-! One run of the experts' body, of the idealized program. Whatever the two conditions say at the grid point, the body ends with its four
    input blocks as they were, and with the output block and the copy of the rows each a function of what it
    found (`rowsAfter`, `sumAfter`). -/

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MoeIdeal.Gen

variable {F : FTy → Type} [FloatOps F]

local notation "𝕄" => MT nD τ sig Unit (Elt F) ℕ (UR sig nD τ) ℕ

/-- The rows kept at half width after the body: taken afresh from the row block at the first hidden tile, and
    otherwise as they were. -/
def rowsAfter (i : grid0.Coords) (x : Vec F S1024x1024 .f32) (s : Vec F S1024x1024 .bf16) : Vec F S1024x1024 .bf16 :=
  if k0_cond1 i = 1#1 then k0_pay2 x else s

/-- What the output block is accumulated onto: zero at the first hidden tile, and otherwise what it held. -/
def sumBefore (i : grid0.Coords) (o : Vec F S1024x1024 .f32) : Vec F S1024x1024 .f32 :=
  if k0_cond1 i = 1#1 then k0_pay1 else o

/-- The output block after the body: with the tile's product added where the row block is in use (`b`: the
    number of blocks in use), and otherwise only reset, if it is. -/
def sumAfter (i : grid0.Coords) (b : BitVec 32) (x : Vec F S1024x1024 .f32) (wg wu : Vec F S1x1024x512 .f32)
    (wd : Vec F S1x512x1024 .f32) (o : Vec F S1024x1024 .f32) (s : Vec F S1024x1024 .bf16) : Vec F S1024x1024 .f32 :=
  if k0_cond2 i b = 1#1 then k0_pay3 (rowsAfter i x s) wg wu (sumBefore i o) wd else sumBefore i o

/-- The two tables as the body is handed them. -/
abbrev blockTable : Memref sig .tc .smem S40 .i32 := Memref.whole main_arg0
abbrev countTable : Memref sig .tc .smem S1 .i32 := Memref.whole main_arg1

/-- A table held for reading, at half the full share: the pipeline keeps the other half. -/
abbrev heldTable (c : Dev nD) {S : Shape} {e : EltTy} (M : Memref sig .tc .smem S e) (f : Buf (Elt F) (M.view.loc (c : Thread nD τ))) : sProp 𝕄 :=
  M.view.loc (c : Thread nD τ) ↦{fullShare.right} f

/-- The number of row blocks in use, as the second table holds it. -/
abbrev inUse (pf : pre0.Contents (Elt F)) : BitVec 32 := pf.atD 1 ![0]

/-- The word the body loads from the second table is that number. -/
theorem inUse_load (pf : pre0.Contents (Elt F)) (inb : ∀ a, (![0] : Fin 1 → Nat) a + S1.size a ≤ S1.size a) (h : 0 < (Rect.unit (s := S1) ![0] S1.size inb).toLoadRect.shape.numel) :
    View.readAt (Elt F) countTable.view (Rect.unit (s := S1) ![0] S1.size inb).toLoadRect (pf 1) (Shape.Idx.first h) = inUse pf := by
  unfold inUse Pipeline.Prefetch.Contents.atD
  rw [dif_pos (by decide)]
  refine congrArg (pf 1) (funext fun a => ?_)
  obtain rfl : a = (0 : Fin 1) := Subsingleton.elim (α := Fin 1) _ _
  exact Subsingleton.elim (α := Fin 1) _ _

set_option maxHeartbeats 1600000 in
/-- THE BODY'S RUN at any grid point and on any whole blocks: from the input blocks `x`, `wg`, `wu`, `wd`, the output
    block at `o`, the kept rows at `s` and the tables, the body ends with the inputs and the tables unchanged, the
    output block at `sumAfter` and the kept rows at `rowsAfter`. -/
theorem body_run (c : Dev nD) (i : grid0.Coords) (arg4 : Memref sig .tc .vmem S1024x1024 .f32) (harg4 : arg4.IsWhole) (arg5 : Memref sig .tc .vmem S1x1024x512 .f32) (harg5 : arg5.IsWhole) (arg6 : Memref sig .tc .vmem S1x1024x512 .f32) (harg6 : arg6.IsWhole) (arg7 : Memref sig .tc .vmem S1x512x1024 .f32) (harg7 : arg7.IsWhole) (arg8 : Memref sig .tc .vmem S1024x1024 .f32) (harg8 : arg8.IsWhole) (arg9 : Memref sig .tc .vmem S1024x1024 .bf16) (harg9 : arg9.IsWhole)
    (x : Vec F S1024x1024 .f32) (wg wu : Vec F S1x1024x512 .f32) (wd : Vec F S1x512x1024 .f32) (o : Vec F S1024x1024 .f32) (s : Vec F S1024x1024 .bf16)
    (pf : pre0.Contents (Elt F)) (E : Set ℕ) (K : PUnit → sProp 𝕄) :
    iprop(owns (c : Thread nD τ) arg4 fullShare x ∗ owns (c : Thread nD τ) arg5 fullShare wg ∗ owns (c : Thread nD τ) arg6 fullShare wu ∗ owns (c : Thread nD τ) arg7 fullShare wd ∗ owns (c : Thread nD τ) arg8 fullShare o ∗ owns (c : Thread nD τ) arg9 fullShare s ∗ heldTable c blockTable (pf 0) ∗ heldTable c countTable (pf 1)
        ∗ (iprop(owns (c : Thread nD τ) arg4 fullShare x ∗ owns (c : Thread nD τ) arg5 fullShare wg ∗ owns (c : Thread nD τ) arg6 fullShare wu ∗ owns (c : Thread nD τ) arg7 fullShare wd ∗ owns (c : Thread nD τ) arg8 fullShare (sumAfter i (inUse pf) x wg wu wd o s) ∗ owns (c : Thread nD τ) arg9 fullShare (rowsAfter i x s) ∗ heldTable c blockTable (pf 0) ∗ heldTable c countTable (pf 1)) -∗ K ⟨⟩))
      ⊢ wp frame (wpE (defs₀ (F := F)) Variants.none c none) E (cc0__moe_kernel i blockTable (Memref.isWhole_whole _) countTable (Memref.isWhole_whole _) arg4 harg4 arg5 harg5 arg6 harg6 arg7 harg7 arg8 harg8 arg9 harg9) K := by
  simp only [cc0__moe_kernel_eq_skeleton]; unfold cc0__moe_kernel_skel
  by_cases h1 : k0_cond1 i = 1#1
  all_goals
    unfold owns
    iintro ⟨⟨%f0, %hf0, H0⟩, ⟨%f1, %hf1, H1⟩, ⟨%f2, %hf2, H2⟩, ⟨%f3, %hf3, H3⟩, ⟨%f4, %hf4, H4⟩, ⟨%fs0, %hfs, HS0⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hfs
    sl_exec (disch := first | sl_exact h1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr
      swap; · iexact H4
      ipureintro
      sl_unfold_words
      unfold sumAfter rowsAfter sumBefore
      split
      next hc =>
        rw [if_pos (show k0_cond2 i (inUse pf) = 1#1 from (congrArg (fun n => k0_cond2 i n = 1#1) (inUse_load pf inb_S1_S1_0 (by decide))).mp hc)]
        refine (View.read_writes_full _ _ _ _ _).trans ?_
        simp only [h1, ↓reduceIte, ↓View.readCov_full, ↓View.readAt_full, harg4.read_unread, harg5.read_unread, harg6.read_unread, harg7.read_unread, harg8.read_unread, harg9.read_unread]
      next hc =>
        rw [if_neg (show ¬ k0_cond2 i (inUse pf) = 1#1 from fun h => hc ((congrArg (fun n => k0_cond2 i n = 1#1) (inUse_load pf inb_S1_S1_0 (by decide))).mpr h))]
        first
          | refine (View.read_writes_full _ _ _ _ _).trans ?_
          | refine (harg8.read_unread _).trans ?_
        simp only [h1, ↓reduceIte]
    isplitl [HS0]
    · iexists _; isplitr
      swap; · iexact HS0
      ipureintro
      sl_unfold_words
      unfold rowsAfter
      first
        | refine (View.read_writes_full _ _ _ _ _).trans ?_
        | refine (harg9.read_unread _).trans ?_
      simp only [h1, ↓reduceIte, ↓View.readAt_full, harg4.read_unread]
    isplitl [HT0]; · iexact HT0
    iexact HT1

end Cert.MoeIdeal.Experts

end
-- ==== Proof.MoeIdealFrame.lean ====
module

public import proofs.«01_k».proof.Proof.MoeIdealRun
public import Idealize.ShloMosaic.Lib.Claim
public import Idealize.ShloMosaic.Lib.Pipeline.TableIdle

@[expose] public section

set_option maxRecDepth 16384

noncomputable section

/-! The experts' launch, of the idealized program, for any contents of the two tables that keep the weights' blocks inside their arrays. The
    output block is left alone at the points of the row blocks that are not in use, except at the first hidden tile,
    where it is reset: what it holds after each point is stated by one recursion (`held`), which those points carry
    on unchanged. -/

namespace Cert.MoeIdeal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MoeIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The buffers of core `c` as the region finds them: as launched, the program being the region alone. -/
abbrev V (c : Dev nD) (b : Ref sig .tc) : Buf (Elt F) ((c : Thread nD τ).loc b) := m ((c : Thread nD τ).loc b)

set_option maxHeartbeats 800000 in
/-- The program is the region on those buffers. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents, read off the launch memory. -/
def tbl : pre0.Contents (Elt F) := fun j => V m (0 : Dev nD) (pre0.ref j)

/-- Every device finds those contents, there being one. -/
theorem V_pre (c : Dev nD) (j : Fin 2) : V m c (pre0.ref j) = tbl m j := by
  obtain rfl : c = 0 := Subsingleton.elim _ _; rfl

/-- What is asked of the tables: the blocks they name lie inside the weights' arrays. -/
abbrev Ok : Prop := ok0 (F := F) (tbl m)

/-- The tables as contents the pipeline admits, and the pipeline on them. -/
abbrev adm (hO : Ok m) : (pcfg0 (F := F)).Adm := ⟨tbl m, hO⟩
abbrev cfgM (hO : Ok m) : Pipeline.Cfg sig Λ₀ := cfg0 (adm m hO)

/-- The halves of the tables the region lends the body, one by one. -/
theorem tables_held (c : Dev nD) : (Pipeline.ΦT pre0 (tbl m) c : sProp 𝕄) = iprop(heldTable c blockTable (tbl m 0) ∗ heldTable c countTable (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The points -/

/-- There are 280 points: 40 row blocks of seven hidden tiles. -/
theorem points (hO : Ok m) : (cfgM m hO).N = 280 := N_0

/-- The output block is written back at the last hidden tile of each row block. -/
theorem flush_out (hO : Ok m) : ∀ t : Fin (cfgM m hO).N, ((cfgM m hO).win 4).flush t = true ↔ t.val % 7 = 6 :=
  (fun t => Pipeline.Window.flushOf_reads cc0_transform_4 reads0_4 hreads0_4 0 (by decide) (by decide) (Pipeline.Window.sep_of_coord cc0_transform_4 0 0 (fun _ => rfl) (by decide)) (P := 7) (m := 6) (by decide) rfl t : ∀ t : Fin grid0.N, Pipeline.Window.flushOf grid0 true cc0_transform_4 t = true ↔ t.val % 7 = 6)

/-- The body's first condition holds at the first hidden tile of each row block. -/
theorem first_tile : ∀ t : Fin grid0.N, k0_cond1 (grid0.coords t) = 1#1 ↔ t.val % 7 = 0 :=
  fun t => by
    have ht : t.val < 280 := Nat.lt_of_lt_of_eq t.isLt N_0
    have e0 : (grid0.coords t 0).val = t.val / 7 % 40 := Pipeline.Grid.coords_val t 0 (by decide) rfl
    have e1 : (grid0.coords t 1).val = t.val / 1 % 7 := Pipeline.Grid.coords_val t 1 (by decide) rfl
    simp only [k0_cond1, e0, e1]
    word_cmp

/-! ## What the body leaves, point by point -/

/-- One point's step on the output block and the kept rows. -/
def step (hO : Ok m) (c : Dev nD) (t : Fin (cfgM m hO).N) (p : Vec F S1024x1024 .f32 × Vec F S1024x1024 .bf16) : Vec F S1024x1024 .f32 × Vec F S1024x1024 .bf16 :=
  (sumAfter (grid0.coords t) (inUse (tbl m)) (iblk m hO c 0 t) (iblk m hO c 1 t) (iblk m hO c 2 t) (iblk m hO c 3 t) p.1 p.2,
   rowsAfter (grid0.coords t) (iblk m hO c 0 t) p.2)

/-- What the output block and the kept rows hold after point `n`. -/
def held (hO : Ok m) (c : Dev nD) : (n : ℕ) → n < (cfgM m hO).N → Vec F S1024x1024 .f32 × Vec F S1024x1024 .bf16
  | 0, h => step m hO c ⟨0, h⟩ (k0_pay1, k0_pay2 (iblk m hO c 0 ⟨0, h⟩))
  | n + 1, h => step m hO c ⟨n + 1, h⟩ (held hO c n (Nat.lt_of_succ_lt h))

/-- The point before a point. -/
abbrev prevLt {N n : ℕ} (h : n < N) : n - 1 < N := Nat.lt_of_le_of_lt (Nat.sub_le _ _) h

/-- At the first hidden tile a step forgets what it found. -/
theorem step_first (hO : Ok m) (c : Dev nD) (t : Fin (cfgM m hO).N) (h0 : t.val % 7 = 0) (p q : Vec F S1024x1024 .f32 × Vec F S1024x1024 .bf16) :
    step m hO c t p = step m hO c t q := by
  have h1 : k0_cond1 (grid0.coords t) = 1#1 := (first_tile t).mpr h0
  unfold step sumAfter rowsAfter sumBefore
  simp only [if_pos h1]

/-- After a point that is not the first: a step from what the point before left. -/
theorem held_next (hO : Ok m) (c : Dev nD) (t : Fin (cfgM m hO).N) (hz : t.val ≠ 0) :
    held m hO c t.val t.isLt = step m hO c t (held m hO c (t.val - 1) (prevLt t.isLt)) := by
  obtain ⟨n, hn⟩ := t
  cases n with
  | zero => exact absurd rfl hz
  | succ n => rfl

/-- After the first tile of a row block: a step from anything. -/
theorem held_first (hO : Ok m) (c : Dev nD) (t : Fin (cfgM m hO).N) (h0 : t.val % 7 = 0) (p : Vec F S1024x1024 .f32 × Vec F S1024x1024 .bf16) :
    held m hO c t.val t.isLt = step m hO c t p := by
  by_cases hz : t.val = 0
  · obtain ⟨n, hn⟩ := t
    simp only at hz; subst hz
    exact step_first m hO c ⟨0, hn⟩ h0 _ _
  · rw [held_next m hO c t hz]; exact step_first m hO c t h0 _ _

/-! ## The proof data -/

/-- The invariant before position `n`: before the first point the copy of the rows holds anything; afterwards
    what the point before left there. The generator and the tables stand beside it. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) (Memref.whole cc0_scratch0) fullShare ((held m hO c n hn).2)) ∗ (∃ r, prngReg c r)) ∗ Pipeline.ΦT pre0 (tbl m) c)

theorem Inv_zero (hO : Ok m) (c : Dev nD) (n : ℕ) (h : n ≤ (cfgM m hO).N) (hz : n = 0) : Inv m hO c n h = iprop(Pipeline.ΦA spec0 c ∗ Pipeline.ΦT pre0 (tbl m) c) := by
  subst hz; rfl

theorem Inv_succ (hO : Ok m) (c : Dev nD) (n : ℕ) (hn : n < (cfgM m hO).N) :
    Inv m hO c (n + 1) hn = iprop(iprop(iprop(owns (c : Thread nD τ) (Memref.whole cc0_scratch0) fullShare ((held m hO c n hn).2)) ∗ (∃ r, prngReg c r)) ∗ Pipeline.ΦT pre0 (tbl m) c) := rfl

theorem Inv_pos (hO : Ok m) (c : Dev nD) (n : ℕ) (h : n ≤ (cfgM m hO).N) (hz : n ≠ 0) :
    Inv m hO c n h = iprop(iprop(iprop(owns (c : Thread nD τ) (Memref.whole cc0_scratch0) fullShare ((held m hO c (n - 1) (by omega)).2)) ∗ (∃ r, prngReg c r)) ∗ Pipeline.ΦT pre0 (tbl m) c) := by
  cases n with
  | zero => exact absurd rfl hz
  | succ n => rfl

/-- The class's invariant, with the copy of the rows as a memref owned at some contents. -/
theorem scratch_held (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- The pipeline's proof data: the arrays as found; after each point the inputs' blocks in place and the output block
    as `held` says. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (held m hO c t.val t.isLt).1
  Φ t := Inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem Inv_castSucc (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = (held m hO c t.val t.isLt).1 := by dsimp only [dats]; try rfl

/-- The input windows' buffers hold their blocks at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)

/-! ## The output block between the points -/

/-- A point leaves the output block alone exactly where neither condition holds. -/
theorem idle_iff (hO : Ok m) (t : Fin (cfgM m hO).N) :
    (cfgM m hO).idle 4 ((cfgM m hO).grid.coords t) = true ↔ (¬ k0_cond1 (grid0.coords t) = 1#1) ∧ ¬ k0_cond2 (grid0.coords t) (inUse (tbl m)) = 1#1 := by
  show (!(k0_cond1 (grid0.coords t) == 1#1) && !(k0_cond2 (grid0.coords t) (inUse (tbl m)) == 1#1)) = true ↔ _
  simp

/-- There a step changes nothing in the output block. -/
theorem step_idle (hO : Ok m) (c : Dev nD) (t : Fin (cfgM m hO).N) (hi : (cfgM m hO).idle 4 ((cfgM m hO).grid.coords t) = true)
    (p : Vec F S1024x1024 .f32 × Vec F S1024x1024 .bf16) : (step m hO c t p).1 = p.1 := by
  obtain ⟨h1, h2⟩ := (idle_iff m hO t).mp hi
  unfold step sumAfter sumBefore
  simp only [if_neg h1, if_neg h2]

/-- The output buffer holds something the body stored at every point but the first tile's. -/
theorem not_fresh (hO : Ok m) : ∀ (n : ℕ), n < (cfgM m hO).N → n % 7 ≠ 0 → (cfgM m hO).fresh 4 n = false
  | 0, _, h => absurd rfl h
  | n + 1, hn, h => by
    have hn' : n < (cfgM m hO).N := Nat.lt_of_succ_lt hn
    rw [Pipeline.Cfg.fresh_succ _ _ _ hn']
    have hf : ((cfgM m hO).win 4).flush ⟨n, hn'⟩ = false := Bool.eq_false_iff.mpr fun hh => by
      have := (flush_out m hO ⟨n, hn'⟩).mp hh; dsimp only at this; omega
    rw [hf, Bool.false_or]
    by_cases h0 : n % 7 = 0
    · have : (cfgM m hO).idle 4 ((cfgM m hO).grid.coords ⟨n, hn'⟩) = false := Bool.eq_false_iff.mpr fun hh =>
        ((idle_iff m hO ⟨n, hn'⟩).mp hh).1 ((first_tile ⟨n, hn'⟩).mpr h0)
      rw [this, Bool.false_and]
    · rw [not_fresh hO n hn' h0, Bool.and_false]

/-- So there the body finds in it what the point before left. -/
theorem before_4 (hO : Ok m) (c : Dev nD) (t : Fin (cfgM m hO).N) (h0 : t.val % 7 ≠ 0) (d) :
    (dats m hO 0 c).before 4 t d = (held m hO c (t.val - 1) (prevLt t.isLt)).1 := by
  rw [(dats m hO 0 c).before_out_traj 4 rfl (fun _ _ => rfl) (fun t hz hi _ => by
    rw [after_4, after_4, held_next m hO c t hz]; exact step_idle m hO c t hi _) t.val t rfl d,
    not_fresh m hO t.val t.isLt h0, if_neg Bool.false_ne_true, after_4]

/-- What the body leaves is a step from what it finds. -/
theorem held_step (hO : Ok m) (c : Dev nD) (t : Fin (cfgM m hO).N) (d) (s : Vec F S1024x1024 .bf16)
    (hs : t.val ≠ 0 → s = (held m hO c (t.val - 1) (prevLt t.isLt)).2) :
    held m hO c t.val t.isLt = step m hO c t ((dats m hO 0 c).before 4 t d, s) := by
  by_cases h0 : t.val % 7 = 0
  · exact held_first m hO c t h0 _
  · have hz : t.val ≠ 0 := fun h => h0 (by rw [h])
    rw [held_next m hO c t hz, before_4 m hO c t h0 d, hs hz]

/-! ## The body obligation -/

abbrev st_0 (hO : Ok m) (t : Fin (cfgM m hO).N) : Memref sig .tc .vmem S1024x1024 .f32 := spec0_0.stage ((cfgM m hO).slots t 0)
abbrev st_1 (hO : Ok m) (t : Fin (cfgM m hO).N) : Memref sig .tc .vmem S1x1024x512 .f32 := spec0_1.stage ((cfgM m hO).slots t 1)
abbrev st_2 (hO : Ok m) (t : Fin (cfgM m hO).N) : Memref sig .tc .vmem S1x1024x512 .f32 := spec0_2.stage ((cfgM m hO).slots t 2)
abbrev st_3 (hO : Ok m) (t : Fin (cfgM m hO).N) : Memref sig .tc .vmem S1x512x1024 .f32 := spec0_3.stage ((cfgM m hO).slots t 3)
abbrev st_4 (hO : Ok m) (t : Fin (cfgM m hO).N) : Memref sig .tc .vmem S1024x1024 .f32 := spec0_4.stage ((cfgM m hO).slots t 4)

/-- The body as the pipeline calls it at point `t`. -/
abbrev bodyAt (hO : Ok m) (t : Fin (cfgM m hO).N) : Prog (TpuEff nD τ sig (Elt F) Λ₀ .tc) PUnit :=
  cc0__moe_kernel (grid0.coords t) blockTable (Memref.isWhole_whole _) countTable (Memref.isWhole_whole _) (st_0 m hO t) (hstage0_0 (((cfgM m hO).slots t 0).cast nbuf0_0)) (st_1 m hO t) (hstage0_1 (((cfgM m hO).slots t 1).cast nbuf0_1)) (st_2 m hO t) (hstage0_2 (((cfgM m hO).slots t 2).cast nbuf0_2)) (st_3 m hO t) (hstage0_3 (((cfgM m hO).slots t 3).cast nbuf0_3)) (st_4 m hO t) (hstage0_4 (((cfgM m hO).slots t 4).cast nbuf0_4)) (Memref.whole cc0_scratch0) (Memref.isWhole_whole _)

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d))
    ∗ (∃ d, owns (c : Thread nD τ) (st_3 m hO t) fullShare ((dats m hO 0 c).before 3 t d))
    ∗ (∃ d, owns (c : Thread nD τ) (st_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t)
    ∗ owns (c : Thread nD τ) (st_3 m hO t) fullShare ((dats m hO 0 c).after 3 t)
    ∗ (dats m hO 0 c).leavesExact 4 t)

/-- The output buffer after a step, given back: as it was found where the point left it alone and does not
    write it back, and otherwise at what `held` says. -/
theorem leaves_out (hO : Ok m) (c : Dev nD) (t : Fin (cfgM m hO).N) (d) (s : Vec F S1024x1024 .bf16)
    (hs : t.val ≠ 0 → s = (held m hO c (t.val - 1) (prevLt t.isLt)).2) :
    owns (c : Thread nD τ) (st_4 m hO t) fullShare (step m hO c t ((dats m hO 0 c).before 4 t d, s)).1
      ⊢ ((dats m hO 0 c).leavesExact 4 t : sProp 𝕄) := by
  have hst := held_step m hO c t d s hs
  cases hi : (cfgM m hO).idle 4 ((cfgM m hO).grid.coords t)
  · unfold Dat.leavesExact
    rw [hi, ← hst, after_4]
    exact Idealize.SL.BI.Entails.refl _
  · cases hf : ((cfgM m hO).win 4).flush t
    · rw [Dat.leavesExact_idle _ 4 t hi hf, step_idle m hO c t hi]
      iintro H
      iexists _
      iexact H
    · unfold Dat.leavesExact
      rw [hi, hf, ← hst, after_4]
      exact Idealize.SL.BI.Entails.refl _

set_option maxHeartbeats 3200000 in
/-- The body's triple at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3]
  rw [show (dats m hO 0 c).owesAt () t.succ = (dats m hO 0 c).owesAt () t.castSucc from rfl,
    after_0, after_1, after_2, after_3]
  rw [show (dats m hO 0 c).Φ t.succ = Inv m hO c (t.val + 1) t.isLt from rfl, Inv_succ, tables_held]
  by_cases hz : t.val = 0
  · rw [Inv_castSucc m hO c t, Inv_zero m hO c _ _ hz, tables_held, scratch_held]
    iintro ⟨⟨⟨⟨%s, HS⟩, Hg⟩, ⟨HT0, HT1⟩⟩, Ho, ⟨%d0, H0⟩, ⟨%d1, H1⟩, ⟨%d2, H2⟩, ⟨%d3, H3⟩, ⟨%d4, H4⟩⟩
    have hs : t.val ≠ 0 → s = (held m hO c (t.val - 1) (prevLt t.isLt)).2 := fun h => absurd hz h
    iapply (body_run c (grid0.coords t) _ _ _ _ _ _ _ _ _ _ _ _ (iblk m hO c 0 t) (iblk m hO c 1 t) (iblk m hO c 2 t) (iblk m hO c 3 t) ((dats m hO 0 c).before 4 t d4) s (tbl m) Set.univ _)
    isplitl [H0]; · iexact H0
    isplitl [H1]; · iexact H1
    isplitl [H2]; · iexact H2
    isplitl [H3]; · iexact H3
    isplitl [H4]; · iexact H4
    isplitl [HS]; · iexact HS
    isplitl [HT0]; · iexact HT0
    isplitl [HT1]; · iexact HT1
    iintro ⟨H0, H1, H2, H3, H4, HS, HT0, HT1⟩
    rw [held_step m hO c t d4 s hs]
    isplitl [HS Hg HT0 HT1]
    · isplitl [HS Hg]
      · isplitl [HS]
        · iexact HS
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iapply (leaves_out m hO c t d4 s hs)
    iexact H4
  · rw [Inv_castSucc m hO c t, Inv_pos m hO c _ _ hz, tables_held]
    iintro ⟨⟨⟨HS, Hg⟩, ⟨HT0, HT1⟩⟩, Ho, ⟨%d0, H0⟩, ⟨%d1, H1⟩, ⟨%d2, H2⟩, ⟨%d3, H3⟩, ⟨%d4, H4⟩⟩
    iapply (body_run c (grid0.coords t) _ _ _ _ _ _ _ _ _ _ _ _ (iblk m hO c 0 t) (iblk m hO c 1 t) (iblk m hO c 2 t) (iblk m hO c 3 t) ((dats m hO 0 c).before 4 t d4) (held m hO c (t.val - 1) (prevLt t.isLt)).2 (tbl m) Set.univ _)
    isplitl [H0]; · iexact H0
    isplitl [H1]; · iexact H1
    isplitl [H2]; · iexact H2
    isplitl [H3]; · iexact H3
    isplitl [H4]; · iexact H4
    isplitl [HS]; · iexact HS
    isplitl [HT0]; · iexact HT0
    isplitl [HT1]; · iexact HT1
    iintro ⟨H0, H1, H2, H3, H4, HS, HT0, HT1⟩
    rw [held_step m hO c t d4 _ (fun _ => rfl)]
    isplitl [HS Hg HT0 HT1]
    · isplitl [HS Hg]
      · isplitl [HS]
        · iexact HS
        iexact Hg
      isplitl [HT0]; · iexact HT0
      iexact HT1
    isplitl [Ho]; · iexact Ho
    isplitl [H0]; · iexact H0
    isplitl [H1]; · iexact H1
    isplitl [H2]; · iexact H2
    isplitl [H3]; · iexact H3
    iapply (leaves_out m hO c t d4 _ (fun _ => rfl))
    iexact H4

/-- The row of the body table at a point is the body as called there. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The pipeline's body obligation, at every point. -/
theorem body_obligation (hO : Ok m) (c : Dev nD) : BodyObligation (dats (F := F) m hO 0 c) (defs₀ (F := F)) Variants.none () Set.univ := fun t => by
  rw [bigSep_W0, bigSep_W0, body_row m hO]
  exact triple_restated (sound_body m hO c t) rfl .rfl fun _ => .rfl

/-- What the launch hands the region is the invariant before the first point, -/
theorem inv_in (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, Inv_zero m hO c 0 _ rfl]
  try exact Idealize.SL.BI.Entails.refl _

/-- and the invariant after the last gives it back. -/
theorem inv_out (hO : Ok m) (c : Dev nD) : (dats m hO 0 c).Φ (Fin.last (cfgM m hO).N) ⊢ Pipeline.ΦA spec0 c := by
  rw [show (dats m hO 0 c).Φ (Fin.last (cfgM m hO).N) = Inv m hO c (Fin.last (cfgM m hO).N).val (Nat.le_of_lt_succ (Fin.last (cfgM m hO).N).isLt) from rfl,
    Inv_pos m hO c _ _ (by rw [Fin.val_last]; have := points m hO; omega), scratch_held]
  iintro ⟨⟨HS, Hg⟩, -⟩
  isplitl [HS]
  · iexists _; iexact HS
  iexact Hg

/-! ## The run and the frame -/

set_option backward.isDefEq.respectTransparency.types false in
/-- The launch: every execution ends with the pipeline's arrays at what the proof data says, every other buffer as
    found, and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := inv_in m hO) (hout := inv_out m hO)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_arg0 (by decide : main_arg0 ∈ Pipeline.restRefs sig spec0),
      (h c).2 main_arg1 (by decide : main_arg1 ∈ Pipeline.restRefs sig spec0),
      ((h c).1 0).trans (((dats m hO 0 c).arrAt_in 0 rfl _).trans (A_eq m hO c 0)),
      ((h c).1 1).trans (((dats m hO 0 c).arrAt_in 1 rfl _).trans (A_eq m hO c 1)),
      ((h c).1 2).trans (((dats m hO 0 c).arrAt_in 2 rfl _).trans (A_eq m hO c 2)),
      ((h c).1 3).trans (((dats m hO 0 c).arrAt_in 3 rfl _).trans (A_eq m hO c 3))⟩) (run_main m ρ hO)

/-- THE FRAME, for any contents of the tables that keep the weights' blocks inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.MoeIdeal.Experts

end
-- ==== Proof.MoeIdealTables.lean ====
module

public import proofs.«01_k».proof.Proof.MoeIdealFrame
public import proofs.«01_k».proof.Proof.Gen.Pre_experts_named
public import Idealize.ShloMosaic.Lib.Tactic.WordOmega

@[expose] public section

set_option maxRecDepth 16384

noncomputable section

/-! Which blocks of the weights the tables name, and that they lie inside the arrays when every table word names an
    expert. -/

namespace Cert.MoeIdeal.Experts

open Idealize.ShloMosaic Idealize.ShloMosaic.TcCoe
open Cert.MoeIdeal.Gen

variable {F : FTy → Type} [FloatOps F]

/-- The word of the first table at block `b`. -/
abbrev expertOf (pf : pre0.Contents (Elt F)) (b : Fin 40) : BitVec 32 := pf 0 (ix1 b)

/-- The hidden tile a point names: its own where the row block is in use, and otherwise the last one. -/
def tileOf (pf : pre0.Contents (Elt F)) (i : grid0.Coords) : BitVec 32 :=
  Scalar.select (Scalar.cmpi .slt (BitVec.ofNat 32 (i 0).val) (inUse pf)) (BitVec.ofNat 32 (i 1).val) 6#32

/-- The first table, read at a block. -/
theorem at_block (pf : pre0.Contents (Elt F)) (n : ℕ) (b : Fin 40) (hn : n = b.val) (inb : ∀ a, (![n] : Fin 1 → Nat) a + S1.size a ≤ S40.size a)
    (h : (Rect.unit (s := S40) ![n] S1.size inb).shape.numel = 1) : pf.at 0 (Rect.unit (s := S40) ![n] S1.size inb) h = expertOf pf b := by
  subst hn
  refine congrArg (pf 0) (funext fun a => ?_)
  obtain rfl : a = (0 : Fin 1) := Subsingleton.elim (α := Fin 1) _ _
  apply Fin.ext
  show b.val + 1 * (Shape.Idx.first (s := (Rect.unit (s := S40) ![b.val] S1.size inb).shape) _ 0).val = b.val
  have : (Shape.Idx.first (s := (Rect.unit (s := S40) ![b.val] S1.size inb).shape) (h.symm ▸ Nat.one_pos) (0 : Fin 1)).val < 1 := Fin.isLt _
  omega

/-- The second table, read at its one place. -/
theorem at_count (pf : pre0.Contents (Elt F)) (inb : ∀ a, (![0] : Fin 1 → Nat) a + S1.size a ≤ S1.size a)
    (h : (Rect.unit (s := S1) ![0] S1.size inb).shape.numel = 1) : pf.at 1 (Rect.unit (s := S1) ![0] S1.size inb) h = inUse pf := by
  unfold inUse Pipeline.Prefetch.Contents.atD
  rw [dif_pos (by decide)]
  refine congrArg (pf 1) (funext fun a => ?_)
  obtain rfl : a = (0 : Fin 1) := Subsingleton.elim (α := Fin 1) _ _
  exact Subsingleton.elim (α := Fin 1) _ _

/-- A row block's number as a word. -/
theorem block_word (i : grid0.Coords) : (Scalar.indexCast (BitVec.ofNat 32 (i 0).val)).toNat = (i 0).val := by
  have h : (i 0).val < 40 := (i 0).isLt
  show (BitVec.ofNat 32 (i 0).val).toNat = _
  rw [BitVec.toNat_ofNat]; omega

/-- The block of the gate weights a point names: an expert, all rows, a tile of columns. -/
theorem block_1 (pf : pre0.Contents (Elt F)) (i : grid0.Coords) :
    cc0_transform_1 k0_off1_inb numel1_S1 inb_S1_S1_0 pf i = ![(expertOf pf (i 0)).toNat, 0, (tileOf pf i).toNat] := by
  unfold cc0_transform_1
  refine congrArg₂ (fun a b => ![a, 0, b]) (congrArg BitVec.toNat (at_block pf _ (i 0) (block_word i) _ _)) ?_
  exact congrArg (fun w => (Scalar.select (Scalar.cmpi .slt (BitVec.ofNat 32 (i 0).val) w) (BitVec.ofNat 32 (i 1).val) 6#32).toNat) (at_count pf _ _)

/-- The block of the up weights a point names: the same. -/
theorem block_2 (pf : pre0.Contents (Elt F)) (i : grid0.Coords) :
    cc0_transform_2 k0_off1_inb numel1_S1 inb_S1_S1_0 pf i = ![(expertOf pf (i 0)).toNat, 0, (tileOf pf i).toNat] := by
  unfold cc0_transform_2
  refine congrArg₂ (fun a b => ![a, 0, b]) (congrArg BitVec.toNat (at_block pf _ (i 0) (block_word i) _ _)) ?_
  exact congrArg (fun w => (Scalar.select (Scalar.cmpi .slt (BitVec.ofNat 32 (i 0).val) w) (BitVec.ofNat 32 (i 1).val) 6#32).toNat) (at_count pf _ _)

/-- The block of the down weights a point names: an expert, a tile of rows, all columns. -/
theorem block_3 (pf : pre0.Contents (Elt F)) (i : grid0.Coords) :
    cc0_transform_3 k0_off1_inb numel1_S1 inb_S1_S1_0 pf i = ![(expertOf pf (i 0)).toNat, (tileOf pf i).toNat, 0] := by
  unfold cc0_transform_3
  refine congrArg₂ (fun a b => ![a, b, 0]) (congrArg BitVec.toNat (at_block pf _ (i 0) (block_word i) _ _)) ?_
  exact congrArg (fun w => (Scalar.select (Scalar.cmpi .slt (BitVec.ofNat 32 (i 0).val) w) (BitVec.ofNat 32 (i 1).val) 6#32).toNat) (at_count pf _ _)

/-- The tile named is one of the seven. -/
theorem tileOf_lt (pf : pre0.Contents (Elt F)) (i : grid0.Coords) : (tileOf pf i).toNat < 7 := by
  unfold tileOf Scalar.select
  have h : (i 1).val < 7 := (i 1).isLt
  split
  · rw [BitVec.toNat_ofNat]; omega
  · decide

/-- Tables whose words all name an expert keep every block inside its array. -/
theorem ok_of_lt (pf : pre0.Contents (Elt F)) (h : ∀ b : Fin 40, (expertOf pf b).toNat < 8) : ok0 pf := by
  unfold ok0
  refine ⟨fun i => ⟨fun a => ?_, .inl rfl⟩, fun i => ⟨fun a => ?_, .inl rfl⟩, fun i => ⟨fun a => ?_, .inl rfl⟩⟩
  all_goals
    have h0 := h (i 0)
    have h1 := tileOf_lt pf i
  · rw [block_1]
    match a with
    | ⟨0, _⟩ => show (_ + 1) * 1 ≤ 8; simp; omega
    | ⟨1, _⟩ => show (0 + 1) * 1024 ≤ 1024; omega
    | ⟨2, _⟩ => show ((tileOf pf i).toNat + 1) * 512 ≤ 3584; omega
  · rw [block_2]
    match a with
    | ⟨0, _⟩ => show (_ + 1) * 1 ≤ 8; simp; omega
    | ⟨1, _⟩ => show (0 + 1) * 1024 ≤ 1024; omega
    | ⟨2, _⟩ => show ((tileOf pf i).toNat + 1) * 512 ≤ 3584; omega
  · rw [block_3]
    match a with
    | ⟨0, _⟩ => show (_ + 1) * 1 ≤ 8; simp; omega
    | ⟨1, _⟩ => show ((tileOf pf i).toNat + 1) * 512 ≤ 3584; omega
    | ⟨2, _⟩ => show (0 + 1) * 1024 ≤ 1024; omega

/-- A word between zero and seven, as the two comparisons state it. -/
theorem lt_of_named (w : BitVec 32) (h : IntOp.andi (IntOp.cmpi .sge w 0#32) (IntOp.cmpi .sle w 7#32) = 1#1) : w.toNat < 8 := by
  word_omega

/-- The precondition says so of every word. -/
theorem named (x0 : IVec Cert.Pre_experts_named.S40 32) (x1 x2 x3 x4 x5)
    (h : Cert.Pre_experts_named.fn (F := F) x0 x1 x2 x3 x4 x5 = fun _ => 1#1) (b : Fin 40) : (x0 (ix1 b)).toNat < 8 := by
  refine lt_of_named _ ?_
  exact congrFun h (ix1 b)

variable (m : (ℓ : Loc nD τ sig) → Buf (Elt F) ℓ)

/-- So the launch's own tables keep every block inside its array. -/
theorem ok_of_named (h : ∀ c : Dev nD, Cert.Pre_experts_named.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = fun _ => 1#1) :
    Ok m := ok_of_lt _ fun b => named (F := F) _ _ _ _ _ _ (h 0) b

end Cert.MoeIdeal.Experts

end
-- ==== Proof.MoeGather.lean ====
module

public import Idealize.ShloMosaic.Lib.Pipeline.ValueKit
public import Idealize.ShloMosaic.Lib.Tactic.WordOmega

@[expose] public section

/-! A gather along the leading axis of a rank 3 array, read at a place. -/

namespace Cert.Lead

open Idealize.ShloMosaic

/-- The dimension numbers of `x[idx]` for `x : [n, A, B]` and `idx : [k, 1]`. -/
abbrev dims (n k A B : Nat) (wf : GatherDims.WF ⟨3, ![n, A, B]⟩ ⟨2, ![k, 1]⟩ ⟨3, ![k, A, B]⟩ [1, 2] [0] [] [0] [] 1 ![1, A, B]) :
    GatherDims ⟨3, ![n, A, B]⟩ ⟨2, ![k, 1]⟩ ⟨3, ![k, A, B]⟩ where
  offsetDims := [1, 2]
  collapsedSliceDims := [0]
  operandBatchingDims := []
  startIndicesBatchingDims := []
  startIndexMap := [0]
  indexVectorDim := 1
  sliceSizes := ![1, A, B]
  wf := wf

/-- Where the index word is `e`, inside the leading axis, the result's block is the array's block `e`. -/
theorem gather_apply {α : Type} {n k A B : Nat} (wf : GatherDims.WF ⟨3, ![n, A, B]⟩ ⟨2, ![k, 1]⟩ ⟨3, ![k, A, B]⟩ [1, 2] [0] [] [0] [] 1 ![1, A, B])
    (x : (⟨3, ![n, A, B]⟩ : Shape).Idx → α) (idx : IVec ⟨2, ![k, 1]⟩ 32) (y : (⟨3, ![k, A, B]⟩ : Shape).Idx) (e : Fin n)
    (he : (idx (ix2 (y 0) 0)).toNat = e.val) (hn : n ≤ 2 ^ 31) :
    Host.gather (dims n k A B wf) x idx y = x (ix3 e (y 1) (y 2)) := by
  unfold Host.gather
  refine congrArg x (funext fun a => Fin.ext ?_)
  show (dims n k A B wf).start y idx a + (dims n k A B wf).batchCoord y a + (dims n k A B wf).offCoord y a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (dims n k A B wf).startIndexMap from List.mem_singleton.mpr rfl)]
    have hsi : (dims n k A B wf).siIdx y ⟨List.idxOf (0 : Fin 3) (dims n k A B wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    show min (idx (ix2 (y 0) 0)).toInt.toNat (n - 1) = e.val
    have h := e.isLt
    rw [BitVec.toInt_eq_toNat_of_lt (by omega), he]
    omega
  · exact Nat.zero_add _
  · exact Nat.zero_add _

end Cert.Lead
-- ==== Proof.MoeReferenceValue.lean ====
module

public import proofs.«01_k».proof.Proof.Gen.MoeReferenceIdeal.Run
public import proofs.«01_k».proof.Proof.Gen.MoeReferenceIdeal.Read
public import proofs.«01_k».proof.Proof.MoeGather
public import Idealize.ShloMosaic.Lib.Pipeline.ValueKit

@[expose] public section

set_option maxRecDepth 16384

noncomputable section

/-!
The experts' reference, read at a place of its result.
-/

namespace Cert.MoeReferenceIdeal.Value

open Idealize.ShloMosaic Cert.MoeReferenceIdeal Cert.MoeReferenceIdeal.Gen Cert.MoeReferenceIdeal.Read

/-- The expert a row block is given to. -/
abbrev expert (x0 : IVec S40 32) (h : ∀ b : Fin 40, (x0 (ix1 b)).toNat < 8) (b : Fin 40) : Fin 8 := ⟨(x0 (ix1 b)).toNat, h b⟩

/-- A word below eight is not negative, so that nothing is added to it. -/
theorem wrap_eq (w : BitVec 32) (h : w.toNat < 8) : Scalar.select (IntOp.cmpi .slt w 0#32) (IntOp.addi w 8#32) w = w := by
  have : IntOp.cmpi .slt w 0#32 = 0#1 := by
    word_omega
  rw [this]
  rfl

/-- The index words as each gather reads them. -/
theorem word_gate (x0 : IVec S40 32) (b : Fin 40) (h : (x0 (ix1 b)).toNat < 8) : val_main_v6 (F := Ideal) x0 (ix2 b 0) = x0 (ix1 b) := by
  have e : idx_main_v6 (ix2 b 0) = ix1 b := funext fun a => match a with | ⟨0, _⟩ => rfl
  rw [val_main_v6_apply, e]
  exact wrap_eq (x0 (ix1 b)) h
theorem word_up (x0 : IVec S40 32) (b : Fin 40) (h : (x0 (ix1 b)).toNat < 8) : val_main_v13 (F := Ideal) x0 (ix2 b 0) = x0 (ix1 b) := by
  have e : idx_main_v13 (ix2 b 0) = ix1 b := funext fun a => match a with | ⟨0, _⟩ => rfl
  rw [val_main_v13_apply, e]
  exact wrap_eq (x0 (ix1 b)) h
theorem word_down (x0 : IVec S40 32) (b : Fin 40) (h : (x0 (ix1 b)).toNat < 8) : val_main_v20 (F := Ideal) x0 (ix2 b 0) = x0 (ix1 b) := by
  have e : idx_main_v20 (ix2 b 0) = ix1 b := funext fun a => match a with | ⟨0, _⟩ => rfl
  rw [val_main_v20_apply, e]
  exact wrap_eq (x0 (ix1 b)) h

/-- The gate weights of a row block. -/
theorem gate_apply (x0 : IVec S40 32) (h : ∀ b : Fin 40, (x0 (ix1 b)).toNat < 8) (x3 : FVec Ideal S8x1024x3584 .f32) (b : Fin 40) (p : Fin 1024) (q : Fin 3584) :
    val_main_v7 (F := Ideal) x0 x3 (ix3 b p q) = x3 (ix3 (expert x0 h b) p q) := by
  refine Cert.Lead.gather_apply _ x3 (val_main_v6 (F := Ideal) x0) (ix3 b p q) (expert x0 h b) ?_ (by norm_num)
  exact congrArg BitVec.toNat (word_gate x0 b (h b))

/-- The up weights of a row block. -/
theorem up_apply (x0 : IVec S40 32) (h : ∀ b : Fin 40, (x0 (ix1 b)).toNat < 8) (x4 : FVec Ideal S8x1024x3584 .f32) (b : Fin 40) (p : Fin 1024) (q : Fin 3584) :
    val_main_v14 (F := Ideal) x0 x4 (ix3 b p q) = x4 (ix3 (expert x0 h b) p q) := by
  refine Cert.Lead.gather_apply _ x4 (val_main_v13 (F := Ideal) x0) (ix3 b p q) (expert x0 h b) ?_ (by norm_num)
  exact congrArg BitVec.toNat (word_up x0 b (h b))

/-- The down weights of a row block. -/
theorem down_apply (x0 : IVec S40 32) (h : ∀ b : Fin 40, (x0 (ix1 b)).toNat < 8) (x5 : FVec Ideal S8x3584x1024 .f32) (b : Fin 40) (p : Fin 3584) (q : Fin 1024) :
    val_main_v21 (F := Ideal) x0 x5 (ix3 b p q) = x5 (ix3 (expert x0 h b) p q) := by
  refine Cert.Lead.gather_apply _ x5 (val_main_v20 (F := Ideal) x0) (ix3 b p q) (expert x0 h b) ?_ (by norm_num)
  exact congrArg BitVec.toNat (word_down x0 b (h b))

/-- The number of row blocks in use. -/
theorem count_apply (x1 : IVec S1 32) (i : S_.Idx) : val_main_v28 (F := Ideal) x1 i = x1 (ix1 0) := by
  unfold val_main_v28 shapeCast
  exact congrArg x1 (funext fun a => by
    obtain rfl : a = (0 : Fin 1) := Subsingleton.elim (α := Fin 1) _ _
    exact Subsingleton.elim (α := Fin 1) _ _)

/-- The product of the two hidden sums at hidden unit `k`, for row `r` of the block `b`. -/
def hidden (x2 : FVec Ideal S40960x1024 .f32) (x3 x4 : FVec Ideal S8x1024x3584 .f32) (e : Fin 8) (r : Fin 40960) (k : Fin 3584) : EReal :=
  (∑ l : Fin 1024, x2 (ix2 r l) * x3 (ix3 e l k)) * Ideal.logistic (∑ l : Fin 1024, x2 (ix2 r l) * x3 (ix3 e l k))
    * ∑ l : Fin 1024, x2 (ix2 r l) * x4 (ix3 e l k)

theorem rows_apply (x2 : FVec Ideal S40960x1024 .f32) (b : Fin 40) (p q : Fin 1024) (r : Fin 40960) (hr : r.val = 1024 * b.val + p.val) :
    val_main_v0 (F := Ideal) x2 (ix3 b p q) = x2 (ix2 r q) := by
  rw [val_main_v0_apply]
  refine congrArg x2 (funext fun a => Fin.ext ?_)
  have hb := b.isLt
  have hp := p.isLt
  have hq := q.isLt
  match a with
  | ⟨0, _⟩ => show ((b.val * 1024 + p.val) * 1024 + q.val) / 1024 = r.val; omega
  | ⟨1, _⟩ => show ((b.val * 1024 + p.val) * 1024 + q.val) % 1024 = q.val; omega

/-- The first hidden sum. -/
theorem v22_apply (x0 : IVec S40 32) (h : ∀ b : Fin 40, (x0 (ix1 b)).toNat < 8) (x2 : FVec Ideal S40960x1024 .f32) (x3 : FVec Ideal S8x1024x3584 .f32)
    (b : Fin 40) (p : Fin 1024) (k : Fin 3584) (r : Fin 40960) (hr : r.val = 1024 * b.val + p.val) :
    val_main_v22 (F := Ideal) x0 x2 x3 (ix3 b p k) = ∑ l : Fin 1024, x2 (ix2 r l) * x3 (ix3 (expert x0 h b) l k) := by
  rw [val_main_v22_apply]
  refine Finset.sum_congr rfl fun l _ => congrArg₂ (· * ·) ?_ ?_
  · refine Eq.trans (congrArg _ (funext fun a => ?_)) (rows_apply x2 b p l r hr)
    match a with | ⟨0, _⟩ => rfl | ⟨1, _⟩ => rfl | ⟨2, _⟩ => rfl
  · refine Eq.trans (congrArg _ (funext fun a => ?_)) (gate_apply x0 h x3 b l k)
    match a with | ⟨0, _⟩ => rfl | ⟨1, _⟩ => rfl | ⟨2, _⟩ => rfl

/-- The second hidden sum. -/
theorem v24_apply (x0 : IVec S40 32) (h : ∀ b : Fin 40, (x0 (ix1 b)).toNat < 8) (x2 : FVec Ideal S40960x1024 .f32) (x4 : FVec Ideal S8x1024x3584 .f32)
    (b : Fin 40) (p : Fin 1024) (k : Fin 3584) (r : Fin 40960) (hr : r.val = 1024 * b.val + p.val) :
    val_main_v24 (F := Ideal) x0 x2 x4 (ix3 b p k) = ∑ l : Fin 1024, x2 (ix2 r l) * x4 (ix3 (expert x0 h b) l k) := by
  rw [val_main_v24_apply]
  refine Finset.sum_congr rfl fun l _ => congrArg₂ (· * ·) ?_ ?_
  · refine Eq.trans (congrArg _ (funext fun a => ?_)) (rows_apply x2 b p l r hr)
    match a with | ⟨0, _⟩ => rfl | ⟨1, _⟩ => rfl | ⟨2, _⟩ => rfl
  · refine Eq.trans (congrArg _ (funext fun a => ?_)) (up_apply x0 h x4 b l k)
    match a with | ⟨0, _⟩ => rfl | ⟨1, _⟩ => rfl | ⟨2, _⟩ => rfl

/-- The gated product. -/
theorem v25_apply (x0 : IVec S40 32) (h : ∀ b : Fin 40, (x0 (ix1 b)).toNat < 8) (x2 : FVec Ideal S40960x1024 .f32) (x3 x4 : FVec Ideal S8x1024x3584 .f32)
    (b : Fin 40) (p : Fin 1024) (k : Fin 3584) (r : Fin 40960) (hr : r.val = 1024 * b.val + p.val) :
    val_main_v25 (F := Ideal) x0 x2 x3 x4 (ix3 b p k) = hidden x2 x3 x4 (expert x0 h b) r k := by
  unfold hidden
  rw [← v22_apply x0 h x2 x3 b p k r hr, ← v24_apply x0 h x2 x4 b p k r hr]
  pointwise [val_main_v25, val_main_v23, val_main_call0_v5, val_main_call0_v4, val_main_call0_v3, val_main_call0_v2, val_main_call0_v1, val_main_call0_v0, val_main_call0_cst, val_main_call0_cst_0]
  rfl

/-- The experts' result before the choice. -/
theorem v26_apply (x0 : IVec S40 32) (h : ∀ b : Fin 40, (x0 (ix1 b)).toNat < 8) (x2 : FVec Ideal S40960x1024 .f32) (x3 x4 : FVec Ideal S8x1024x3584 .f32)
    (x5 : FVec Ideal S8x3584x1024 .f32) (b : Fin 40) (p q : Fin 1024) (r : Fin 40960) (hr : r.val = 1024 * b.val + p.val) :
    val_main_v26 (F := Ideal) x0 x2 x3 x4 x5 (ix3 b p q)
      = ∑ k : Fin 3584, hidden x2 x3 x4 (expert x0 h b) r k * x5 (ix3 (expert x0 h b) k q) := by
  rw [val_main_v26_apply]
  refine Finset.sum_congr rfl fun k _ => congrArg₂ (· * ·) ?_ ?_
  · refine Eq.trans (congrArg _ (funext fun a => ?_)) (v25_apply x0 h x2 x3 x4 b p k r hr)
    match a with | ⟨0, _⟩ => rfl | ⟨1, _⟩ => rfl | ⟨2, _⟩ => rfl
  · refine Eq.trans (congrArg _ (funext fun a => ?_)) (down_apply x0 h x5 b k q)
    match a with | ⟨0, _⟩ => rfl | ⟨1, _⟩ => rfl | ⟨2, _⟩ => rfl

/-- The reference at row `r`, in row block `b`, and column `q`: the block's expert applied to the row where the block
    is in use, and zero elsewhere. -/
theorem ref_apply (x0 : IVec S40 32) (h : ∀ b : Fin 40, (x0 (ix1 b)).toNat < 8) (x1 : IVec S1 32) (x2 : FVec Ideal S40960x1024 .f32)
    (x3 x4 : FVec Ideal S8x1024x3584 .f32) (x5 : FVec Ideal S8x3584x1024 .f32) (b : Fin 40) (r : Fin 40960) (q : Fin 1024) (hr : r.val / 1024 = b.val) :
    val_main_v33 (F := Ideal) x0 x1 x2 x3 x4 x5 (ix2 r q)
      = Scalar.select (IntOp.cmpi .slt (BitVec.ofNat 32 b.val) (x1 (ix1 0)))
          (∑ k : Fin 3584, hidden x2 x3 x4 (expert x0 h b) r k * x5 (ix3 (expert x0 h b) k q)) 0 := by
  have hq := q.isLt
  have hi : idx_main_v33 (ix2 r q) = ix3 b ⟨r.val % 1024, Nat.mod_lt _ (by norm_num)⟩ q := funext fun a => Fin.ext (by
    match a with
    | ⟨0, _⟩ => show (r.val * 1024 + q.val) / 1048576 = b.val; omega
    | ⟨1, _⟩ => show (r.val * 1024 + q.val) / 1024 % 1024 = r.val % 1024; omega
    | ⟨2, _⟩ => show (r.val * 1024 + q.val) % 1024 = q.val; omega)
  rw [val_main_v33_apply, hi, val_main_v32_apply, v26_apply x0 h x2 x3 x4 x5 b _ q r (by show r.val = 1024 * b.val + r.val % 1024; omega)]
  rw [val_main_call1_v1_apply, val_main_v31_apply, val_main_v30_apply, val_main_v29_apply, val_main_v27_apply, count_apply]
  refine congrArg _ ?_
  rw [val_main_call1_v2_apply, val_main_call1_v0_apply, val_main_cst_apply]
  exact Ideal.ofBits_zero _

end Cert.MoeReferenceIdeal.Value

end
-- ==== Proof.MoeValue.lean ====
module

public import proofs.«01_k».proof.Proof.MoeIdealTables
public import proofs.«01_k».proof.Proof.MoeReferenceValue
public import Idealize.ShloMosaic.Lib.Pipeline.ValueKit

@[expose] public section

set_option maxRecDepth 16384

noncomputable section

/-!
The experts' call: each row block in use ends holding its expert's SwiGLU of its rows, and every other row block zero.

The kernel walks seven tiles of 512 hidden units for each block of 1024 rows and adds one tile's contribution at a
time; the reference contracts all 3584 hidden units at once.
-/

namespace Cert.MoeIdeal.Experts

open Cert.MoeIdeal Cert.MoeIdeal.Gen Idealize.ShloMosaic Idealize.ShloMosaic.TcCoe Idealize.SL.Sem
open Idealize.ShloMosaic.Pipeline (Dat)

/-! ## One point -/

/-- One tile's contribution at row `j 0` and column `j 1`. -/
def tilePart (x : FVec Ideal S1024x1024 .f32) (wg wu : FVec Ideal S1x1024x512 .f32) (wd : FVec Ideal S1x512x1024 .f32)
    (j : S1024x1024.Idx) : EReal :=
  ∑ u : Fin 512, ((∑ l : Fin 1024, x (ix2 (j 0) l) * wg (ix3 0 l u))
      * Ideal.logistic (∑ l : Fin 1024, x (ix2 (j 0) l) * wg (ix3 0 l u))
      * ∑ l : Fin 1024, x (ix2 (j 0) l) * wu (ix3 0 l u)) * wd (ix3 0 u (j 1))

/-- The block starts at zero. -/
theorem pay1_apply (j : S1024x1024.Idx) : k0_pay1 (F := Ideal) j = 0 := by
  pointwise [k0_pay1]

/-- What a point in use stores is what the block held plus the tile's contribution. -/
theorem pay3_apply (x : FVec Ideal S1024x1024 .f32) (wg wu : FVec Ideal S1x1024x512 .f32) (acc : FVec Ideal S1024x1024 .f32)
    (wd : FVec Ideal S1x512x1024 .f32) (j : S1024x1024.Idx) :
    k0_pay3 (k0_pay2 (F := Ideal) x) wg wu acc wd j = acc j + tilePart x wg wu wd j := by
  pointwise [k0_pay3, k0_pay2, tilePart]

/-- The row block a point is in, and its hidden tile. -/
theorem coords_at (t : Fin grid0.N) : (grid0.coords t 0).val = t.val / 7 ∧ (grid0.coords t 1).val = t.val % 7 := by
  have ht : t.val < 280 := Nat.lt_of_lt_of_eq t.isLt N_0
  have e0 : (grid0.coords t 0).val = t.val / 7 % 40 := Pipeline.Grid.coords_val t 0 (by decide) rfl
  have e1 : (grid0.coords t 1).val = t.val / 1 % 7 := Pipeline.Grid.coords_val t 1 (by decide) rfl
  omega

/-- The body's second condition asks that the row block be one of those in use. -/
theorem in_use (t : Fin grid0.N) (w : BitVec 32) :
    k0_cond2 (grid0.coords t) w = 1#1 ↔ IntOp.cmpi .slt (BitVec.ofNat 32 (t.val / 7)) w = 1#1 := by
  have ht : t.val < 280 := Nat.lt_of_lt_of_eq t.isLt N_0
  simp only [k0_cond2, (coords_at t).1]
  show _ ↔ Scalar.cmpi .slt (BitVec.ofNat 32 (t.val / 7)) w = 1#1
  generalize Scalar.cmpi .slt (BitVec.ofNat 32 (t.val / 7)) w = v
  revert v
  decide

variable (m : (ℓ : Loc nD τ sig) → Buf (Elt Ideal) ℓ)

/-- The row block is in use. -/
abbrev Used (b : ℕ) : Prop := IntOp.cmpi .slt (BitVec.ofNat 32 b) (inUse (tbl m)) = 1#1

/-! ## What a row block's points leave -/

/-- The points of a row block are points of the grid. -/
theorem lt_points (hO : Ok m) {b f : ℕ} (hb : b < 40) (hf : f < 7) : 7 * b + f < (cfgM m hO).N := by
  rw [points m hO]; omega

/-- The kept rows are the first point's. -/
theorem rows_held (hO : Ok m) (c : Dev nD) (b : ℕ) (hb : b < 40) : ∀ (f : ℕ) (hf : f < 7),
    (held m hO c (7 * b + f) (lt_points m hO hb hf)).2 = k0_pay2 (iblk m hO c 0 ⟨7 * b, lt_points m hO hb (f := 0) (by omega)⟩)
  | 0, hf => by
    have h0 : (7 * b + 0) % 7 = 0 := by omega
    rw [held_first m hO c ⟨7 * b + 0, lt_points m hO hb hf⟩ h0 (k0_pay1 (F := Ideal), k0_pay2 (iblk m hO c 0 ⟨7 * b, lt_points m hO hb (f := 0) (by omega)⟩))]
    exact if_pos ((first_tile _).mpr h0)
  | f + 1, hf => by
    have h0 : ¬ (7 * b + (f + 1)) % 7 = 0 := by omega
    have hz : 7 * b + (f + 1) ≠ 0 := by omega
    rw [held_next m hO c ⟨7 * b + (f + 1), lt_points m hO hb hf⟩ hz]
    exact (if_neg fun h => h0 ((first_tile ⟨7 * b + (f + 1), lt_points m hO hb hf⟩).mp h)).trans (rows_held hO c b hb f (by omega))

/-- A row block not in use holds zero after each of its points. -/
theorem unused_held (hO : Ok m) (c : Dev nD) (b : ℕ) (hb : b < 40) (hu : ¬ Used m b) : ∀ (f : ℕ) (hf : f < 7) (j : S1024x1024.Idx),
    (held m hO c (7 * b + f) (lt_points m hO hb hf)).1 j = 0
  | 0, hf, j => by
    have h0 : (7 * b + 0) % 7 = 0 := by omega
    have hd : (7 * b + 0) / 7 = b := by omega
    have hn : ¬ k0_cond2 (grid0.coords ⟨7 * b + 0, lt_points m hO hb hf⟩) (inUse (tbl m)) = 1#1 := fun h => hu (by
      have := (in_use _ _).mp h; rwa [hd] at this)
    rw [held_first m hO c ⟨7 * b + 0, lt_points m hO hb hf⟩ h0 (k0_pay1 (F := Ideal), k0_pay2 (iblk m hO c 0 ⟨7 * b, lt_points m hO hb (f := 0) (by omega)⟩))]
    unfold step sumAfter sumBefore
    dsimp only
    rw [if_neg hn, if_pos ((first_tile _).mpr h0)]
    exact pay1_apply j
  | f + 1, hf, j => by
    have h0 : ¬ (7 * b + (f + 1)) % 7 = 0 := by omega
    have hz : 7 * b + (f + 1) ≠ 0 := by omega
    have hd : (7 * b + (f + 1)) / 7 = b := by omega
    have hn : ¬ k0_cond2 (grid0.coords ⟨7 * b + (f + 1), lt_points m hO hb hf⟩) (inUse (tbl m)) = 1#1 := fun h => hu (by
      have := (in_use _ _).mp h; rwa [hd] at this)
    have h1 : ¬ k0_cond1 (grid0.coords ⟨7 * b + (f + 1), lt_points m hO hb hf⟩) = 1#1 := fun h => h0 ((first_tile _).mp h)
    rw [held_next m hO c ⟨7 * b + (f + 1), lt_points m hO hb hf⟩ hz]
    unfold step sumAfter sumBefore
    dsimp only
    rw [if_neg hn, if_neg h1]
    exact unused_held hO c b hb hu f (by omega) j

/-- The contribution of the point `n`, over the rows of the row block `b`. -/
def part (hO : Ok m) (c : Dev nD) (b : ℕ) (hb : b < 40) (n : ℕ) (hn : n < (cfgM m hO).N) (j : S1024x1024.Idx) : EReal :=
  tilePart (iblk m hO c 0 ⟨7 * b, lt_points m hO hb (f := 0) (by omega)⟩) (iblk m hO c 1 ⟨n, hn⟩) (iblk m hO c 2 ⟨n, hn⟩) (iblk m hO c 3 ⟨n, hn⟩) j

/-- A row block in use holds after each of its points the contributions so far. -/
theorem used_held (hO : Ok m) (c : Dev nD) (b : ℕ) (hb : b < 40) (hu : Used m b) : ∀ (f : ℕ) (hf : f < 7) (j : S1024x1024.Idx),
    (held m hO c (7 * b + f) (lt_points m hO hb hf)).1 j
      = ∑ s : Fin (f + 1), part m hO c b hb (7 * b + s.val) (lt_points m hO hb (by have := s.isLt; omega)) j
  | 0, hf, j => by
    have h0 : (7 * b + 0) % 7 = 0 := by omega
    have hd : (7 * b + 0) / 7 = b := by omega
    have hy : k0_cond2 (grid0.coords ⟨7 * b + 0, lt_points m hO hb hf⟩) (inUse (tbl m)) = 1#1 := (in_use _ _).mpr (by
      show IntOp.cmpi .slt (BitVec.ofNat 32 ((7 * b + 0) / 7)) _ = 1#1; rw [hd]; exact hu)
    have h1 := (first_tile ⟨7 * b + 0, lt_points m hO hb hf⟩).mpr h0
    rw [held_first m hO c ⟨7 * b + 0, lt_points m hO hb hf⟩ h0 (k0_pay1 (F := Ideal), k0_pay2 (iblk m hO c 0 ⟨7 * b, lt_points m hO hb (f := 0) (by omega)⟩))]
    unfold step sumAfter sumBefore rowsAfter
    dsimp only
    rw [if_pos hy, if_pos h1, if_pos h1, Fin.sum_univ_one]
    exact (pay3_apply _ _ _ _ _ j).trans ((congrArg (· + _) (pay1_apply j)).trans (zero_add _))
  | f + 1, hf, j => by
    have h0 : ¬ (7 * b + (f + 1)) % 7 = 0 := by omega
    have hz : 7 * b + (f + 1) ≠ 0 := by omega
    have hd : (7 * b + (f + 1)) / 7 = b := by omega
    have hy : k0_cond2 (grid0.coords ⟨7 * b + (f + 1), lt_points m hO hb hf⟩) (inUse (tbl m)) = 1#1 := (in_use _ _).mpr (by
      show IntOp.cmpi .slt (BitVec.ofNat 32 ((7 * b + (f + 1)) / 7)) _ = 1#1; rw [hd]; exact hu)
    have h1 : ¬ k0_cond1 (grid0.coords ⟨7 * b + (f + 1), lt_points m hO hb hf⟩) = 1#1 := fun h => h0 ((first_tile _).mp h)
    have hr : (held m hO c (7 * b + (f + 1) - 1) (prevLt (lt_points m hO hb hf))).2 = _ := rows_held m hO c b hb f (by omega)
    have hs : (held m hO c (7 * b + (f + 1) - 1) (prevLt (lt_points m hO hb hf))).1 j = _ := used_held hO c b hb hu f (by omega) j
    rw [held_next m hO c ⟨7 * b + (f + 1), lt_points m hO hb hf⟩ hz]
    unfold step sumAfter sumBefore rowsAfter
    dsimp only
    rw [if_pos hy, if_neg h1, if_neg h1, hr, Fin.sum_univ_castSucc (n := f + 1)]
    exact (pay3_apply _ _ _ _ _ j).trans (congrArg₂ (· + ·) hs rfl)

/-! ## The blocks at coordinates -/

/-- Where a point's rows and its result lie. -/
theorem rows_index : ∀ t : Fin grid0.N, cc0_transform_0 (grid0.coords t) = ![t.val / 7, 0] := (by decide +kernel : ∀ t : Fin grid0.N, _)
theorem out_index : ∀ t : Fin grid0.N, cc0_transform_4 (grid0.coords t) = ![t.val / 7, 0] := (by decide +kernel : ∀ t : Fin grid0.N, _)

/-- A point of a row block in use names its own hidden tile. -/
theorem tile_used (hO : Ok m) (t : Fin (cfgM m hO).N) (hu : Used m (t.val / 7)) : (tileOf (tbl m) (grid0.coords t)).toNat = t.val % 7 := by
  obtain ⟨e0, e1⟩ := coords_at t
  unfold tileOf
  rw [e0, e1, show Scalar.cmpi .slt (BitVec.ofNat 32 (t.val / 7)) (inUse (tbl m)) = 1#1 from hu]
  show (BitVec.ofNat 32 (t.val % 7)).toNat = _
  rw [BitVec.toNat_ofNat]
  omega

/-- The windows' block numbers at a point; the weights' at a point of a row block in use. -/
theorem idx0 (hO : Ok m) (t : Fin (cfgM m hO).N) : ((cfgM m hO).win 0).index t = ![t.val / 7, 0] := rows_index t
theorem idx4 (hO : Ok m) (t : Fin (cfgM m hO).N) : ((cfgM m hO).win 4).index t = ![t.val / 7, 0] := out_index t
theorem idx1 (hO : Ok m) (t : Fin (cfgM m hO).N) (hu : Used m (t.val / 7)) :
    ((cfgM m hO).win 1).index t = ![(expertOf (tbl m) (grid0.coords t 0)).toNat, 0, t.val % 7] := by
  rw [← tile_used m hO t hu]; exact block_1 (tbl m) (grid0.coords t)
theorem idx2 (hO : Ok m) (t : Fin (cfgM m hO).N) (hu : Used m (t.val / 7)) :
    ((cfgM m hO).win 2).index t = ![(expertOf (tbl m) (grid0.coords t 0)).toNat, 0, t.val % 7] := by
  rw [← tile_used m hO t hu]; exact block_2 (tbl m) (grid0.coords t)
theorem idx3 (hO : Ok m) (t : Fin (cfgM m hO).N) (hu : Used m (t.val / 7)) :
    ((cfgM m hO).win 3).index t = ![(expertOf (tbl m) (grid0.coords t 0)).toNat, t.val % 7, 0] := by
  rw [← tile_used m hO t hu]; exact block_3 (tbl m) (grid0.coords t)

/-- The rows a point reads. -/
theorem iblk0_apply (hO : Ok m) (c : Dev nD) (t : Fin (cfgM m hO).N) (p q : Fin 1024) (r : Fin 40960) (hr : r.val = 1024 * (t.val / 7) + p.val) :
    iblk m hO c 0 t (ix2 p q) = (m ((c : Thread nD τ).loc main_arg2)) (ix2 r q) := by
  have e := idx0 m hO t
  blk_ext [iblk, V, e]

/-- The gate weights a point of a row block in use reads, -/
theorem iblk1_apply (hO : Ok m) (c : Dev nD) (t : Fin (cfgM m hO).N) (hu : Used m (t.val / 7)) (e : Fin 8)
    (he : (expertOf (tbl m) (grid0.coords t 0)).toNat = e.val) (p : Fin 1024) (q : Fin 512) (k : Fin 3584) (hk : k.val = 512 * (t.val % 7) + q.val) :
    iblk m hO c 1 t (ix3 0 p q) = (m ((c : Thread nD τ).loc main_arg3)) (ix3 e p k) := by
  have ei := idx1 m hO t hu
  blk_ext [iblk, V, ei]

/-- its up weights, -/
theorem iblk2_apply (hO : Ok m) (c : Dev nD) (t : Fin (cfgM m hO).N) (hu : Used m (t.val / 7)) (e : Fin 8)
    (he : (expertOf (tbl m) (grid0.coords t 0)).toNat = e.val) (p : Fin 1024) (q : Fin 512) (k : Fin 3584) (hk : k.val = 512 * (t.val % 7) + q.val) :
    iblk m hO c 2 t (ix3 0 p q) = (m ((c : Thread nD τ).loc main_arg4)) (ix3 e p k) := by
  have ei := idx2 m hO t hu
  blk_ext [iblk, V, ei]

/-- and its down weights. -/
theorem iblk3_apply (hO : Ok m) (c : Dev nD) (t : Fin (cfgM m hO).N) (hu : Used m (t.val / 7)) (e : Fin 8)
    (he : (expertOf (tbl m) (grid0.coords t 0)).toNat = e.val) (p : Fin 512) (q : Fin 1024) (k : Fin 3584) (hk : k.val = 512 * (t.val % 7) + p.val) :
    iblk m hO c 3 t (ix3 0 p q) = (m ((c : Thread nD τ).loc main_arg5)) (ix3 e k q) := by
  have ei := idx3 m hO t hu
  blk_ext [iblk, V, ei]

/-! ## The result -/

/-- The number of row blocks in use, read off the launch memory. -/
theorem inUse_eq : inUse (tbl m) = (m (((0 : Dev nD) : Thread nD τ).loc main_arg1)) (ix1 0) := by
  unfold inUse Pipeline.Prefetch.Contents.atD
  rw [dif_pos (by decide)]
  refine congrArg (m (((0 : Dev nD) : Thread nD τ).loc main_arg1)) (funext fun a => ?_)
  obtain rfl : a = (0 : Fin 1) := Subsingleton.elim (α := Fin 1) _ _
  exact Subsingleton.elim (α := Fin 1) _ _

/-- A hidden unit's term is the same over equal reads. -/
theorem gated_congr (a a' g g' u u' : Fin 1024 → EReal) (d d' : EReal) (ha : ∀ l, a l = a' l) (hg : ∀ l, g l = g' l) (hu : ∀ l, u l = u' l) (hd : d = d') :
    ((∑ l, a l * g l) * Ideal.logistic (∑ l, a l * g l) * ∑ l, a l * u l) * d
      = ((∑ l, a' l * g' l) * Ideal.logistic (∑ l, a' l * g' l) * ∑ l, a' l * u' l) * d' := by
  rw [funext ha, funext hg, funext hu, hd]

/-- What a row block's last point leaves is the reference at the block's rows. -/
theorem block_value (hO : Ok m) (h : ∀ b : Fin 40, ((m (((0 : Dev nD) : Thread nD τ).loc main_arg0)) (ix1 b)).toNat < 8) (b : ℕ) (hb : b < 40)
    (j : S1024x1024.Idx) (r : Fin 40960) (hr : r.val = 1024 * b + (j 0).val) (q : Fin 1024) (hq : q.val = (j 1).val) :
    (held m hO 0 (7 * b + 6) (lt_points m hO hb (by omega))).1 j
      = Cert.MoeReferenceIdeal.Read.val_main_v33 (F := Ideal) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) (ix2 r q) := by
  have hj : (j 0).val < 1024 := (j 0).isLt
  refine Eq.trans ?_ (Cert.MoeReferenceIdeal.Value.ref_apply _ h _ _ _ _ _ ⟨b, hb⟩ r q (by show r.val / 1024 = b; omega)).symm
  rw [← inUse_eq m]
  by_cases hu : Used m b
  · rw [used_held m hO 0 b hb hu 6 (by omega) j]
    refine Eq.trans ?_ (if_pos hu).symm
    unfold part tilePart Cert.MoeReferenceIdeal.Value.hidden
    refine Fin.sum_mul_add_congr fun s k hl => ?_
    have hs : s.val < 7 := s.isLt
    have ht : 7 * b + s.val < (cfgM m hO).N := lt_points m hO hb hs
    have hd : (7 * b + s.val) / 7 = b := by omega
    have hm : (7 * b + s.val) % 7 = s.val := by omega
    have hu' : Used m ((7 * b + s.val) / 7) := by rw [hd]; exact hu
    have he : (expertOf (tbl m) (grid0.coords ⟨7 * b + s.val, ht⟩ 0)).toNat = (Cert.MoeReferenceIdeal.Value.expert _ h ⟨b, hb⟩).val := by
      have : grid0.coords ⟨7 * b + s.val, ht⟩ 0 = (⟨b, hb⟩ : Fin 40) := Fin.ext ((coords_at _).1.trans hd)
      rw [this]; rfl
    have h0 : ∀ l : Fin 1024, iblk m hO 0 0 ⟨7 * b, lt_points m hO hb (f := 0) (by omega)⟩ (ix2 (j 0) l) = (m (((0 : Dev nD) : Thread nD τ).loc main_arg2)) (ix2 r l) :=
      fun l => iblk0_apply m hO 0 ⟨7 * b, _⟩ (j 0) l r (by show r.val = 1024 * (7 * b / 7) + _; omega)
    have h1 : ∀ l : Fin 1024, iblk m hO 0 1 ⟨7 * b + s.val, ht⟩ (ix3 0 l k) = (m (((0 : Dev nD) : Thread nD τ).loc main_arg3)) (ix3 (Cert.MoeReferenceIdeal.Value.expert _ h ⟨b, hb⟩) l _) :=
      fun l => iblk1_apply m hO 0 ⟨7 * b + s.val, ht⟩ hu' _ he l k ⟨_, hl⟩ (by show s.val * 512 + k.val = 512 * ((7 * b + s.val) % 7) + _; omega)
    have h2 : ∀ l : Fin 1024, iblk m hO 0 2 ⟨7 * b + s.val, ht⟩ (ix3 0 l k) = (m (((0 : Dev nD) : Thread nD τ).loc main_arg4)) (ix3 (Cert.MoeReferenceIdeal.Value.expert _ h ⟨b, hb⟩) l _) :=
      fun l => iblk2_apply m hO 0 ⟨7 * b + s.val, ht⟩ hu' _ he l k ⟨_, hl⟩ (by show s.val * 512 + k.val = 512 * ((7 * b + s.val) % 7) + _; omega)
    have h3 : iblk m hO 0 3 ⟨7 * b + s.val, ht⟩ (ix3 0 k (j 1)) = (m (((0 : Dev nD) : Thread nD τ).loc main_arg5)) (ix3 (Cert.MoeReferenceIdeal.Value.expert _ h ⟨b, hb⟩) _ q) :=
      (iblk3_apply m hO 0 ⟨7 * b + s.val, ht⟩ hu' _ he k (j 1) ⟨_, hl⟩ (by show s.val * 512 + k.val = 512 * ((7 * b + s.val) % 7) + _; omega)).trans
        (congrArg _ (congrArg (ix3 _ _) (Fin.ext hq.symm)))
    exact gated_congr _ _ _ _ _ _ _ _ h0 h1 h2 h3
  · exact (unused_held m hO 0 b hb hu 6 (by omega) j).trans (if_neg hu).symm

/-- The blocks written back cover the result. -/
theorem covers (hO : Ok m) : ((cfgM m hO).win 4).Covers := by
  refine ⟨(by decide : ∀ a : Fin 2, 0 < S1024x1024.size a), fun β => ?_⟩
  have hb : (β (0 : Fin 2)).val < 40 := (β (0 : Fin 2)).isLt.trans_eq (by show (40960 + 1024 - 1) / 1024 = 40; decide)
  have h1 : (β (1 : Fin 2)).val < 1 := (β (1 : Fin 2)).isLt.trans_eq (by show (1024 + 1024 - 1) / 1024 = 1; decide)
  refine ⟨⟨7 * (β (0 : Fin 2)).val + 6, lt_points m hO hb (by omega)⟩, (flush_out m hO _).mpr (by show (7 * (β (0 : Fin 2)).val + 6) % 7 = 6; omega), fun a => ⟨?_, .inl rfl⟩⟩
  rw [idx4]
  match a with
  | ⟨0, _⟩ => show (7 * (β (0 : Fin 2)).val + 6) / 7 = (β (0 : Fin 2)).val; omega
  | ⟨1, _⟩ => show 0 = (β (1 : Fin 2)).val; omega

/-- What is held after a point, the point written otherwise. -/
theorem held_at (hO : Ok m) (c : Dev nD) {n k : ℕ} (e : n = k) (h : n < (cfgM m hO).N) : held m hO c n h = held m hO c k (e ▸ h) := by
  subst e; rfl

/-- The array the kernel returns is the reference's, over the kernel's own arguments. -/
theorem final (hO : Ok m) (h : ∀ b : Fin 40, ((m (((0 : Dev nD) : Thread nD τ).loc main_arg0)) (ix1 b)).toNat < 8) :
    (dats m hO 0 0).arrAt 4 (cfgM m hO).N
      = Cert.MoeReferenceIdeal.Read.val_main_v33 (F := Ideal) (m (((0 : Dev nD) : Thread nD τ).loc main_arg0)) (m (((0 : Dev nD) : Thread nD τ).loc main_arg1)) (m (((0 : Dev nD) : Thread nD τ).loc main_arg2)) (m (((0 : Dev nD) : Thread nD τ).loc main_arg3)) (m (((0 : Dev nD) : Thread nD τ).loc main_arg4)) (m (((0 : Dev nD) : Thread nD τ).loc main_arg5)) := by
  refine (dats m hO 0 0).arrAt_eq_of_covers 4 _ (covers m hO) fun t hf y => ?_
  have hm : t.val % 7 = 6 := (flush_out m hO t).mp hf
  have ht : t.val < 280 := lt_of_lt_of_eq t.isLt (points m hO)
  have hb : t.val / 7 < 40 := by omega
  have e4 := idx4 m hO t
  blk_simp
  rw [after_4]
  have h0 : (y (0 : Fin 2)).val < 1024 := (y (0 : Fin 2)).isLt
  have h1 : (y (1 : Fin 2)).val < 1024 := (y (1 : Fin 2)).isLt
  have he : (((cfgM m hO).win 4).blk t).view.emb y
      = ix2 (⟨1024 * (t.val / 7) + (y (0 : Fin 2)).val, by omega⟩ : Fin 40960) (⟨(y (1 : Fin 2)).val, h1⟩ : Fin 1024) := by
    blk_ext [e4]
  have hn : 7 * (t.val / 7) + 6 = t.val := by omega
  refine Eq.trans ?_ ((block_value m hO h (t.val / 7) hb y ⟨1024 * (t.val / 7) + (y (0 : Fin 2)).val, by omega⟩ rfl ⟨(y (1 : Fin 2)).val, h1⟩ rfl).trans (congrArg _ he.symm))
  exact congrFun (congrArg Prod.fst (held_at m hO 0 hn _)).symm y

/-- The launch, with its result written as the reference of its own arguments and its arguments unchanged. -/
theorem run (ρ : Dev nD → PrngReg) (hO : Ok m) (h : ∀ b : Fin 40, ((m (((0 : Dev nD) : Thread nD τ).loc main_arg0)) (ix1 b)).toNat < 8) :
    θ_run defs (onTc (τ := τ) (main (F := Ideal))) ⟨m, fun _ => 0, ρ⟩ (fun r => ∀ c : Dev nD,
      r.2.mem ((c.tc : Thread nD τ).loc main_v0)
          = Cert.MoeReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ g c => ⟨by obtain rfl : c = 0 := Subsingleton.elim _ _; exact ((g 0).1 4).trans (final m hO h),
      (g c).2 main_arg0 (by decide : main_arg0 ∈ Pipeline.restRefs sig spec0),
      (g c).2 main_arg1 (by decide : main_arg1 ∈ Pipeline.restRefs sig spec0),
      ((g c).1 0).trans (((dats m hO 0 c).arrAt_in 0 rfl _).trans (A_eq m hO c 0)),
      ((g c).1 1).trans (((dats m hO 0 c).arrAt_in 1 rfl _).trans (A_eq m hO c 1)),
      ((g c).1 2).trans (((dats m hO 0 c).arrAt_in 2 rfl _).trans (A_eq m hO c 2)),
      ((g c).1 3).trans (((dats m hO 0 c).arrAt_in 3 rfl _).trans (A_eq m hO c 3))⟩) (run_main m ρ hO)

end Cert.MoeIdeal.Experts

end
-- ==== Proof.SsdTrips.lean ====
module

public import proofs.«01_k».proof.Proof.Gen.ReferenceIdeal.Run
public import proofs.«01_k».proof.Proof.Gen.ReferenceIdeal.Step

@[expose] public section

noncomputable section

/-!
The reference recurrence's run, read chunk by chunk: the contents of the loop's buffers before trip `k` are the `k`-th
state of a sequence that steps as one chunk does, and the results are read off the last state.
-/

namespace Cert.ReferenceIdeal.Trips

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The state that the loop's buffers hold. -/
def ofBuffers (V : Valuation τ sig (Elt F)) : State F where
  main_v58_7 := V (Proc.devRef .tc main_v58_7)
  main_v58_8 := V (Proc.devRef .tc main_v58_8)
  main_v58_0 := V (Proc.devRef .tc main_v58_0)
  main_v58_1 := V (Proc.devRef .tc main_v58_1)
  main_v58_2 := V (Proc.devRef .tc main_v58_2)
  main_v58_3 := V (Proc.devRef .tc main_v58_3)
  main_v58_4 := V (Proc.devRef .tc main_v58_4)
  main_v58_5 := V (Proc.devRef .tc main_v58_5)

/-- The buffer that counts the trips holds `j`. -/
def Counts (V : Valuation τ sig (Elt F)) (j : ℕ) : Prop :=
  V (Proc.devRef .tc main_v58_6) = constantI S_ 32 (BitVec.ofNat 32 j)

set_option maxRecDepth 16384 in
/-- The carried state after trip `j`. -/
theorem carried_after (V : Valuation τ sig (Elt F)) (j : ℕ) (h : Counts V j) :
    Value.step_main_v58_7 V = b91 j (ofBuffers V) := by
  unfold Counts at h
  simp only [Value.step_main_v58_7, res_main_while0b_v89, res_main_while0b_v104, res_main_while0b_v80, res_main_while0b_v81,
    res_main_while0b_v82, h]
  rfl

set_option maxRecDepth 16384 in
/-- The stack of the chunks' rows after trip `j`. -/
theorem stacked_after (V : Valuation τ sig (Elt F)) (j : ℕ) (h : Counts V j) :
    Value.step_main_v58_8 V = b98 j (ofBuffers V) := by
  unfold Counts at h
  simp only [Value.step_main_v58_8, res_main_while0b_v89, res_main_while0b_v104, res_main_while0b_v80, res_main_while0b_v81,
    res_main_while0b_v82, res_main_while0b_v83, h]
  rfl

/-- One trip steps the state. -/
theorem ofBuffers_step (V : Valuation τ sig (Elt F)) (j : ℕ) (h : Counts V j) :
    ofBuffers (STEP V) = step j (ofBuffers V) := by
  unfold step
  rw [← carried_after V j h, ← stacked_after V j h]
  simp only [ofBuffers, STEP_main_v58_7, STEP_main_v58_8, STEP_main_v58_0, STEP_main_v58_1, STEP_main_v58_2,
    STEP_main_v58_3, STEP_main_v58_4, STEP_main_v58_5]
  rfl

/-- One trip counts one more. -/
theorem counts_step (V : Valuation τ sig (Elt F)) (j : ℕ) (h : Counts V j) : Counts (STEP V) (j + 1) := by
  unfold Counts at h ⊢
  rw [STEP_main_v58_6, step_main_v58_6, h]
  funext i
  show BitVec.ofNat 32 j + 1#32 = BitVec.ofNat 32 (j + 1)
  rw [BitVec.ofNat_add]

variable (m : (ℓ : Loc nD τ sig) → Buf (Elt F) ℓ) (c : Dev nD)

/-- The state before the first chunk: the arrays cut into chunks, the empty stack and the empty state. -/
abbrev start : State F :=
  init (m ((c.tc : Thread nD τ).loc main_arg7)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The state before chunk `k`. -/
def before : ℕ → State F
  | 0 => start m c
  | k + 1 => step k (before k)

set_option maxRecDepth 65536 in
set_option maxHeartbeats 1000000 in
/-- The operations before the loop leave the first state, -/
theorem entry_state : ofBuffers (entryContents preI m c) = start m c := by
  have key : ∀ (s : State F), (entryContents preI m c (Proc.devRef .tc main_v58_7) = s.main_v58_7)
      → (entryContents preI m c (Proc.devRef .tc main_v58_8) = s.main_v58_8)
      → (entryContents preI m c (Proc.devRef .tc main_v58_0) = s.main_v58_0)
      → (entryContents preI m c (Proc.devRef .tc main_v58_1) = s.main_v58_1)
      → (entryContents preI m c (Proc.devRef .tc main_v58_2) = s.main_v58_2)
      → (entryContents preI m c (Proc.devRef .tc main_v58_3) = s.main_v58_3)
      → (entryContents preI m c (Proc.devRef .tc main_v58_4) = s.main_v58_4)
      → (entryContents preI m c (Proc.devRef .tc main_v58_5) = s.main_v58_5)
      → ofBuffers (entryContents preI m c) = s := by
    intro s h7 h8 h0 h1 h2 h3 h4 h5
    unfold ofBuffers
    rw [h7, h8, h0, h1, h2, h3, h4, h5]
  apply key <;> (simp only [entryContents, afterL_cons, afterL_nil]; after_reads_simp) <;> rfl

set_option maxRecDepth 65536 in
/-- and the count zero. -/
theorem entry_counts : Counts (entryContents preI m c) 0 := by
  unfold Counts
  simp only [entryContents, afterL_cons, afterL_nil]
  after_reads_simp
  rfl

/-- Before trip `k` the buffers hold the `k`-th state, and the count is `k`. -/
theorem buffers_before : ∀ k, ofBuffers (STEP^[k] (entryContents preI m c)) = before m c k
    ∧ Counts (STEP^[k] (entryContents preI m c)) k
  | 0 => ⟨entry_state m c, entry_counts m c⟩
  | k + 1 => by
    obtain ⟨h, hc⟩ := buffers_before k
    rw [Function.iterate_succ_apply']
    exact ⟨by rw [ofBuffers_step _ k hc, h, before], counts_step _ k hc⟩

/-- The normed rows are those of the last state's stack, -/
theorem out_rows (V : Valuation τ sig (Elt F)) :
    out_main_v77 V = R_main_v77 (ofBuffers V) (V (Proc.devRef .tc main_arg0)) (V (Proc.devRef .tc main_arg8)) := by
  unfold out_main_v77 R_main_v77
  rfl

/-- the history is the last rows of the second argument, -/
theorem out_history (V : Valuation τ sig (Elt F)) :
    out_main_v78 V = R_main_v78 (ofBuffers V) (V (Proc.devRef .tc main_arg1)) := by
  unfold out_main_v78 R_main_v78
  rfl

/-- and the final state is the last state's, reshaped. -/
theorem out_state (V : Valuation τ sig (Elt F)) : out_main_v79 V = R_main_v79 (ofBuffers V) := by
  unfold out_main_v79 R_main_v79
  rfl

/-- Every run ends with the three results read off the state after the last chunk, and every argument as it was. -/
theorem results (ρ : Dev nD → PrngReg) :
    θ_run (defs (F := F)) (onTc (τ := τ) (main (F := F))) ⟨m, fun _ => 0, ρ⟩ fun r => ∀ c : Dev nD,
      (r.2.mem ((c.tc : Thread nD τ).loc main_v77) = R_main_v77 (before m c 128) (m ((c.tc : Thread nD τ).loc main_arg0)) (m ((c.tc : Thread nD τ).loc main_arg8))
      ∧ r.2.mem ((c.tc : Thread nD τ).loc main_v78) = R_main_v78 (before m c 128) (m ((c.tc : Thread nD τ).loc main_arg1))
      ∧ r.2.mem ((c.tc : Thread nD τ).loc main_v79) = R_main_v79 (before m c 128))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun _ h c => ?_) (Value.run m ρ)
  obtain ⟨h77, h78, h79, hargs⟩ := h c
  have hk := (buffers_before m c 128).1
  refine ⟨⟨h77.trans ?_, h78.trans ?_, h79.trans ?_⟩, hargs⟩
  · rw [out_rows, hk, iter_main_arg0, iter_main_arg8]
  · rw [out_history, hk, iter_main_arg1]
  · rw [out_state, hk]

end Cert.ReferenceIdeal.Trips

end
-- ==== Proof.SsdMath.lean ====
module

public import Idealize.ShloMosaic.Lib.Pipeline.ValueKit

@[expose] public section

noncomputable section

/-!
One chunk of the state-space recurrence, one head and one channel at a time, over the extended reals.
-/

namespace Cert.Ssd

open Idealize.ShloMosaic

/-- The running sum of the steps times the head's rate, up to and including row `i`. -/
def running (dt : Fin 128 → EReal) (a : EReal) (i : Fin 128) : EReal := ∑ k : Fin 128, if k ≤ i then dt k * a else 0

/-- How much of row `j` remains at row `i`: nothing when `j` is later. -/
def decay (s : Fin 128 → EReal) (i j : Fin 128) : EReal := Ideal.exp (if j ≤ i then s i - s j else ⊥)

/-- The chunk's output at row `i`: what the chunk's own rows give, what the state before gives, and the skip. -/
def row (x dt s : Fin 128 → EReal) (B C : Fin 128 → Fin 128 → EReal) (H : Fin 128 → EReal) (d : EReal) (i : Fin 128) : EReal :=
  (∑ j : Fin 128, decay s i j * (∑ n : Fin 128, C i n * B j n) * (x j * dt j))
    + (∑ n : Fin 128, C i n * H n) * Ideal.exp (s i) + d * x i

/-- The state after the chunk. -/
def after (x dt s : Fin 128 → EReal) (B : Fin 128 → Fin 128 → EReal) (H : Fin 128 → EReal) (k : Fin 128) : EReal :=
  H k * Ideal.exp (s 127) + ∑ j : Fin 128, B j k * (x j * dt j * Ideal.exp (s 127 - s j))

/-- SiLU. -/
def silu (x : EReal) : EReal := x * Ideal.logistic x

/-- Softplus, as the largest of the value and zero plus a correction. -/
def softplus (x : EReal) : EReal := max x 0 + Ideal.log1p (Ideal.exp (-(max x (-x))))

/-- The gate and the norm over the channels. -/
def gated (Y : Fin 512 → EReal) (z : Fin 512 → EReal) (g : Fin 512 → EReal) (c : Fin 512) : EReal :=
  Y c * silu (z c) * Ideal.rsqrt (Ideal.div (∑ x : Fin 512, (Y x * silu (z x)) * (Y x * silu (z x))) (Ideal.ofBits .f32 0x44000000#32)
    + Ideal.ofBits .f32 0x358637BD#32) * g c

/-- Channel `p` of head `h` among the 512 channels. -/
def chan (h : Fin 8) (p : Fin 64) : Fin 512 := ⟨64 * h.val + p.val, by omega⟩

/-- Every channel is some head's. -/
theorem exists_chan (c : Fin 512) : ∃ h p, c = chan h p :=
  ⟨⟨c.val / 64, by omega⟩, ⟨c.val % 64, by omega⟩, Fin.ext (by show c.val = 64 * (c.val / 64) + c.val % 64; omega)⟩

/-- Entry `n` of head `h`'s group among the 256 entries of the two groups. -/
def ent (h : Fin 8) (n : Fin 128) : Fin 256 := ⟨128 * (h.val / 4) + n.val, by omega⟩

end Cert.Ssd

end
-- ==== Proof.SsdPayload.lean ====
module

public import proofs.«01_k».proof.Proof.Gen.KernelIdeal.Value
public import Idealize.ShloMosaic.Lib.Pipeline.ValueKit
public import Idealize.ShloMosaic.Lib.Pipeline.ReadBack
public import proofs.«01_k».proof.Proof.SsdMath

@[expose] public section

set_option maxRecDepth 16384
set_option maxHeartbeats 1000000
noncomputable section
namespace Cert.KernelIdeal.Value
open Cert.KernelIdeal Cert.KernelIdeal.Gen Idealize.ShloMosaic Idealize.ShloMosaic.TcCoe Idealize.SL.Sem
open Idealize.ShloMosaic.Pipeline (Dat)
open Cert.Ssd

/-! ## Comparisons of rows and lanes -/

/-- A small natural number as a word is itself. -/
theorem toInt_small (n : ℕ) (hn : n < 512) : (BitVec.ofNat 32 n).toInt = n := by
  rw [BitVec.toInt_eq_toNat_of_lt] <;> rw [BitVec.toNat_ofNat] <;> omega

/-- The signed comparison of two small words is that of the numbers. -/
theorem sge_small (n k : ℕ) (hn : n < 512) (hk : k < 512) :
    IntOp.cmpi .sge (BitVec.ofNat 32 n) (BitVec.ofNat 32 k) = if k ≤ n then 1#1 else 0#1 := by
  simp [IntOp.cmpi, BitVec.sle, BitVec.slt, toInt_small n hn, toInt_small k hk]
  by_cases h : k ≤ n <;> simp [h] <;> omega

/-- A choice by lane: the first 64 lanes take the first value. -/
theorem lane_select (n : ℕ) (hn : n < 512) (a b : EReal) :
    Scalar.select (IntOp.cmpi .slt (BitVec.ofNat 32 n) 64#32) a b = if n < 64 then a else b := by
  have h : IntOp.cmpi .slt (BitVec.ofNat 32 n) 64#32 = if n < 64 then 1#1 else 0#1 := by
    simp [IntOp.cmpi, BitVec.slt, toInt_small n hn]
    by_cases h : n < 64 <;> simp [h]
  rw [h]
  by_cases h : n < 64 <;> simp [h, Scalar.select]

/-- A choice of the rows below 128 takes every row of a chunk. -/
theorem valid_select (n : ℕ) (hn : n < 128) (a b : EReal) :
    Scalar.select (IntOp.cmpi .slt (BitVec.ofNat 32 n) 128#32) a b = a := by
  have h : IntOp.cmpi .slt (BitVec.ofNat 32 n) 128#32 = 1#1 := by
    simp [IntOp.cmpi, BitVec.slt, toInt_small n (by omega)]
    simp [hn]
  rw [h]
  simp [Scalar.select]

/-- A choice by the causal mask. -/
theorem causal_select (i k : Fin 128) (a b : EReal) :
    Scalar.select (k0_pay13 (ix2 i k)) a b = if k ≤ i then a else b := by
  have h : k0_pay13 (ix2 i k) = IntOp.cmpi .sge (BitVec.ofNat 32 i.val) (BitVec.ofNat 32 k.val) := by
    pointwise [k0_pay13]
  rw [h, sge_small _ _ (by omega) (by omega)]
  by_cases h : k ≤ i
  · rw [if_pos h, if_pos (show k.val ≤ i.val from h)]; simp [Scalar.select]
  · rw [if_neg h, if_neg (show ¬k.val ≤ i.val from h)]; simp [Scalar.select]

/-- The mask's constant is minus infinity. -/
theorem mask_eq : Named.named (F := Ideal) κ "mask" (φ := .f32) 4048155338#32 = (⊥ : EReal) := rfl

/-- The causal mask as a number is one or zero. -/
theorem cast_causal (i k : Fin 128) :
    FloatOps.sitofp (F := Ideal) FTy.f32
        (BitVec.setWidth 32 (IntOp.cmpi CmpIPredicate.sge (BitVec.ofNat 32 i.val) (BitVec.ofNat 32 k.val)))
      = if k ≤ i then (1 : EReal) else 0 := by
  rw [sge_small _ _ (by omega) (by omega)]
  by_cases h : k ≤ i
  · rw [if_pos h, if_pos (show k.val ≤ i.val from h)]
    show (((BitVec.setWidth 32 1#1).toInt : ℝ) : EReal) = 1
    norm_num
  · rw [if_neg h, if_neg (show ¬k.val ≤ i.val from h)]
    show (((BitVec.setWidth 32 0#1).toInt : ℝ) : EReal) = 0
    norm_num

/-! ## Steps and running sums -/

/-- A row's step for head `h`. -/
theorem step_apply (a : BitVec 32) (x : Vec Ideal S1x128x128 .f32) (b : Vec Ideal S1x128 .f32) (i h : Fin 128) :
    k0_pay12 (F := Ideal) a x b (ix2 i h) = softplus (x (ix3 0 i h) + b (ix2 0 h)) := by
  pointwise [k0_pay12]
  rw [valid_select _ i.isLt, zero_sub]
  rfl

/-- The running sum for head `h`, written as a product with the causal mask. -/
theorem running_apply (a : BitVec 32) (x : Vec Ideal S1x128x128 .f32) (b c : Vec Ideal S1x128 .f32) (i h : Fin 128) :
    k0_pay14 (F := Ideal) a x b c (ix2 i h)
      = running (fun k => softplus (x (ix3 0 k h) + b (ix2 0 h))) (c (ix2 0 h)) i := by
  pointwise [k0_pay14, k0_pay13]
  unfold running
  refine Finset.sum_congr rfl fun k _ => ?_
  rw [cast_causal, step_apply]
  by_cases h : k ≤ i <;> simp [h]

/-- The same, transposed. -/
theorem running_t_apply (a : BitVec 32) (x : Vec Ideal S1x128x128 .f32) (b c : Vec Ideal S1x128 .f32) (i h : Fin 128) :
    k0_pay15 (F := Ideal) a x b c (ix2 h i) = k0_pay14 a x b c (ix2 i h) := by
  pointwise [k0_pay15]

/-- The running sum's exponential. -/
theorem grown_apply (a : BitVec 32) (x : Vec Ideal S1x128x128 .f32) (b c : Vec Ideal S1x128 .f32) (i h : Fin 128) :
    k0_pay16 (F := Ideal) a x b c (ix2 i h) = Ideal.exp (k0_pay14 a x b c (ix2 i h)) := by
  pointwise [k0_pay16]

/-- What remains at the chunk's end. -/
theorem to_end_apply (a : BitVec 32) (x : Vec Ideal S1x128x128 .f32) (b c : Vec Ideal S1x128 .f32) (i h : Fin 128) :
    k0_pay17 (F := Ideal) a x b c (ix2 i h)
      = Ideal.exp (k0_pay14 a x b c (ix2 127 h) - k0_pay14 a x b c (ix2 i h)) := by
  pointwise [k0_pay17]

/-! ## A head's value spread over its channels -/

/-- The steps spread over the channels. -/
theorem spread_steps (v : FVec Ideal S128x128 .f32) (i : Fin 128) (h : Fin 8) (p : Fin 64) :
    k0_pay18 v (iota .tc S128x128 32 [1] iota_S128x128_d1_w32) (ix2 i (chan h p)) = v (ix2 i ⟨h.val, by omega⟩) := by
  unfold chan
  fin_cases h <;> (pointwise [k0_pay18]; rw [lane_select _ (by omega)] <;> (try rw [lane_select _ (by omega)]) <;>
    (try rw [lane_select _ (by omega)]) <;> (try rw [lane_select _ (by omega)]); split_ifs <;> first | rfl | omega)

/-- The exponentials spread over the channels. -/
theorem spread_grown (v : FVec Ideal S128x128 .f32) (i : Fin 128) (h : Fin 8) (p : Fin 64) :
    k0_pay23 v (iota .tc S128x128 32 [1] iota_S128x128_d1_w32) (k0_pay19 v) (k0_pay20 v) (k0_pay21 v) k0_pay22 (ix2 i (chan h p))
      = v (ix2 i ⟨h.val, by omega⟩) := by
  unfold chan
  fin_cases h <;> (pointwise [k0_pay23, k0_pay19, k0_pay20, k0_pay21, k0_pay22]; rw [lane_select _ (by omega)] <;> (try rw [lane_select _ (by omega)]) <;>
    (try rw [lane_select _ (by omega)]) <;> (try rw [lane_select _ (by omega)]); split_ifs <;> first | rfl | omega)

/-- The rows times their steps, in each channel. -/
theorem stepped_apply (x y : FVec Ideal S128x512 .f32) (i : Fin 128) (c : Fin 512) :
    k0_pay30 x y (ix2 i c) = (x (ix2 i c) : EReal) * y (ix2 i c) := by
  pointwise [k0_pay30, k0_pay29]

/-- The same, times what remains at the chunk's end. -/
theorem weighted_apply (x y : FVec Ideal S128x512 .f32) (v : FVec Ideal S128x128 .f32) (i : Fin 128) (h : Fin 8) (p : Fin 64) :
    k0_pay31 x y (iota .tc S128x128 32 [1] iota_S128x128_d1_w32) (k0_pay24 v) (k0_pay25 v) (k0_pay26 v) (k0_pay27 v) (k0_pay28 v) (ix2 i (chan h p))
      = (x (ix2 i (chan h p)) : EReal) * y (ix2 i (chan h p)) * v (ix2 i ⟨h.val, by omega⟩) := by
  unfold chan
  fin_cases h <;> (pointwise [k0_pay31, k0_pay24, k0_pay25, k0_pay26, k0_pay27, k0_pay28, k0_pay29]; rw [lane_select _ (by omega)] <;> (try rw [lane_select _ (by omega)]) <;>
    (try rw [lane_select _ (by omega)]) <;> (try rw [lane_select _ (by omega)]); split_ifs <;> first | rfl | omega)

/-! ## What a chunk's own rows give -/

/-- How much of row `x` remains at row `i`, for head `h`, from the running sums by row and by lane. -/
def left (e f : FVec Ideal S128x128 .f32) (h : Fin 128) (i x : Fin 128) : EReal :=
  Ideal.exp (if x ≤ i then (e (ix2 i h) : EReal) - f (ix2 h x) else ⊥)

/-- The products of the two groups' rows. -/
theorem products_first (b c : FVec Ideal S128x256 .f32) (i x : Fin 128) :
    k0_pay34 b c (ix2 i x) = ∑ n : Fin 128, (c (ix2 i ⟨n.val, by omega⟩) : EReal) * b (ix2 x ⟨n.val, by omega⟩) := by
  pointwise [k0_pay34, k0_pay33, k0_pay32]

/-- The products of the two groups' rows. -/
theorem products_second (b c : FVec Ideal S128x256 .f32) (i x : Fin 128) :
    k0_pay43 b c (ix2 i x) = ∑ n : Fin 128, (c (ix2 i ⟨128 + n.val, by omega⟩) : EReal) * b (ix2 x ⟨128 + n.val, by omega⟩) := by
  pointwise [k0_pay43, k0_pay41, k0_pay42]

/-- What the state before gives to the first group's channels. -/
theorem carried_first (c : FVec Ideal S128x256 .f32) (H : Vec Ideal S128x256 .f32) (i : Fin 128) (l : Fin 256) :
    k0_pay35 c H (ix2 i l) = ∑ n : Fin 128, (c (ix2 i ⟨n.val, by omega⟩) : EReal) * H (ix2 n l) := by
  pointwise [k0_pay35, k0_pay33]

/-- What the state before gives to the second group's channels. -/
theorem carried_second (c : FVec Ideal S128x256 .f32) (H : Vec Ideal S128x256 .f32) (i : Fin 128) (l : Fin 256) :
    k0_pay44 c H (ix2 i l) = ∑ n : Fin 128, (c (ix2 i ⟨128 + n.val, by omega⟩) : EReal) * H (ix2 n l) := by
  pointwise [k0_pay44, k0_pay42]

/-- Heads 0 and 1. -/
theorem slab_first (v w : FVec Ideal S128x512 .f32) (b c : FVec Ideal S128x256 .f32) (e f : FVec Ideal S128x128 .f32) (i l : Fin 128) :
    k0_pay36 v b c k0_pay13 e f w (ix2 i l)
      = if l.val < 64 then ∑ x : Fin 128, left e f 0 i x * k0_pay34 b c (ix2 i x) * k0_pay30 v w (ix2 x ⟨l.val, by omega⟩)
        else ∑ x : Fin 128, left e f 1 i x * k0_pay34 b c (ix2 i x) * k0_pay30 v w (ix2 x ⟨l.val, by omega⟩) := by
  pointwise [k0_pay36]
  rw [lane_select _ (by omega)]
  simp only [causal_select, mask_eq]
  rfl

/-- Heads 2 and 3. -/
theorem slab_second (v w : FVec Ideal S128x512 .f32) (g : FVec Ideal S128x128 .f32) (e f : FVec Ideal S128x128 .f32) (i l : Fin 128) :
    k0_pay39 k0_pay13 e f (iota .tc S128x128 32 [1] iota_S128x128_d1_w32) g (k0_pay37 v w) (k0_pay38 e f)
        (Named.named κ "mask" 0xF149F2CA#32) (ix2 i l)
      = if l.val < 64 then ∑ x : Fin 128, left e f 2 i x * g (ix2 i x) * k0_pay30 v w (ix2 x ⟨128 + l.val, by omega⟩)
        else ∑ x : Fin 128, left e f 3 i x * g (ix2 i x) * k0_pay30 v w (ix2 x ⟨128 + l.val, by omega⟩) := by
  pointwise [k0_pay39, k0_pay37, k0_pay38]
  rw [lane_select _ (by omega)]
  simp only [causal_select, mask_eq]
  rfl

/-- Heads 4 and 5. -/
theorem slab_third (u : FVec Ideal S128x512 .bf16) (g : FVec Ideal S128x128 .f32) (e f : FVec Ideal S128x128 .f32) (i l : Fin 128) :
    k0_pay47 k0_pay13 e f (iota .tc S128x128 32 [1] iota_S128x128_d1_w32) g (k0_pay45 u) (k0_pay46 k0_pay13 e f) (ix2 i l)
      = if l.val < 64 then ∑ x : Fin 128, left e f 4 i x * g (ix2 i x) * u (ix2 x ⟨256 + l.val, by omega⟩)
        else ∑ x : Fin 128, left e f 5 i x * g (ix2 i x) * u (ix2 x ⟨256 + l.val, by omega⟩) := by
  pointwise [k0_pay47, k0_pay45, k0_pay46]
  rw [lane_select _ (by omega)]
  simp only [causal_select, mask_eq]
  rfl

/-- Heads 6 and 7. -/
theorem slab_fourth (u : FVec Ideal S128x512 .bf16) (g : FVec Ideal S128x128 .f32) (e f : FVec Ideal S128x128 .f32) (i l : Fin 128) :
    k0_pay48 k0_pay13 e f u (iota .tc S128x128 32 [1] iota_S128x128_d1_w32) g (ix2 i l)
      = if l.val < 64 then ∑ x : Fin 128, left e f 6 i x * g (ix2 i x) * u (ix2 x ⟨384 + l.val, by omega⟩)
        else ∑ x : Fin 128, left e f 7 i x * g (ix2 i x) * u (ix2 x ⟨384 + l.val, by omega⟩) := by
  pointwise [k0_pay48]
  rw [lane_select _ (by omega)]
  simp only [causal_select, mask_eq]
  rfl

/-- The rows before the gate: the four slabs side by side, the carried parts, and the skip. -/
def ungated (v37 v151 : FVec Ideal S128x512 .f32) (v202 : FVec Ideal S128x256 .f32) (v228 v254 : FVec Ideal S128x128 .f32)
    (v273 : FVec Ideal S128x256 .f32) (v299 v325 : FVec Ideal S128x128 .f32) (v341 : Vec Ideal S1x512 .f32)
    (i : Fin 128) (c : Fin 512) : EReal :=
  (if h : c.val < 128 then (v228 (ix2 i ⟨c.val, h⟩) : EReal)
    else if h : c.val - 128 < 128 then v254 (ix2 i ⟨c.val - 128, h⟩)
    else if h : c.val - 128 - 128 < 128 then v299 (ix2 i ⟨c.val - 128 - 128, h⟩)
    else v325 (ix2 i ⟨c.val - 128 - 128 - 128, by omega⟩))
  + (if h : c.val < 256 then (v202 (ix2 i ⟨c.val, h⟩) : EReal) else v273 (ix2 i ⟨c.val - 256, by omega⟩)) * v151 (ix2 i c)
  + v341 (ix2 0 c) * v37 (ix2 i c)

/-- The rows stored: gated and normed. -/
theorem stored_apply (v37 v151 : FVec Ideal S128x512 .f32) (v202 : FVec Ideal S128x256 .f32) (v228 v254 : FVec Ideal S128x128 .f32)
    (v273 : FVec Ideal S128x256 .f32) (v299 v325 : FVec Ideal S128x128 .f32) (v341 : Vec Ideal S1x512 .f32)
    (z : Vec Ideal S1x128x512 .f32) (g : Vec Ideal S1x512 .f32) (i : Fin 128) (c : Fin 512) :
    k0_pay52 v37 v151 v202 v228 v254 v273 v299 v325 v341 z g (ix3 0 i c)
      = gated (ungated v37 v151 v202 v228 v254 v273 v299 v325 v341 i) (fun c => z (ix3 0 i c)) (fun c => g (ix2 0 c)) c := by
  pointwise [k0_pay52]
  rfl

/-- The state's first half after the chunk. -/
theorem state_first (v151 u : FVec Ideal S128x512 .f32) (b : FVec Ideal S128x256 .f32) (H : Vec Ideal S128x256 .f32) (k : Fin 128) (l : Fin 256) :
    k0_pay40 v151 u (k0_pay32 b) H (ix2 k l)
      = (H (ix2 k l) : EReal) * v151 (ix2 127 ⟨l.val, by omega⟩)
        + ∑ x : Fin 128, (b (ix2 x ⟨k.val, by omega⟩) : EReal) * u (ix2 x ⟨l.val, by omega⟩) := by
  pointwise [k0_pay40, k0_pay32]

/-- The state's second half after the chunk. -/
theorem state_second (v151 u : FVec Ideal S128x512 .f32) (b : FVec Ideal S128x256 .f32) (H : Vec Ideal S128x256 .f32) (k : Fin 128) (l : Fin 256) :
    k0_pay51 H (k0_pay49 u (k0_pay41 b)) (k0_pay50 v151) (ix2 k l)
      = (H (ix2 k l) : EReal) * v151 (ix2 127 ⟨256 + l.val, by omega⟩)
        + ∑ x : Fin 128, (b (ix2 x ⟨128 + k.val, by omega⟩) : EReal) * u (ix2 x ⟨256 + l.val, by omega⟩) := by
  pointwise [k0_pay51, k0_pay49, k0_pay50, k0_pay41]

/-! ## The convolution -/

/-- The four taps of the convolution, with its bias, then SiLU. -/
theorem conv_apply (b : Vec Ideal S1x1024 .f32) (x0 x1 x2 x3 : Vec Ideal S128x1024 .f32) (w0 w1 w2 w3 : Vec Ideal S1x1024 .f32)
    (i : Fin 128) (c : Fin 1024) :
    k0_pay8 (k0_pay7 b x0 w0 x1 w1 x2 w2) x3 w3 (ix2 i c)
      = silu ((b (ix2 0 c) : EReal) + x0 (ix2 i c) * w0 (ix2 0 c) + x1 (ix2 i c) * w1 (ix2 0 c) + x2 (ix2 i c) * w2 (ix2 0 c)
          + x3 (ix2 i c) * w3 (ix2 0 c)) := by
  pointwise [k0_pay8, k0_pay7]
  rfl

/-- The chunk's heads' channels. -/
theorem heads_apply (v : FVec Ideal S128x1024 .f32) (x : Vec Ideal S128x1024 .f32) (w : Vec Ideal S1x1024 .f32) (i : Fin 128) (c : Fin 512) :
    k0_pay9 v x w (ix2 i c) = k0_pay8 v x w (ix2 i ⟨c.val, by omega⟩) := by
  pointwise [k0_pay9]

/-- The chunk's input projections. -/
theorem inputs_apply (v : FVec Ideal S128x1024 .f32) (x : Vec Ideal S128x1024 .f32) (w : Vec Ideal S1x1024 .f32) (i : Fin 128) (c : Fin 256) :
    k0_pay10 v x w (ix2 i c) = k0_pay8 v x w (ix2 i ⟨512 + c.val, by omega⟩) := by
  pointwise [k0_pay10]

/-- The chunk's output projections. -/
theorem outputs_apply (v : FVec Ideal S128x1024 .f32) (x : Vec Ideal S128x1024 .f32) (w : Vec Ideal S1x1024 .f32) (i : Fin 128) (c : Fin 256) :
    k0_pay11 v x w (ix2 i c) = k0_pay8 v x w (ix2 i ⟨768 + c.val, by omega⟩) := by
  pointwise [k0_pay11]

/-! ## Copies -/

/-- The chunk's rows, stored. -/
theorem rows_apply (x : Vec Ideal S1x128x1024 .f32) (i : Fin 128) (c : Fin 1024) : k0_pay6 (F := Ideal) x (ix2 i c) = x (ix3 0 i c) := by
  pointwise [k0_pay6]

/-- The carried rows, stored. -/
theorem carry_apply (x : Vec Ideal S8x1024 .f32) (i : Fin 8) (c : Fin 1024) : k0_pay1 (F := Ideal) x (ix2 i c) = x (ix2 i c) := by
  pointwise [k0_pay1]

/-- The last rows, stored. -/
theorem history_apply (x : Vec Ideal S8x1024 .f32) (i : Fin 8) (c : Fin 1024) : k0_pay2 (F := Ideal) x (ix3 0 i c) = x (ix2 i c) := by
  pointwise [k0_pay2]

/-- The final state, stored. -/
theorem final_apply (x : Vec Ideal S128x512 .f32) (c : Fin 512) (n : Fin 128) : k0_pay3 (F := Ideal) x (ix3 0 c n) = x (ix2 n c) := by
  pointwise [k0_pay3]

/-- The first rows, read. -/
theorem first_history_apply (x : Vec Ideal S1x8x1024 .f32) (i : Fin 8) (c : Fin 1024) : k0_pay4 (F := Ideal) x (ix2 i c) = x (ix3 0 i c) := by
  pointwise [k0_pay4]

/-- The first state, read. -/
theorem first_state_apply (x : Vec Ideal S1x512x128 .f32) (n : Fin 128) (c : Fin 512) : k0_pay5 (F := Ideal) x (ix2 n c) = x (ix3 0 c n) := by
  pointwise [k0_pay5]

/-! ## One head and one channel of a chunk -/

/-- What the chunk's own rows give at row `i` to channel `c`. -/
def within (v w : FVec Ideal S128x512 .f32) (b c : FVec Ideal S128x256 .f32) (e f : FVec Ideal S128x128 .f32) (i : Fin 128) (l : Fin 512) : EReal :=
  ∑ x : Fin 128, left e f ⟨l.val / 64, by omega⟩ i x
    * (∑ n : Fin 128, (c (ix2 i ⟨128 * (l.val / 256) + n.val, by omega⟩) : EReal) * b (ix2 x ⟨128 * (l.val / 256) + n.val, by omega⟩))
    * k0_pay30 v w (ix2 x l)

/-- A sum over the chunk's rows with the channel's own head and group. -/
theorem within_of (v w : FVec Ideal S128x512 .f32) (b c : FVec Ideal S128x256 .f32) (e f : FVec Ideal S128x128 .f32) (i : Fin 128) (l : Fin 512)
    (h : Fin 128) (g : Fin 128 → EReal) (hh : h.val = l.val / 64)
    (hg : ∀ x, g x = ∑ n : Fin 128, (c (ix2 i ⟨128 * (l.val / 256) + n.val, by omega⟩) : EReal) * b (ix2 x ⟨128 * (l.val / 256) + n.val, by omega⟩)) :
    ∑ x : Fin 128, left e f h i x * g x * k0_pay30 v w (ix2 x l) = within v w b c e f i l := by
  unfold within
  have e' : h = ⟨l.val / 64, by omega⟩ := Fin.ext hh
  rw [e']
  exact Finset.sum_congr rfl fun x _ => by rw [hg]

/-- The products of the rows in the first two slabs' group. -/
theorem products_first_of (b c : FVec Ideal S128x256 .f32) (i x : Fin 128) (q : Fin 128 → Fin 256)
    (hq : ∀ n : Fin 128, (⟨n.val, by omega⟩ : Fin 256) = q n) :
    k0_pay34 b c (ix2 i x) = ∑ n : Fin 128, (c (ix2 i (q n)) : EReal) * b (ix2 x (q n)) := by
  rw [products_first]
  exact Finset.sum_congr rfl fun n _ => by rw [hq]

/-- The products of the rows in the last two slabs' group. -/
theorem products_second_of (b c : FVec Ideal S128x256 .f32) (i x : Fin 128) (q : Fin 128 → Fin 256)
    (hq : ∀ n : Fin 128, (⟨128 + n.val, by omega⟩ : Fin 256) = q n) :
    k0_pay43 b c (ix2 i x) = ∑ n : Fin 128, (c (ix2 i (q n)) : EReal) * b (ix2 x (q n)) := by
  rw [products_second]
  exact Finset.sum_congr rfl fun n _ => by rw [hq]

/-- The first slab's lanes are the first. -/
theorem within_first (v w : FVec Ideal S128x512 .f32) (b c : FVec Ideal S128x256 .f32) (e f : FVec Ideal S128x128 .f32) (i l : Fin 128) :
    k0_pay36 v b c k0_pay13 e f w (ix2 i l)
      = within v w b c e f i ⟨l.val, by omega⟩ := by
  rw [slab_first]
  by_cases h : l.val < 64
  · rw [if_pos h]
    exact within_of v w b c e f i ⟨l.val, by omega⟩ (0 : Fin 128) _ (by show 0 = l.val / 64; omega) fun x => by
      exact products_first_of b c i x _ fun n => Fin.ext (by show n.val = 128 * (l.val / 256) + n.val; omega)
  · rw [if_neg h]
    exact within_of v w b c e f i ⟨l.val, by omega⟩ (1 : Fin 128) _ (by show 1 = l.val / 64; omega) fun x => by
      exact products_first_of b c i x _ fun n => Fin.ext (by show n.val = 128 * (l.val / 256) + n.val; omega)

/-- The second slab's lanes are channels 128  and on. -/
theorem within_second (v w : FVec Ideal S128x512 .f32) (b c : FVec Ideal S128x256 .f32) (e f : FVec Ideal S128x128 .f32) (i l : Fin 128) :
    k0_pay39 k0_pay13 e f (iota .tc S128x128 32 [1] iota_S128x128_d1_w32) (k0_pay34 b c) (k0_pay37 v w) (k0_pay38 e f) (Named.named κ "mask" 0xF149F2CA#32) (ix2 i l)
      = within v w b c e f i ⟨128 + l.val, by omega⟩ := by
  rw [slab_second]
  by_cases h : l.val < 64
  · rw [if_pos h]
    exact within_of v w b c e f i ⟨128 + l.val, by omega⟩ (2 : Fin 128) _ (by show 2 = (128 + l.val) / 64; omega) fun x => by
      exact products_first_of b c i x _ fun n => Fin.ext (by show n.val = 128 * ((128 + l.val) / 256) + n.val; omega)
  · rw [if_neg h]
    exact within_of v w b c e f i ⟨128 + l.val, by omega⟩ (3 : Fin 128) _ (by show 3 = (128 + l.val) / 64; omega) fun x => by
      exact products_first_of b c i x _ fun n => Fin.ext (by show n.val = 128 * ((128 + l.val) / 256) + n.val; omega)

/-- The third slab's lanes are channels 256  and on. -/
theorem within_third (v w : FVec Ideal S128x512 .f32) (b c : FVec Ideal S128x256 .f32) (e f : FVec Ideal S128x128 .f32) (i l : Fin 128) :
    k0_pay47 k0_pay13 e f (iota .tc S128x128 32 [1] iota_S128x128_d1_w32) (k0_pay43 b c) (k0_pay45 (k0_pay30 v w)) (k0_pay46 k0_pay13 e f) (ix2 i l)
      = within v w b c e f i ⟨256 + l.val, by omega⟩ := by
  rw [slab_third]
  by_cases h : l.val < 64
  · rw [if_pos h]
    exact within_of v w b c e f i ⟨256 + l.val, by omega⟩ (4 : Fin 128) _ (by show 4 = (256 + l.val) / 64; omega) fun x => by
      exact products_second_of b c i x _ fun n => Fin.ext (by show 128 + n.val = 128 * ((256 + l.val) / 256) + n.val; omega)
  · rw [if_neg h]
    exact within_of v w b c e f i ⟨256 + l.val, by omega⟩ (5 : Fin 128) _ (by show 5 = (256 + l.val) / 64; omega) fun x => by
      exact products_second_of b c i x _ fun n => Fin.ext (by show 128 + n.val = 128 * ((256 + l.val) / 256) + n.val; omega)

/-- The fourth slab's lanes are channels 384  and on. -/
theorem within_fourth (v w : FVec Ideal S128x512 .f32) (b c : FVec Ideal S128x256 .f32) (e f : FVec Ideal S128x128 .f32) (i l : Fin 128) :
    k0_pay48 k0_pay13 e f (k0_pay30 v w) (iota .tc S128x128 32 [1] iota_S128x128_d1_w32) (k0_pay43 b c) (ix2 i l)
      = within v w b c e f i ⟨384 + l.val, by omega⟩ := by
  rw [slab_fourth]
  by_cases h : l.val < 64
  · rw [if_pos h]
    exact within_of v w b c e f i ⟨384 + l.val, by omega⟩ (6 : Fin 128) _ (by show 6 = (384 + l.val) / 64; omega) fun x => by
      exact products_second_of b c i x _ fun n => Fin.ext (by show 128 + n.val = 128 * ((384 + l.val) / 256) + n.val; omega)
  · rw [if_neg h]
    exact within_of v w b c e f i ⟨384 + l.val, by omega⟩ (7 : Fin 128) _ (by show 7 = (384 + l.val) / 64; omega) fun x => by
      exact products_second_of b c i x _ fun n => Fin.ext (by show 128 + n.val = 128 * ((384 + l.val) / 256) + n.val; omega)

/-- The four slabs side by side, at a channel. -/
theorem beside_apply (v228 v254 v299 v325 : FVec Ideal S128x128 .f32) (T : Fin 512 → EReal) (i : Fin 128)
    (h0 : ∀ l : Fin 128, v228 (ix2 i l) = T ⟨l.val, by omega⟩) (h1 : ∀ l : Fin 128, v254 (ix2 i l) = T ⟨128 + l.val, by omega⟩)
    (h2 : ∀ l : Fin 128, v299 (ix2 i l) = T ⟨256 + l.val, by omega⟩) (h3 : ∀ l : Fin 128, v325 (ix2 i l) = T ⟨384 + l.val, by omega⟩) (c : Fin 512) :
    (if h : c.val < 128 then (v228 (ix2 i ⟨c.val, h⟩) : EReal)
      else if h : c.val - 128 < 128 then v254 (ix2 i ⟨c.val - 128, h⟩)
      else if h : c.val - 128 - 128 < 128 then v299 (ix2 i ⟨c.val - 128 - 128, h⟩)
      else v325 (ix2 i ⟨c.val - 128 - 128 - 128, by omega⟩)) = T c := by
  split_ifs
  · rw [h0]
  · rw [h1]; exact congrArg T (Fin.ext (by show 128 + (c.val - 128) = c.val; omega))
  · rw [h2]; exact congrArg T (Fin.ext (by show 256 + (c.val - 128 - 128) = c.val; omega))
  · rw [h3]; exact congrArg T (Fin.ext (by show 384 + (c.val - 128 - 128 - 128) = c.val; omega))

end Cert.KernelIdeal.Value

end
-- ==== Proof.SsdKernel.lean ====
module

public import proofs.«01_k».proof.Proof.Gen.KernelIdeal.Value
public import Idealize.ShloMosaic.Lib.Pipeline.ValueKit
public import Idealize.ShloMosaic.Lib.Pipeline.ReadBack
public import Idealize.ShloMosaic.Lib.WritesUnit
public import proofs.«01_k».proof.Proof.SsdPayload

@[expose] public section

set_option maxRecDepth 16384
set_option maxHeartbeats 1000000
noncomputable section
namespace Cert.KernelIdeal.Value
open Cert.KernelIdeal Cert.KernelIdeal.Gen Idealize.ShloMosaic Idealize.ShloMosaic.TcCoe Idealize.SL.Sem
open Idealize.ShloMosaic.Pipeline (Dat)
open Cert.Ssd

/-!
What one chunk stores, for the chunk's rows, the rows carried from the chunk before, and the state before it.
-/

/-! ## The carried rows and the chunk's own -/

/-- The padded rows of a chunk: eight rows carried from the chunk before, then the chunk's own. -/
def padded (u : S8x1024.Idx → EReal) (w : S128x1024.Idx → EReal) : S136x1024.Idx → EReal := fun y =>
  if h : (y 0).val < 8 then u (ix2 ⟨(y 0).val, h⟩ (y 1))
  else w (ix2 ⟨(y 0).val - 8, by have := (y 0).isLt; change (y 0).val < 136 at this; omega⟩ (y 1))

/-- The first eight rows of a padded chunk. -/
def head8 (x : S136x1024.Idx → EReal) : S8x1024.Idx → EReal := fun y =>
  x (ix2 ⟨(y 0).val, by have := (y 0).isLt; change (y 0).val < 8 at this; omega⟩ (y 1))

/-- The chunk's rows stored over a scratch leave the padded chunk. -/
theorem read_padded (v : View sig .tc .vmem S136x1024 .f32) (f : v.ty.Contents (Elt Ideal)) (w : S128x1024.Idx → EReal)
    (inb : ∀ a, (![8, 0] : Fin 2 → ℕ) a + S128x1024.size a ≤ S136x1024.size a) :
    v.read (Elt Ideal) (v.writes (Elt Ideal) f [⟨Rect.unit (s := S136x1024) ![8, 0] (no_index S128x1024.size) inb, w⟩])
      = padded (head8 (v.read (Elt Ideal) f)) w := by
  funext y
  have hy0 : (y 0).val < 136 := (y 0).isLt
  have hy1 : (y 1).val < 1024 := (y 1).isLt
  by_cases h : (y 0).val < 8
  · rw [View.read_writes_cons_rows_of_not_mem v f inb w [] y rfl (W := 128) rfl (Or.inl h)]
    unfold padded head8
    rw [dif_pos h]
    exact congrArg (v.read (Elt Ideal) f) (by funext a; fin_cases a <;> rfl)
  · rw [View.read_writes_cons_rows_of_mem v f inb w [] y (ix2 ⟨(y 0).val - 8, by omega⟩ (y 1)) rfl
      (show (y 0).val = 8 + ((y 0).val - 8) by omega) rfl]
    unfold padded
    rw [dif_neg h]

/-- The carried rows and the chunk's rows stored one after the other leave the padded chunk. -/
theorem canon_padded (u : S8x1024.Idx → EReal) (w : S128x1024.Idx → EReal)
    (inb : ∀ a, (![8, 0] : Fin 2 → ℕ) a + S128x1024.size a ≤ S136x1024.size a)
    (inb' : ∀ a, (![0, 0] : Fin 2 → ℕ) a + S8x1024.size a ≤ S136x1024.size a) :
    View.canon (Val := Elt Ideal) (e := .f32) [⟨Rect.unit (s := S136x1024) ![8, 0] (no_index S128x1024.size) inb, w⟩, ⟨Rect.unit (s := S136x1024) ![0, 0] (no_index S8x1024.size) inb', u⟩]
      = padded u w := by
  rw [← View.read_writes_junk_eq_canon scM0_0.view]
  funext y
  have hy0 : (y 0).val < 136 := (y 0).isLt
  have hy1 : (y 1).val < 1024 := (y 1).isLt
  by_cases h : (y 0).val < 8
  · rw [View.read_writes_cons_rows_of_not_mem (Val := Elt Ideal) scM0_0.view _ inb w _ y rfl (W := 128) rfl (Or.inl h),
      View.read_writes_cons_rows_of_mem (Val := Elt Ideal) scM0_0.view _ inb' u [] y (ix2 ⟨(y 0).val, h⟩ (y 1)) rfl
      (show (y 0).val = 0 + (y 0).val by omega) rfl]
    unfold padded
    rw [dif_pos h]
  · rw [View.read_writes_cons_rows_of_mem (Val := Elt Ideal) scM0_0.view _ inb w _ y (ix2 ⟨(y 0).val - 8, by omega⟩ (y 1)) rfl
      (show (y 0).val = 8 + ((y 0).val - 8) by omega) rfl]
    unfold padded
    rw [dif_neg h]

/-! ## One chunk -/

/-- The lane numbers. -/
abbrev lanes : IVec S128x128 32 := iota .tc S128x128 32 [1] iota_S128x128_d1_w32

/-- Eight rows of the padded chunk. -/
abbrev at8 (r : ℕ) (inb : ∀ a, (![r, 0] : Fin 2 → ℕ) a + S128x1024.size a ≤ S136x1024.size a) : Rect S136x1024 :=
  Rect.unit (s := S136x1024) ![r, 0] S128x1024.size inb

/-- One row of the convolution's weights. -/
abbrev tap (r : ℕ) (inb : ∀ a, (![r, 0] : Fin 2 → ℕ) a + S1x1024.size a ≤ S8x1024.size a) : Rect S8x1024 :=
  Rect.unit (s := S8x1024) ![r, 0] S1x1024.size inb

/-- The state's columns from `o` on. -/
abbrev half (o : ℕ) (inb : ∀ a, (![0, o] : Fin 2 → ℕ) a + S128x256.size a ≤ S128x512.size a) : Rect S128x512 :=
  Rect.unit (s := S128x512) ![0, o] S128x256.size inb

section
variable (a : BitVec 32) (z : Vec Ideal S1x128x512 .f32) (xb : Vec Ideal S1x128x1024 .f32) (dtg : Vec Ideal S1x128x128 .f32)
  (P : Vec Ideal S136x1024 .f32) (H : Vec Ideal S128x512 .f32) (cw : Vec Ideal S8x1024 .f32) (cb : Vec Ideal S1x1024 .f32)
  (dtb an : Vec Ideal S1x128 .f32) (dsk ng : Vec Ideal S1x512 .f32)

/-- The first three taps. -/
def c28 : FVec Ideal S128x1024 .f32 :=
  k0_pay7 cb (View.ld P (at8 5 inb_S136x1024_S128x1024_5_0)) (View.ld cw (tap 0 inb_S8x1024_S1x1024_0_0))
    (View.ld P (at8 6 inb_S136x1024_S128x1024_6_0)) (View.ld cw (tap 1 inb_S8x1024_S1x1024_1_0))
    (View.ld P (at8 7 inb_S136x1024_S128x1024_7_0)) (View.ld cw (tap 2 inb_S8x1024_S1x1024_2_0))

/-- The heads' channels. -/
def c37 : FVec Ideal S128x512 .f32 := k0_pay9 (c28 P cw cb) (k0_pay6 xb) (View.ld cw (tap 3 inb_S8x1024_S1x1024_3_0))
/-- The input projections. -/
def c38 : FVec Ideal S128x256 .f32 := k0_pay10 (c28 P cw cb) (k0_pay6 xb) (View.ld cw (tap 3 inb_S8x1024_S1x1024_3_0))
/-- The output projections. -/
def c39 : FVec Ideal S128x256 .f32 := k0_pay11 (c28 P cw cb) (k0_pay6 xb) (View.ld cw (tap 3 inb_S8x1024_S1x1024_3_0))
/-- The steps, spread over the channels. -/
def c113 : FVec Ideal S128x512 .f32 := k0_pay18 (k0_pay12 a dtg dtb) lanes
/-- The running sums' exponentials, spread over the channels. -/
def c151 : FVec Ideal S128x512 .f32 :=
  k0_pay23 (k0_pay16 a dtg dtb an) lanes (k0_pay19 (k0_pay16 a dtg dtb an)) (k0_pay20 (k0_pay16 a dtg dtb an)) (k0_pay21 (k0_pay16 a dtg dtb an)) k0_pay22
/-- The stepped rows times what remains at the end. -/
def c193 : FVec Ideal S128x512 .bf16 :=
  k0_pay31 (c37 xb P cw cb) (c113 a dtg dtb) lanes (k0_pay24 (k0_pay17 a dtg dtb an)) (k0_pay25 (k0_pay17 a dtg dtb an))
    (k0_pay26 (k0_pay17 a dtg dtb an)) (k0_pay27 (k0_pay17 a dtg dtb an)) (k0_pay28 (k0_pay17 a dtg dtb an))

/-- The rows the chunk stores. -/
def newRows : FVec Ideal S1x128x512 .f32 :=
  k0_pay52 (c37 xb P cw cb) (c151 a dtg dtb an) (k0_pay35 (c39 xb P cw cb) (View.ld H (half 0 inb_S128x512_S128x256_0_0)))
    (k0_pay36 (c37 xb P cw cb) (c38 xb P cw cb) (c39 xb P cw cb) k0_pay13 (k0_pay14 a dtg dtb an) (k0_pay15 a dtg dtb an) (c113 a dtg dtb))
    (k0_pay39 k0_pay13 (k0_pay14 a dtg dtb an) (k0_pay15 a dtg dtb an) lanes (k0_pay34 (c38 xb P cw cb) (c39 xb P cw cb))
      (k0_pay37 (c37 xb P cw cb) (c113 a dtg dtb)) (k0_pay38 (k0_pay14 a dtg dtb an) (k0_pay15 a dtg dtb an)) (Named.named κ "mask" 0xF149F2CA#32))
    (k0_pay44 (c39 xb P cw cb) (View.ld H (half 256 inb_S128x512_S128x256_0_256)))
    (k0_pay47 k0_pay13 (k0_pay14 a dtg dtb an) (k0_pay15 a dtg dtb an) lanes (k0_pay43 (c38 xb P cw cb) (c39 xb P cw cb))
      (k0_pay45 (k0_pay30 (c37 xb P cw cb) (c113 a dtg dtb))) (k0_pay46 k0_pay13 (k0_pay14 a dtg dtb an) (k0_pay15 a dtg dtb an)))
    (k0_pay48 k0_pay13 (k0_pay14 a dtg dtb an) (k0_pay15 a dtg dtb an) (k0_pay30 (c37 xb P cw cb) (c113 a dtg dtb)) lanes
      (k0_pay43 (c38 xb P cw cb) (c39 xb P cw cb)))
    dsk z ng

/-- The state the chunk stores. -/
def newState : Vec Ideal S128x512 .f32 :=
  View.canon [⟨half 256 inb_S128x512_S128x256_0_256,
      k0_pay51 (View.ld H (half 256 inb_S128x512_S128x256_0_256)) (k0_pay49 (c193 a xb dtg P cw cb dtb an) (k0_pay41 (c38 xb P cw cb))) (k0_pay50 (c151 a dtg dtb an))⟩,
    ⟨half 0 inb_S128x512_S128x256_0_0,
      k0_pay40 (c151 a dtg dtb an) (c193 a xb dtg P cw cb dtb an) (k0_pay32 (c38 xb P cw cb)) (View.ld H (half 0 inb_S128x512_S128x256_0_0))⟩]

/-- The convolved row. -/
def conv (i : Fin 128) (c : Fin 1024) : EReal :=
  silu ((cb (ix2 0 c) : EReal) + P (ix2 ⟨5 + i.val, by omega⟩ c) * cw (ix2 0 c) + P (ix2 ⟨6 + i.val, by omega⟩ c) * cw (ix2 1 c)
    + P (ix2 ⟨7 + i.val, by omega⟩ c) * cw (ix2 2 c) + xb (ix3 0 i c) * cw (ix2 3 c))

/-- Head `h`'s steps. -/
def steps (h : Fin 8) (i : Fin 128) : EReal := softplus ((dtg (ix3 0 i ⟨h.val, by omega⟩) : EReal) + dtb (ix2 0 ⟨h.val, by omega⟩))

/-- Head `h`'s running sums. -/
def sums (h : Fin 8) : Fin 128 → EReal := running (steps dtg dtb h) (an (ix2 0 ⟨h.val, by omega⟩))

/-- The rows of the padded chunk, read. -/
theorem ld_at8 (r : ℕ) (inb) (i : Fin 128) (c : Fin 1024) (h : r + i.val < 136) :
    View.ld P (at8 r inb) (ix2 i c) = P (ix2 ⟨r + i.val, h⟩ c) := by
  show P _ = _
  congr 1
  funext d
  fin_cases d
  · exact Fin.ext (by simp)
  · exact Fin.ext (by simp)

/-- A row of the weights, read. -/
theorem ld_tap (r : ℕ) (inb) (c : Fin 1024) (h : r < 8) :
    View.ld cw (tap r inb) (ix2 0 c) = cw (ix2 ⟨r, h⟩ c) := by
  show cw _ = _
  congr 1
  funext d
  fin_cases d
  · exact Fin.ext (by simp)
  · exact Fin.ext (by simp)

/-- A half of the state, read. -/
theorem ld_half (o : ℕ) (inb) (n : Fin 128) (c : Fin 256) (h : o + c.val < 512) :
    View.ld H (half o inb) (ix2 n c) = H (ix2 n ⟨o + c.val, h⟩) := by
  show H _ = _
  congr 1
  funext d
  fin_cases d
  · exact Fin.ext (by simp)
  · exact Fin.ext (by simp)

/-- The convolution of the padded chunk. -/
theorem conv_at (i : Fin 128) (c : Fin 1024) :
    k0_pay8 (c28 P cw cb) (k0_pay6 xb) (View.ld cw (tap 3 inb_S8x1024_S1x1024_3_0)) (ix2 i c) = conv xb P cw cb i c := by
  unfold c28
  rw [conv_apply, rows_apply, ld_at8 P 5 _ i c (by omega), ld_at8 P 6 _ i c (by omega), ld_at8 P 7 _ i c (by omega),
    ld_tap cw 0 _ c (by omega), ld_tap cw 1 _ c (by omega), ld_tap cw 2 _ c (by omega), ld_tap cw 3 _ c (by omega)]
  rfl

/-- The convolved inputs, read at an index, -/
theorem c37_apply (i : Fin 128) (c : Fin 512) : c37 xb P cw cb (ix2 i c) = conv xb P cw cb i ⟨c.val, by omega⟩ := by
  unfold c37
  rw [heads_apply, conv_at]

/-- the input directions, -/
theorem c38_apply (i : Fin 128) (c : Fin 256) : c38 xb P cw cb (ix2 i c) = conv xb P cw cb i ⟨512 + c.val, by omega⟩ := by
  unfold c38
  rw [inputs_apply, conv_at]

/-- the output directions, -/
theorem c39_apply (i : Fin 128) (c : Fin 256) : c39 xb P cw cb (ix2 i c) = conv xb P cw cb i ⟨768 + c.val, by omega⟩ := by
  unfold c39
  rw [outputs_apply, conv_at]

/-- the steps, -/
theorem c113_apply (i : Fin 128) (h : Fin 8) (p : Fin 64) : c113 a dtg dtb (ix2 i (chan h p)) = steps dtg dtb h i := by
  unfold c113
  rw [spread_steps, step_apply]
  rfl

/-- the decays since the chunk's start, -/
theorem c151_apply (i : Fin 128) (h : Fin 8) (p : Fin 64) : c151 a dtg dtb an (ix2 i (chan h p)) = Ideal.exp (sums dtg dtb an h i) := by
  unfold c151
  rw [spread_grown, grown_apply, running_apply]
  rfl

/-- and the weighted inputs. -/
theorem c193_apply (i : Fin 128) (h : Fin 8) (p : Fin 64) :
    c193 a xb dtg P cw cb dtb an (ix2 i (chan h p))
      = conv xb P cw cb i ⟨(chan h p).val, by omega⟩ * steps dtg dtb h i * Ideal.exp (sums dtg dtb an h 127 - sums dtg dtb an h i) := by
  unfold c193
  rw [weighted_apply, c37_apply, c113_apply, to_end_apply, running_apply, running_apply]
  rfl

/-- What the chunk's own rows give, for one head. -/
theorem within_apply (i : Fin 128) (h : Fin 8) (p : Fin 64) :
    within (c37 xb P cw cb) (c113 a dtg dtb) (c38 xb P cw cb) (c39 xb P cw cb) (k0_pay14 a dtg dtb an) (k0_pay15 a dtg dtb an) i (chan h p)
      = ∑ j : Fin 128, decay (sums dtg dtb an h) i j
          * (∑ n : Fin 128, conv xb P cw cb i ⟨768 + (ent h n).val, by omega⟩ * conv xb P cw cb j ⟨512 + (ent h n).val, by omega⟩)
          * (conv xb P cw cb j ⟨(chan h p).val, by omega⟩ * steps dtg dtb h j) := by
  unfold within
  have hh : (⟨(chan h p).val / 64, by omega⟩ : Fin 128) = ⟨h.val, by omega⟩ := Fin.ext (by show (64 * h.val + p.val) / 64 = h.val; omega)
  have he : ∀ n : Fin 128, (⟨128 * ((chan h p).val / 256) + n.val, by omega⟩ : Fin 256) = ent h n := fun n =>
    Fin.ext (by show 128 * ((64 * h.val + p.val) / 256) + n.val = 128 * (h.val / 4) + n.val; omega)
  refine Finset.sum_congr rfl fun j _ => ?_
  rw [stepped_apply, c37_apply, c113_apply, hh]
  congr 1
  congr 1
  · unfold left decay sums
    rw [running_t_apply, running_apply, running_apply]
    rfl
  · exact Finset.sum_congr rfl fun n _ => by rw [he, c38_apply, c39_apply]

/-- What the state before gives, for one head. -/
theorem carried_apply (i : Fin 128) (h : Fin 8) (p : Fin 64) :
    (if hc : (chan h p).val < 256 then (k0_pay35 (c39 xb P cw cb) (View.ld H (half 0 inb_S128x512_S128x256_0_0)) (ix2 i ⟨(chan h p).val, hc⟩) : EReal)
      else k0_pay44 (c39 xb P cw cb) (View.ld H (half 256 inb_S128x512_S128x256_0_256)) (ix2 i ⟨(chan h p).val - 256, by omega⟩))
      = ∑ n : Fin 128, conv xb P cw cb i ⟨768 + (ent h n).val, by omega⟩ * H (ix2 n (chan h p)) := by
  have hp : (chan h p).val = 64 * h.val + p.val := rfl
  split_ifs with hc
  · rw [carried_first]
    refine Finset.sum_congr rfl fun n _ => ?_
    have he : (⟨n.val, by omega⟩ : Fin 256) = ent h n := Fin.ext (by show n.val = 128 * (h.val / 4) + n.val; omega)
    rw [he, c39_apply, ld_half H 0 _ n _ (by omega)]
    congr 3
    exact Fin.ext (by show 0 + (chan h p).val = _; omega)
  · rw [carried_second]
    refine Finset.sum_congr rfl fun n _ => ?_
    have he : (⟨128 + n.val, by omega⟩ : Fin 256) = ent h n := Fin.ext (by show 128 + n.val = 128 * (h.val / 4) + n.val; omega)
    rw [he, c39_apply, ld_half H 256 _ n _ (by show 256 + ((chan h p).val - 256) < 512; omega)]
    congr 3
    exact Fin.ext (by show 256 + ((chan h p).val - 256) = _; omega)

/-- One head's row before the gate. -/
def headRow (i : Fin 128) (h : Fin 8) (p : Fin 64) : EReal :=
  row (fun j => conv xb P cw cb j ⟨(chan h p).val, by omega⟩) (steps dtg dtb h) (sums dtg dtb an h)
    (fun j n => conv xb P cw cb j ⟨512 + (ent h n).val, by omega⟩) (fun j n => conv xb P cw cb j ⟨768 + (ent h n).val, by omega⟩)
    (fun n => H (ix2 n (chan h p))) (dsk (ix2 0 (chan h p))) i

/-- The rows the chunk stores, at each channel: gated and normed. -/
theorem newRows_apply (i : Fin 128) (c : Fin 512) (Y : Fin 512 → EReal)
    (hY : ∀ h p, Y (chan h p) = headRow xb dtg P H cw cb dtb an dsk i h p) :
    newRows a z xb dtg P H cw cb dtb an dsk ng (ix3 0 i c) = gated Y (fun c => z (ix3 0 i c)) (fun c => ng (ix2 0 c)) c := by
  unfold newRows
  rw [stored_apply]
  congr 1
  funext e
  obtain ⟨h, p, rfl⟩ := exists_chan e
  rw [hY]
  unfold ungated
  rw [beside_apply _ _ _ _ _ i (fun l => within_first _ _ _ _ _ _ i l) (fun l => within_second _ _ _ _ _ _ i l)
    (fun l => within_third _ _ _ _ _ _ i l) (fun l => within_fourth _ _ _ _ _ _ i l), within_apply, carried_apply, c151_apply, c37_apply]
  rfl

/-- The two halves of the state, stored one after the other. -/
theorem halves_apply (u w : S128x256.Idx → EReal) (L : List (View.Piece (Elt Ideal) S128x512 .f32)) (k : Fin 128) (c : Fin 512) :
    View.canon (Val := Elt Ideal) (e := .f32) (⟨half 256 inb_S128x512_S128x256_0_256, w⟩ :: ⟨half 0 inb_S128x512_S128x256_0_0, u⟩ :: L) (ix2 k c)
      = if h : c.val < 256 then u (ix2 k ⟨c.val, h⟩) else w (ix2 k ⟨c.val - 256, by omega⟩) := by
  rw [← View.read_writes_junk_eq_canon scM0_1.view]
  by_cases hc : c.val < 256
  · rw [dif_pos hc]
    refine (View.read_writes_cons_unit_of_not_mem (Val := Elt Ideal) scM0_1.view scM0_1.view.junk inb_S128x512_S128x256_0_256 w _ (ix2 k c) rfl (1 : Fin 2) (Or.inl hc)).trans ?_
    exact View.read_writes_cons_unit_of_mem (Val := Elt Ideal) scM0_1.view scM0_1.view.junk inb_S128x512_S128x256_0_0 u L (ix2 k c) (ix2 k ⟨c.val, hc⟩) rfl
      (fun d => by fin_cases d <;> exact (Nat.zero_add _).symm)
  · rw [dif_neg hc]
    exact View.read_writes_cons_unit_of_mem (Val := Elt Ideal) scM0_1.view scM0_1.view.junk inb_S128x512_S128x256_0_256 w _ (ix2 k c) (ix2 k ⟨c.val - 256, by omega⟩) rfl
      (fun d => by
        fin_cases d
        · exact (Nat.zero_add _).symm
        · show c.val = 256 + (c.val - 256); omega)

/-- The state the chunk stores, at each head and channel. -/
theorem newState_apply (k : Fin 128) (h : Fin 8) (p : Fin 64) :
    newState a xb dtg P H cw cb dtb an (ix2 k (chan h p))
      = after (fun j => conv xb P cw cb j ⟨(chan h p).val, by omega⟩) (steps dtg dtb h) (sums dtg dtb an h)
          (fun j n => conv xb P cw cb j ⟨512 + (ent h n).val, by omega⟩) (fun n => H (ix2 n (chan h p))) k := by
  have hp : (chan h p).val = 64 * h.val + p.val := rfl
  unfold newState after
  rw [halves_apply]
  by_cases hc : (chan h p).val < 256
  · rw [dif_pos hc, state_first]
    have he : ∀ j, (⟨0 + (⟨(chan h p).val, hc⟩ : Fin 256).val, j⟩ : Fin 512) = chan h p := fun j => Fin.ext (Nat.zero_add _)
    have hk : (⟨k.val, by omega⟩ : Fin 256) = ent h k := Fin.ext (by show k.val = 128 * (h.val / 4) + k.val; omega)
    rw [ld_half H 0 _ k _ (by show 0 + (chan h p).val < 512; omega), he]
    refine congrArg₂ (· + ·) (congrArg₂ (· * ·) rfl (c151_apply a dtg dtb an 127 h p)) (Finset.sum_congr rfl fun j _ => ?_)
    rw [hk, c38_apply]
    exact congrArg₂ (· * ·) rfl (c193_apply a xb dtg P cw cb dtb an j h p)
  · rw [dif_neg hc, state_second]
    have hlt : (chan h p).val - 256 < 256 := by omega
    have he : ∀ j, (⟨256 + (⟨(chan h p).val - 256, hlt⟩ : Fin 256).val, j⟩ : Fin 512) = chan h p := fun j =>
      Fin.ext (by show 256 + ((chan h p).val - 256) = _; omega)
    have hk : (⟨128 + k.val, by omega⟩ : Fin 256) = ent h k := Fin.ext (by show 128 + k.val = 128 * (h.val / 4) + k.val; omega)
    rw [ld_half H 256 _ k _ (by show 256 + ((chan h p).val - 256) < 512; omega), he]
    refine congrArg₂ (· + ·) (congrArg₂ (· * ·) rfl (c151_apply a dtg dtb an 127 h p)) (Finset.sum_congr rfl fun j _ => ?_)
    rw [hk, c38_apply]
    exact congrArg₂ (· * ·) rfl (c193_apply a xb dtg P cw cb dtb an j h p)

end

end Cert.KernelIdeal.Value

end
-- ==== Proof.SsdPoints.lean ====
module

public import proofs.«01_k».proof.Proof.Gen.KernelIdeal.Value
public import Idealize.ShloMosaic.Lib.Pipeline.ValueKit
public import Idealize.ShloMosaic.Lib.Pipeline.ReadBack
public import Idealize.ShloMosaic.Lib.WritesUnit
public import proofs.«01_k».proof.Proof.SsdKernel

@[expose] public section

set_option maxRecDepth 16384
set_option maxHeartbeats 1000000
noncomputable section
namespace Cert.KernelIdeal.Value
open Cert.KernelIdeal Cert.KernelIdeal.Gen Idealize.ShloMosaic Idealize.ShloMosaic.TcCoe Idealize.SL.Sem
open Idealize.ShloMosaic.Pipeline (Dat)
open Cert.Ssd

/-!
What the kernel holds after each point: the rows stored, the state, and the rows carried to the next point.
-/

/-- What the kernel holds: the two output blocks that stay, the row block, the padded rows and the state. -/
abbrev Acc := Vec Ideal S1x128x512 .f32 × Vec Ideal S1x8x1024 .f32 × Vec Ideal S1x512x128 .f32 × Vec Ideal S136x1024 .f32 × Vec Ideal S128x512 .f32

/-- The chunk's last eight rows, read back. -/
theorem tail_rows (v : View sig .tc .vmem S136x1024 .f32) (w : S128x1024.Idx → EReal) (L : List (View.Piece (Elt Ideal) S136x1024 .f32))
    (inb : ∀ a, (![8, 0] : Fin 2 → ℕ) a + S128x1024.size a ≤ S136x1024.size a)
    (inb' : ∀ a, (![128, 0] : Fin 2 → ℕ) a + S8x1024.size a ≤ S136x1024.size a) :
    v.readCov (Val := Elt Ideal) (⟨Rect.unit (s := S136x1024) ![8, 0] (no_index S128x1024.size) inb, w⟩ :: L)
        (Rect.unit (s := S136x1024) ![128, 0] (no_index S8x1024.size) inb').toLoadRect
      = fun y : S8x1024.Idx => w (ix2 ⟨120 + (y 0).val, by have := (y 0).isLt; change (y 0).val < 8 at this; omega⟩ (y 1)) := by
  rw [View.readCov_eq_canon']
  funext y
  refine (congrArg _ ?_).trans (View.canon_cons_emb (Rect.unit (s := S136x1024) ![8, 0] S128x1024.size inb) w L
    (ix2 ⟨120 + (y 0).val, by have := (y 0).isLt; change (y 0).val < 8 at this; omega⟩ (y 1)))
  funext d
  fin_cases d
  · exact Fin.ext (by show 128 + 1 * (y 0).val = 8 + 1 * (120 + (y 0).val); omega)
  · exact Fin.ext (by show 0 + 1 * (y 1).val = 0 + 1 * (y 1).val; rfl)

/-- Rows of the padded chunk, read back at the first point. -/
theorem first_rows (v : View sig .tc .vmem S136x1024 .f32) (u : S8x1024.Idx → EReal) (w : S128x1024.Idx → EReal) (R : Rect S136x1024)
    (inb : ∀ a, (![8, 0] : Fin 2 → ℕ) a + S128x1024.size a ≤ S136x1024.size a)
    (inb' : ∀ a, (![0, 0] : Fin 2 → ℕ) a + S8x1024.size a ≤ S136x1024.size a) :
    v.readCov (Val := Elt Ideal) [⟨Rect.unit (s := S136x1024) ![8, 0] (no_index S128x1024.size) inb, w⟩,
        ⟨Rect.unit (s := S136x1024) ![0, 0] (no_index S8x1024.size) inb', u⟩] R.toLoadRect
      = View.ld (padded u w) R := by
  rw [View.readCov_eq_canon', canon_padded]

/-- The carried rows after a point are the ones stored last. -/
theorem head8_canon (u : S8x1024.Idx → EReal) (L : List (View.Piece (Elt Ideal) S136x1024 .f32))
    (inb : ∀ a, (![0, 0] : Fin 2 → ℕ) a + S8x1024.size a ≤ S136x1024.size a) :
    head8 (View.canon (Val := Elt Ideal) (⟨Rect.unit (s := S136x1024) ![0, 0] (no_index S8x1024.size) inb, u⟩ :: L)) = u := by
  funext y
  unfold head8
  refine (congrArg _ ?_).trans (View.canon_cons_emb (Rect.unit (s := S136x1024) ![0, 0] S8x1024.size inb) u L y)
  funext d
  fin_cases d
  · exact Fin.ext (by show (y 0).val = 0 + 1 * (y 0).val; omega)
  · exact Fin.ext (by show (y 1).val = 0 + 1 * (y 1).val; omega)

/-- The two halves of the state cover what was stored before. -/
theorem halves_canon (u w : S128x256.Idx → EReal) (L : List (View.Piece (Elt Ideal) S128x512 .f32)) :
    View.canon (Val := Elt Ideal) (e := .f32) (⟨half 256 inb_S128x512_S128x256_0_256, w⟩ :: ⟨half 0 inb_S128x512_S128x256_0_0, u⟩ :: L)
      = View.canon (Val := Elt Ideal) (e := .f32) [⟨half 256 inb_S128x512_S128x256_0_256, w⟩, ⟨half 0 inb_S128x512_S128x256_0_0, u⟩] := by
  funext y
  obtain ⟨k, j, rfl⟩ : ∃ (k : Fin 128) (j : Fin 512), y = ix2 k j := ⟨y 0, y 1, by funext d; fin_cases d <;> rfl⟩
  rw [halves_apply, halves_apply]

/-- The whole state, read back. -/
theorem whole_state (v : View sig .tc .vmem S128x512 .f32) (L : List (View.Piece (Elt Ideal) S128x512 .f32))
    (inb : ∀ a, (![0, 0] : Fin 2 → ℕ) a + S128x512.size a ≤ S128x512.size a) :
    v.readCov (Val := Elt Ideal) L (Rect.unit (s := S128x512) ![0, 0] (no_index S128x512.size) inb).toLoadRect = View.canon L := by
  rw [View.readCov_eq_canon']
  funext y
  refine congrArg _ ?_
  funext d
  fin_cases d
  · exact Fin.ext (by show 0 + 1 * (y 0).val = (y 0).val; omega)
  · exact Fin.ext (by show 0 + 1 * (y 1).val = (y 1).val; omega)

variable (m : (ℓ : Loc nD τ sig) → Buf (Elt Ideal) ℓ)

/-- The rows a point stores, for the rows and the state it starts from. -/
def rowsAt (c : Dev nD) (t : Fin cfg0.N) (u : S8x1024.Idx → EReal) (H : Vec Ideal S128x512 .f32) : Vec Ideal S1x128x512 .f32 :=
  newRows (BitVec.ofNat 32 (grid0.coords t 1).val) (iblk m c 0 t) (iblk m c 1 t) (iblk m c 2 t) (padded u (k0_pay6 (F := Ideal) (iblk m c 1 t))) H
    (iblk m c 5 t) (iblk m c 6 t) (iblk m c 7 t) (iblk m c 8 t) (iblk m c 9 t) (iblk m c 10 t)

/-- The state a point stores, for the rows and the state it starts from. -/
def stateAt (c : Dev nD) (t : Fin cfg0.N) (u : S8x1024.Idx → EReal) (H : Vec Ideal S128x512 .f32) : Vec Ideal S128x512 .f32 :=
  newState (BitVec.ofNat 32 (grid0.coords t 1).val) (iblk m c 1 t) (iblk m c 2 t) (padded u (k0_pay6 (F := Ideal) (iblk m c 1 t))) H
    (iblk m c 5 t) (iblk m c 6 t) (iblk m c 7 t) (iblk m c 8 t)

/-- The last eight rows of a point's block. -/
def lastRows (c : Dev nD) (t : Fin cfg0.N) : S8x1024.Idx → EReal := fun y =>
  k0_pay6 (F := Ideal) (iblk m c 1 t) (ix2 ⟨120 + (y 0).val, by have := (y 0).isLt; change (y 0).val < 8 at this; omega⟩ (y 1))

/-- The rows stored at the first points. -/
theorem rows_A (c : Dev nD) (t : Fin cfg0.N) (acc : Acc) (h0 : t.val % 128 = 0) (h1 : ¬t.val % 128 = 127) :
    (stAt0 m c t.val t.isLt acc).1 = rowsAt m c t (k0_pay4 (F := Ideal) (iblk m c 3 t)) (k0_pay5 (F := Ideal) (iblk m c 4 t)) := by
  rw [stAt0_A m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  rfl

/-- The state at the first points. -/
theorem state_A (c : Dev nD) (t : Fin cfg0.N) (acc : Acc) (h0 : t.val % 128 = 0) (h1 : ¬t.val % 128 = 127) :
    (stAt0 m c t.val t.isLt acc).2.2.2.2 = stateAt m c t (k0_pay4 (F := Ideal) (iblk m c 3 t)) (k0_pay5 (F := Ideal) (iblk m c 4 t)) := by
  rw [stAt0_A m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  exact halves_canon _ _ _

/-- The rows carried from the first points. -/
theorem carry_A (c : Dev nD) (t : Fin cfg0.N) (acc : Acc) (h0 : t.val % 128 = 0) (h1 : ¬t.val % 128 = 127) :
    head8 (stAt0 m c t.val t.isLt acc).2.2.2.1 = lastRows m c t := by
  rw [stAt0_A m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  funext y
  obtain ⟨i, j, rfl⟩ : ∃ (i : Fin 8) (j : Fin 1024), y = ix2 i j := ⟨y 0, y 1, by funext d; fin_cases d <;> rfl⟩
  rw [carry_apply]
  rfl

/-- The rows stored at the middle points. -/
theorem rows_B (c : Dev nD) (t : Fin cfg0.N) (acc : Acc) (h0 : ¬t.val % 128 = 0) (h1 : ¬t.val % 128 = 127) :
    (stAt0 m c t.val t.isLt acc).1 = rowsAt m c t (head8 acc.2.2.2.1) acc.2.2.2.2 := by
  rw [stAt0_B m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  rfl

/-- The state at the middle points. -/
theorem state_B (c : Dev nD) (t : Fin cfg0.N) (acc : Acc) (h0 : ¬t.val % 128 = 0) (h1 : ¬t.val % 128 = 127) :
    (stAt0 m c t.val t.isLt acc).2.2.2.2 = stateAt m c t (head8 acc.2.2.2.1) acc.2.2.2.2 := by
  rw [stAt0_B m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  rfl

/-- The rows carried from the middle points. -/
theorem carry_B (c : Dev nD) (t : Fin cfg0.N) (acc : Acc) (h0 : ¬t.val % 128 = 0) (h1 : ¬t.val % 128 = 127) :
    head8 (stAt0 m c t.val t.isLt acc).2.2.2.1 = lastRows m c t := by
  rw [stAt0_B m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  funext y
  obtain ⟨i, j, rfl⟩ : ∃ (i : Fin 8) (j : Fin 1024), y = ix2 i j := ⟨y 0, y 1, by funext d; fin_cases d <;> rfl⟩
  rw [carry_apply]
  rfl

/-- The rows stored at the last points. -/
theorem rows_C (c : Dev nD) (t : Fin cfg0.N) (acc : Acc) (h0 : ¬t.val % 128 = 0) (h1 : t.val % 128 = 127) :
    (stAt0 m c t.val t.isLt acc).1 = rowsAt m c t (head8 acc.2.2.2.1) acc.2.2.2.2 := by
  rw [stAt0_C m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  rfl

/-- The state at the last points. -/
theorem state_C (c : Dev nD) (t : Fin cfg0.N) (acc : Acc) (h0 : ¬t.val % 128 = 0) (h1 : t.val % 128 = 127) :
    (stAt0 m c t.val t.isLt acc).2.2.2.2 = stateAt m c t (head8 acc.2.2.2.1) acc.2.2.2.2 := by
  rw [stAt0_C m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  rfl

/-- The rows carried from the last points. -/
theorem carry_C (c : Dev nD) (t : Fin cfg0.N) (acc : Acc) (h0 : ¬t.val % 128 = 0) (h1 : t.val % 128 = 127) :
    head8 (stAt0 m c t.val t.isLt acc).2.2.2.1 = lastRows m c t := by
  rw [stAt0_C m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  funext y
  obtain ⟨i, j, rfl⟩ : ∃ (i : Fin 8) (j : Fin 1024), y = ix2 i j := ⟨y 0, y 1, by funext d; fin_cases d <;> rfl⟩
  rw [carry_apply]
  rfl

/-- The rows kept at the last point. -/
theorem kept_C (c : Dev nD) (t : Fin cfg0.N) (acc : Acc) (h0 : ¬t.val % 128 = 0) (h1 : t.val % 128 = 127) (i : Fin 8) (j : Fin 1024) :
    (stAt0 m c t.val t.isLt acc).2.1 (ix3 0 i j) = lastRows m c t (ix2 i j) := by
  rw [stAt0_C m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  rw [history_apply]
  rfl

/-- The state kept at the last point. -/
theorem final_C (c : Dev nD) (t : Fin cfg0.N) (acc : Acc) (h0 : ¬t.val % 128 = 0) (h1 : t.val % 128 = 127) (j : Fin 512) (n : Fin 128) :
    (stAt0 m c t.val t.isLt acc).2.2.1 (ix3 0 j n) = stateAt m c t (head8 acc.2.2.2.1) acc.2.2.2.2 (ix2 n j) := by
  rw [stAt0_C m c t acc h0 h1]
  dsimp only
  frame_open
  simp (disch := decide) only [View.readAt_eq_ld, View.ld_unit_lit', read_padded, read_unread_whole, Memref.IsWhole.read_unread,
    View.read_writes_junk_eq_canon, View.readCov_skip, View.readCov_cons_toLoadRect, tail_rows, first_rows, View.readCov_fill,
    View.canon_cons_unit_lit', head8_canon, canon_padded, whole_state]
  rw [final_apply]
  rfl

end Cert.KernelIdeal.Value

end
-- ==== Proof.SsdBlocks.lean ====
module

public import proofs.«01_k».proof.Proof.Gen.KernelIdeal.Value
public import Idealize.ShloMosaic.Lib.Pipeline.ValueKit
public import Idealize.ShloMosaic.Lib.Pipeline.ReadBack
public import Idealize.ShloMosaic.Lib.WritesUnit
public import Idealize.ShloMosaic.Lib.Routing.OpsOne
public import Idealize.ShloMosaic.Lib.Routing.OpsSet
public import proofs.«01_k».proof.Proof.SsdPoints

@[expose] public section

set_option maxRecDepth 16384
set_option maxHeartbeats 1000000
noncomputable section
namespace Cert.KernelIdeal.Value
open Cert.KernelIdeal Cert.KernelIdeal.Gen Idealize.ShloMosaic Idealize.ShloMosaic.TcCoe Idealize.SL.Sem
open Idealize.ShloMosaic.Pipeline (Dat)
open Cert.Ssd

/-!
The kernel's blocks at each point, from the kernel's arguments.
-/

/-! ## Rows and lanes set in an array of zeros -/

/-- A scatter at index words that are all zero starts at the array's origin. -/
theorem start_zero {s si u : Shape} (d : ScatterDims s si u) (j : u.Idx) (w : IVec si 32) (h : ∀ x, w x = 0#32) (a : Fin s.rank) :
    d.start j w a = 0 := by
  unfold ScatterDims.start
  split_ifs
  · rw [h]; rfl
  · rfl

/-- The weights set in the first four of eight rows. -/
theorem set_rows (x0 : S8x1024.Idx → EReal) (w : IVec S1 32) (h : ∀ x, w x = 0#32) (u : S4x1024.Idx → EReal) (i : Fin 4) (j : Fin 1024) :
    Host.scatter scatter_S8x1024_S1_S4x1024_01_n_0_0 (fun _ b => b) x0 w u (ix2 ⟨i.val, by omega⟩ j) = u (ix2 i j) := by
  have lands : ∀ (k : Fin 4) (l : Fin 1024) (r : Fin 8) (c : Fin 1024),
      scatter_S8x1024_S1_S4x1024_01_n_0_0.resultIdx? (ix2 k l) w = some (ix2 r c) ↔ k.val = r.val ∧ l.val = c.val := by
    intro k l r c
    have w0 : scatter_S8x1024_S1_S4x1024_01_n_0_0.window (ix2 k l) 0 = k.val := rfl
    have w1 : scatter_S8x1024_S1_S4x1024_01_n_0_0.window (ix2 k l) 1 = l.val := rfl
    refine (Routing.resultIdx?_ix2 (R := 8) (C := 1024) _ _ _ _ _).trans ?_
    rw [start_zero _ _ _ h, start_zero _ _ _ h, w0, w1]
    omega
  refine Routing.scatter_set_hit _ x0 w u _ _ (fun k hk => ?_) (ix2 i j) ((lands i j _ j).2 ⟨rfl, rfl⟩)
  obtain ⟨a, b, rfl⟩ : ∃ (a : Fin 4) (b : Fin 1024), k = ix2 a b := ⟨k 0, k 1, by funext d; fin_cases d <;> rfl⟩
  obtain ⟨ha, hb⟩ := (lands a b _ j).1 hk
  rw [Fin.ext (ha : a.val = i.val), Fin.ext hb]

/-- The eight heads' values set in the first of 128 lanes. -/
theorem set_lanes (x0 : S1x128.Idx → EReal) (w : IVec S2 32) (h : ∀ x, w x = 0#32) (u : S8.Idx → EReal) (i : Fin 8) :
    Host.scatter scatter_S1x128_S2_S8_0_0_01_0 (fun _ b => b) x0 w u (ix2 0 ⟨i.val, by omega⟩) = u (ix1 i) := by
  have lands : ∀ (k : Fin 8) (r : Fin 1) (c : Fin 128),
      scatter_S1x128_S2_S8_0_0_01_0.resultIdx? (ix1 k) w = some (ix2 r c) ↔ 0 = r.val ∧ k.val = c.val := by
    intro k r c
    have w0 : scatter_S1x128_S2_S8_0_0_01_0.window (ix1 k) 0 = 0 := rfl
    have w1 : scatter_S1x128_S2_S8_0_0_01_0.window (ix1 k) 1 = k.val := rfl
    refine (Routing.resultIdx?_ix2 (R := 1) (C := 128) _ _ _ _ _).trans ?_
    rw [start_zero _ _ _ h, start_zero _ _ _ h, w0, w1]
    omega
  refine Routing.scatter_set_hit _ x0 w u _ _ (fun k hk => ?_) (ix1 i) ((lands i 0 _).2 ⟨rfl, rfl⟩)
  obtain ⟨a, rfl⟩ : ∃ (a : Fin 8), k = ix1 a := ⟨k 0, by funext d; fin_cases d; rfl⟩
  obtain ⟨_, ha⟩ := (lands a 0 _).1 hk
  rw [Fin.ext (ha : a.val = i.val)]

variable (m : (ℓ : Loc nD τ sig) → Buf (Elt Ideal) ℓ)

/-- The windows' block numbers at each point. -/
theorem idx : ∀ t : Fin cfg0.N, win0_0.index t = ![0, t.val, 0] ∧ win0_1.index t = ![0, t.val, 0] ∧ win0_2.index t = ![0, t.val, 0]
    ∧ win0_3.index t = ![0, 0, 0] ∧ win0_4.index t = ![0, 0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- A row number. -/
def rowNo (t : Fin cfg0.N) (i : Fin 128) : Fin 16384 := ⟨128 * t.val + i.val, by have := lt_of_lt_of_eq t.isLt N_0; omega⟩

/-- A point's block of the gates is its 128 rows, -/
theorem block0 (c : Dev nD) (t : Fin cfg0.N) (i : Fin 128) (j : Fin 512) :
    (iblk m c 0 t : Vec Ideal S1x128x512 .f32) (ix3 0 i j) = m ((c : Thread nD τ).loc main_arg0) (ix3 0 (rowNo t i) j) := by
  unfold rowNo
  blk_ext [iblk, V, idx t]

/-- that of the projected rows likewise, -/
theorem block1 (c : Dev nD) (t : Fin cfg0.N) (i : Fin 128) (j : Fin 1024) :
    (iblk m c 1 t : Vec Ideal S1x128x1024 .f32) (ix3 0 i j) = m ((c : Thread nD τ).loc main_arg1) (ix3 0 (rowNo t i) j) := by
  unfold rowNo
  blk_ext [iblk, V, idx t]

/-- and that of the raw steps. -/
theorem block2 (c : Dev nD) (t : Fin cfg0.N) (i : Fin 128) (j : Fin 128) :
    (iblk m c 2 t : Vec Ideal S1x128x128 .f32) (ix3 0 i j) = m ((c : Thread nD τ).loc main_arg2) (ix3 0 (rowNo t i) j) := by
  unfold rowNo
  blk_ext [iblk, V, idx t]

/-- The history before the prompt is zero, -/
theorem block3 (c : Dev nD) (t : Fin cfg0.N) (i : Fin 8) (j : Fin 1024) :
    (iblk m c 3 t : Vec Ideal S1x8x1024 .f32) (ix3 0 i j) = (0 : EReal) := by
  blk_simp [iblk, idx t]
  entry_read
  pointwise

/-- and so is the state. -/
theorem block4 (c : Dev nD) (t : Fin cfg0.N) (i : Fin 512) (j : Fin 128) :
    (iblk m c 4 t : Vec Ideal S1x512x128 .f32) (ix3 0 i j) = (0 : EReal) := by
  blk_simp [iblk, idx t]
  entry_read
  pointwise

/-- The weights' block holds the four weights, -/
theorem block5 (c : Dev nD) (t : Fin cfg0.N) (i : Fin 4) (j : Fin 1024) :
    (iblk m c 5 t : Vec Ideal S8x1024 .f32) (ix2 ⟨i.val, by omega⟩ j) = m ((c : Thread nD τ).loc main_arg3) (ix2 i j) := by
  blk_simp [iblk, idx t]
  entry_read
  refine (congrArg _ (?_ : _ = (ix2 (⟨i.val, by omega⟩ : Fin 8) j : S8x1024.Idx))).trans (set_rows _ _ (fun _ => rfl) _ i j)
  blk_ext [idx t]

/-- and the bias block the bias. -/
theorem block6 (c : Dev nD) (t : Fin cfg0.N) (j : Fin 1024) :
    (iblk m c 6 t : Vec Ideal S1x1024 .f32) (ix2 0 j) = m ((c : Thread nD τ).loc main_arg4) (ix1 j) := by
  blk_simp [iblk, idx t]
  entry_read
  pointwise
  blk_ext [idx t]

/-- The step biases, -/
theorem block7 (c : Dev nD) (t : Fin cfg0.N) (h : Fin 8) :
    (iblk m c 7 t : Vec Ideal S1x128 .f32) (ix2 0 ⟨h.val, by omega⟩) = m ((c : Thread nD τ).loc main_arg5) (ix1 h) := by
  blk_simp [iblk, idx t]
  entry_read
  refine (congrArg _ (?_ : _ = (ix2 0 (⟨h.val, by omega⟩ : Fin 128) : S1x128.Idx))).trans (set_lanes _ _ (fun x => ?_) _ h)
  · blk_ext [idx t]
  · fin_cases x <;> rfl

/-- the rates, -/
theorem block8 (c : Dev nD) (t : Fin cfg0.N) (h : Fin 8) :
    (iblk m c 8 t : Vec Ideal S1x128 .f32) (ix2 0 ⟨h.val, by omega⟩) = -Ideal.exp (m ((c : Thread nD τ).loc main_arg6) (ix1 h)) := by
  blk_simp [iblk, idx t]
  entry_read
  refine (congrArg _ (?_ : _ = (ix2 0 (⟨h.val, by omega⟩ : Fin 128) : S1x128.Idx))).trans (set_lanes _ _ (fun x => ?_) _ h)
  · blk_ext [idx t]
  · fin_cases x <;> rfl

/-- the skips, repeated over a head's channels, -/
theorem block9 (c : Dev nD) (t : Fin cfg0.N) (h : Fin 8) (p : Fin 64) :
    (iblk m c 9 t : Vec Ideal S1x512 .f32) (ix2 0 (chan h p)) = m ((c : Thread nD τ).loc main_arg7) (ix1 h) := by
  blk_simp [iblk, idx t]
  entry_read
  pointwise
  blk_ext [idx t]
  show (64 * h.val + p.val) / 64 = h.val
  omega

/-- and the norm's scales, read. -/
theorem block10 (c : Dev nD) (t : Fin cfg0.N) (j : Fin 512) :
    (iblk m c 10 t : Vec Ideal S1x512 .f32) (ix2 0 j) = m ((c : Thread nD τ).loc main_arg8) (ix1 j) := by
  blk_simp [iblk, idx t]
  entry_read
  pointwise
  blk_ext [idx t]

end Cert.KernelIdeal.Value

end
-- ==== Proof.SsdChunk.lean ====
module

public import Idealize.ShloMosaic.Lib.Pipeline.ValueKit
public import proofs.«01_k».proof.Proof.Gen.ReferenceIdeal.Step
public import proofs.«01_k».proof.Proof.SsdMath

@[expose] public section

set_option maxRecDepth 16384

noncomputable section

/-!
What one trip of the reference's loop computes, one head and one channel at a time.
-/

namespace Cert.ReferenceIdeal.Step

open Idealize.ShloMosaic Cert.ReferenceIdeal.Gen
open Cert.Ssd

/-- Head `r` of group `g` among the eight heads. -/
def hd (g : Fin 2) (r : Fin 4) : Fin 8 := ⟨4 * g.val + r.val, by omega⟩

/-- The same head, its number written the other way round. -/
theorem hd_eq (g : Fin 2) (r : Fin 4) (h : g.val * 4 + r.val < 8) : (⟨g.val * 4 + r.val, h⟩ : Fin 8) = hd g r :=
  Fin.ext (by show g.val * 4 + r.val = 4 * g.val + r.val; omega)

/-- A fold of additions is the sum of what it adds. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window of one by 128 by one by one is a run of 128. -/
def runOf : Fin 128 ≃ (⟨4, ![1, 128, 1, 1]⟩ : Shape).Idx where
  toFun k := ix4 (0 : Fin 1) k (0 : Fin 1) (0 : Fin 1)
  invFun w := w 1
  left_inv _ := rfl
  right_inv w := by funext d; fin_cases d <;> first | rfl | exact Subsingleton.elim (α := Fin 1) _ _

/-- A window sum padded by one less than its length is a running sum. -/
theorem window_sum (x : FVec Ideal S1x128x2x4 .f32) (v : FVec Ideal S_ .f32) (hv : ∀ y, v y = (0 : EReal)) (i : Fin 128) (g : Fin 2) (r : Fin 4) :
    Host.reduceWindowAdd ![1, 128, 1, 1] ![1, 1, 1, 1] ![0, 127, 0, 0] ![0, 0, 0, 0] x v
        reduceWindows_S1x128x2x4_S1x128x2x4_w1s1p0_0_w128s1p127_0_w1s1p0_0_w1s1p0_0 h_S_ (ix4 0 i g r)
      = ∑ k : Fin 128, if k ≤ i then x (ix4 0 k g r) else (0 : EReal) := by
  unfold Host.reduceWindowAdd
  rw [Ideal.hostReduceWindowAdd_def]
  unfold Ideal.hostReduceWindowAdd
  simp only [Host.reduceWindow]
  refine (foldl_add _ _ _).trans ?_
  rw [hv, zero_add, ← Fin.sum_univ_def]
  refine Fintype.sum_equiv (((⟨4, ![1, 128, 1, 1]⟩ : Shape).rowMajor.symm.trans runOf.symm).trans (Equiv.addRight (i + 1))) _ _ (fun n => ?_)
  obtain ⟨k, hk⟩ : ∃ k, (⟨4, ![1, 128, 1, 1]⟩ : Shape).rowMajor.symm n = runOf k := ⟨runOf.symm _, (runOf.apply_symm_apply _).symm⟩
  simp only [Equiv.trans_apply, hk, Equiv.symm_apply_apply, Equiv.coe_addRight]
  have hi := i.isLt
  have hkk := k.isLt
  have e : (k + (i + 1)).val = (k.val + (i.val + 1)) % 128 := by
    rw [Fin.val_add, Fin.val_add]
    simp
  by_cases h : 127 ≤ i.val + k.val
  · rw [if_pos (by rw [Fin.le_def, e]; omega), dif_pos]
    · refine congrArg x (funext fun a => Fin.ext ?_)
      fin_cases a
      · rfl
      · show i.val * 1 + k.val - 127 = (k + (i + 1)).val
        rw [e]; omega
      · show g.val * 1 + 0 - 0 = g.val
        omega
      · show r.val * 1 + 0 - 0 = r.val
        omega
    · intro a
      fin_cases a
      · show 0 ≤ 0 * 1 + 0 ∧ 0 * 1 + 0 - 0 < 1
        omega
      · show 127 ≤ i.val * 1 + k.val ∧ i.val * 1 + k.val - 127 < 128
        omega
      · show 0 ≤ g.val * 1 + 0 ∧ g.val * 1 + 0 - 0 < 2
        omega
      · show 0 ≤ r.val * 1 + 0 ∧ r.val * 1 + 0 - 0 < 4
        omega
  · rw [if_neg (by rw [Fin.le_def, e]; omega), dif_neg]
    intro q
    have q1 : 127 ≤ i.val * 1 + k.val := (q 1).1
    omega

/-- Chunk numbers are small words. -/
theorem word (n : Fin 128) : (BitVec.ofNat 32 n.val).toInt = n.val := by
  have hn := n.isLt
  rw [BitVec.toInt_eq_toNat_of_lt (by rw [BitVec.toNat_ofNat]; omega), BitVec.toNat_ofNat]
  omega

/-- The comparison of two row numbers, as a bit. -/
theorem later_nat (n k : ℕ) (hn : n < 128) (hk : k < 128) :
    IntOp.cmpi .sge (BitVec.ofNat 32 n) (BitVec.ofNat 32 k) = if k ≤ n then 1#1 else 0#1 := by
  have en := word ⟨n, hn⟩
  have ek := word ⟨k, hk⟩
  simp only at en ek
  simp [IntOp.cmpi, BitVec.sle, BitVec.slt, en, ek]
  by_cases h : k ≤ n <;> simp [h] <;> omega

/-- The mask's bit for a row and an earlier or later row. -/
theorem later (i j : Fin 128) :
    Scalar.select (IntOp.cmpi .sge (IntOp.addi (BitVec.ofNat 32 i.val) 0#32) (BitVec.ofNat 32 j.val)) 1#1 0#1 = if j ≤ i then 1#1 else 0#1 := by
  rw [show IntOp.addi (BitVec.ofNat 32 i.val) 0#32 = BitVec.ofNat 32 i.val from BitVec.add_zero _, later_nat _ _ i.isLt j.isLt]
  by_cases h : j ≤ i
  · rw [if_pos h, if_pos (show j.val ≤ i.val from h)]; rfl
  · rw [if_neg h, if_neg (show ¬j.val ≤ i.val from h)]; rfl

/-- The word that the mask is made of is minus infinity. -/
theorem neg_inf : Ideal.ofBits .f32 4286578688#32 = ⊥ := by
  simp [Ideal.ofBits, Ideal.ieee]

variable (s : State Ideal) (n : Fin 128)

/-- The trip reads chunk `n` of the inputs, -/
theorem b6_apply (i : Fin 128) (g : Fin 2) (r : Fin 4) (p : Fin 64) :
    b6 n.val s (ix5 0 i g r p) = s.main_v58_0 (ix6 n 0 i g r p) := by
  pointwise [b6, b5, b0, b1, b2, b3, b4]
  simp [Host.clampedStart, constantI, word, Fin.ext_iff]
  exact congrArg (fun z => s.main_v58_0 (ix6 z 0 i g r p)) (Fin.ext (by show (min (n.val : ℤ) 127).toNat = n.val; omega))

/-- of the steps, -/
theorem b12_apply (i : Fin 128) (g : Fin 2) (r : Fin 4) :
    b12 n.val s (ix4 0 i g r) = s.main_v58_1 (ix5 n 0 i g r) := by
  pointwise [b12, b11, b7, b8, b9, b10]
  simp [Host.clampedStart, constantI, word, Fin.ext_iff]
  exact congrArg (fun z => s.main_v58_1 (ix5 z 0 i g r)) (Fin.ext (by show (min (n.val : ℤ) 127).toNat = n.val; omega))

/-- of the input directions -/
theorem b18_apply (i : Fin 128) (g : Fin 2) (x : Fin 128) :
    b18 n.val s (ix4 0 i g x) = s.main_v58_2 (ix5 n 0 i g x) := by
  pointwise [b18, b17, b13, b14, b15, b16]
  simp [Host.clampedStart, constantI, word, Fin.ext_iff]
  exact congrArg (fun z => s.main_v58_2 (ix5 z 0 i g x)) (Fin.ext (by show (min (n.val : ℤ) 127).toNat = n.val; omega))

/-- and of the output directions. -/
theorem b24_apply (i : Fin 128) (g : Fin 2) (x : Fin 128) :
    b24 n.val s (ix4 0 i g x) = s.main_v58_3 (ix5 n 0 i g x) := by
  pointwise [b24, b23, b19, b20, b21, b22]
  simp [Host.clampedStart, constantI, word, Fin.ext_iff]
  exact congrArg (fun z => s.main_v58_3 (ix5 z 0 i g x)) (Fin.ext (by show (min (n.val : ℤ) 127).toNat = n.val; omega))

/-- The running sums of the steps times the rate. -/
theorem b32_apply (i : Fin 128) (g : Fin 2) (r : Fin 4) :
    b32 n.val s (ix4 0 i g r) = running (fun k => s.main_v58_1 (ix5 n 0 k g r)) (s.main_v58_4 (ix1 (hd g r))) i := by
  unfold b32
  rw [window_sum _ _ (fun y => by pointwise [b31, b30])]
  unfold running
  refine Finset.sum_congr rfl fun k _ => ?_
  have e : b29 n.val s (ix4 0 k g r) = b12 n.val s (ix4 0 k g r) * s.main_v58_4 (ix1 (hd g r)) := by
    pointwise [b29, b28, b27, b25]
    rw [hd_eq]
  rw [e, b12_apply]

/-- How much of row `j` remains at row `i`. -/
theorem b54_apply (i j : Fin 128) (g : Fin 2) (r : Fin 4) :
    b54 n.val s (ix5 0 i j g r) = decay (fun k => b32 n.val s (ix4 0 k g r)) i j := by
  pointwise [b54, b53, b52, b51, b50, b49, b48, b47, b46, b45, b44, b43, b42, b41, b40, b39, b38, b37, b36, b35, b34, b33]
  rw [later, neg_inf]
  unfold decay
  refine congrArg Ideal.exp ?_
  split
  · rfl
  · rfl

/-- A chunk's inputs weighted by their steps. -/
theorem b59_apply (i : Fin 128) (g : Fin 2) (r : Fin 4) (p : Fin 64) :
    b59 n.val s (ix5 0 i g r p) = s.main_v58_0 (ix6 n 0 i g r p) * s.main_v58_1 (ix5 n 0 i g r) := by
  rw [← b6_apply, ← b12_apply]
  pointwise [b59, b58, b57]

/-- Channel `p` of head `(g, r)` after the chunk's row `i`. -/
theorem b87_apply (i : Fin 128) (g : Fin 2) (r : Fin 4) (p : Fin 64) :
    b87 n.val s (ix5 0 i g r p)
      = row (fun j => s.main_v58_0 (ix6 n 0 j g r p)) (fun j => s.main_v58_1 (ix5 n 0 j g r)) (fun k => b32 n.val s (ix4 0 k g r))
        (fun j x => s.main_v58_2 (ix5 n 0 j g x)) (fun j x => s.main_v58_3 (ix5 n 0 j g x)) (fun x => s.main_v58_7 (ix5 0 g r p x))
        (s.main_v58_5 (ix1 (hd g r))) i := by
  have within : b64 n.val s (ix5 0 i g r p) = ∑ j : Fin 128, decay (fun k => b32 n.val s (ix4 0 k g r)) i j
      * (∑ x : Fin 128, s.main_v58_3 (ix5 n 0 i g x) * s.main_v58_2 (ix5 n 0 j g x))
      * (s.main_v58_0 (ix6 n 0 j g r p) * s.main_v58_1 (ix5 n 0 j g r)) := by
    have pairs : ∀ j : Fin 128, b62 n.val s (ix5 0 i j g r) = decay (fun k => b32 n.val s (ix4 0 k g r)) i j
        * (∑ x : Fin 128, s.main_v58_3 (ix5 n 0 i g x) * s.main_v58_2 (ix5 n 0 j g x)) := by
      intro j
      have e : b62 n.val s (ix5 0 i j g r) = b54 n.val s (ix5 0 i j g r) * ∑ x : Fin 128, b18 n.val s (ix4 0 j g x) * b24 n.val s (ix4 0 i g x) := by
        pointwise [b62, b61, b60, b56, b55]
      rw [e, b54_apply]
      refine congrArg _ (Finset.sum_congr rfl fun x _ => ?_)
      rw [b18_apply, b24_apply, mul_comm]
    have e : b64 n.val s (ix5 0 i g r p) = ∑ j : Fin 128, b59 n.val s (ix5 0 j g r p) * b62 n.val s (ix5 0 i j g r) := by
      pointwise [b64, b63]
    rw [e]
    refine Finset.sum_congr rfl fun j _ => ?_
    rw [pairs, b59_apply, mul_comm]
  have e : b87 n.val s (ix5 0 i g r p) = b64 n.val s (ix5 0 i g r p)
      + (∑ x : Fin 128, s.main_v58_7 (ix5 0 g r p x) * b24 n.val s (ix4 0 i g x)) * Ideal.exp (b32 n.val s (ix4 0 i g r))
      + s.main_v58_5 (ix1 (hd g r)) * b6 n.val s (ix5 0 i g r p) := by
    pointwise [b87, b86, b85, b84, b83, b82, b26, b65, b66, b67, b68, b69, b70]
    rw [hd_eq]
  rw [e, within, b6_apply]
  unfold row
  refine congrArg₂ _ (congrArg₂ _ rfl (congrArg₂ _ (Finset.sum_congr rfl fun x _ => ?_) rfl)) rfl
  rw [b24_apply, mul_comm]

/-- Entry `k` of channel `p`'s state after the chunk. -/
theorem b91_apply (g : Fin 2) (r : Fin 4) (p : Fin 64) (k : Fin 128) :
    b91 n.val s (ix5 0 g r p k)
      = after (fun j => s.main_v58_0 (ix6 n 0 j g r p)) (fun j => s.main_v58_1 (ix5 n 0 j g r)) (fun k => b32 n.val s (ix4 0 k g r))
        (fun j x => s.main_v58_2 (ix5 n 0 j g x)) (fun x => s.main_v58_7 (ix5 0 g r p x)) k := by
  have e : b91 n.val s (ix5 0 g r p k) = Ideal.exp (b32 n.val s (ix4 0 127 g r)) * s.main_v58_7 (ix5 0 g r p k)
      + ∑ x : Fin 128, b59 n.val s (ix5 0 x g r p) * Ideal.exp (b32 n.val s (ix4 0 127 g r) - b32 n.val s (ix4 0 x g r)) * b18 n.val s (ix4 0 x g k) := by
    pointwise [b91, b90, b89, b88, b81, b80, b79, b78, b77, b76, b75, b74, b73, b72, b71]
  rw [e]
  unfold after
  refine congrArg₂ _ (mul_comm _ _) (Finset.sum_congr rfl fun x _ => ?_)
  rw [b59_apply, b18_apply, mul_comm]

/-- After the trip entry `n` of the stack holds the chunk's rows, and the other entries are as before. -/
theorem b98_apply (q : Fin 128) (i : Fin 128) (g : Fin 2) (r : Fin 4) (p : Fin 64) :
    b98 n.val s (ix6 q 0 i g r p) = if q = n then b87 n.val s (ix5 0 i g r p) else s.main_v58_8 (ix6 q 0 i g r p) := by
  pointwise [b98, b97, b96, b95, b94, b93, b92]
  have hc : (min (n.val : ℤ) 127).toNat = n.val := by omega
  simp [Host.clampedStart, constantI, word, hc]
  by_cases h : q = n
  · rw [if_pos h, if_pos ⟨h.ge, h.le⟩]
  · rw [if_neg h, if_neg fun k => h (le_antisymm k.2 k.1)]

end Cert.ReferenceIdeal.Step

end
-- ==== Proof.SsdInit.lean ====
module

public import proofs.«01_k».proof.Proof.SsdChunk

@[expose] public section

set_option maxRecDepth 16384

noncomputable section

/-!
The arrays that the reference's loop starts from, and its results, at an index.
-/

namespace Cert.ReferenceIdeal.Step

open Idealize.ShloMosaic Cert.ReferenceIdeal.Gen
open Cert.Ssd

variable (a0 : (⟨S1x16384x512, .f32⟩ : BufTy).Contents (Elt Ideal)) (a1 : (⟨S1x16384x1024, .f32⟩ : BufTy).Contents (Elt Ideal)) (a2 : (⟨S1x16384x128, .f32⟩ : BufTy).Contents (Elt Ideal))
  (a3 : (⟨S4x1024, .f32⟩ : BufTy).Contents (Elt Ideal)) (a4 : (⟨S1024, .f32⟩ : BufTy).Contents (Elt Ideal))
  (a5 : (⟨S8, .f32⟩ : BufTy).Contents (Elt Ideal)) (a6 : (⟨S8, .f32⟩ : BufTy).Contents (Elt Ideal)) (a8 : (⟨S512, .f32⟩ : BufTy).Contents (Elt Ideal))

/-- The rows, three rows of zeros before them. -/
def lag (j : Fin 16387) (c : Fin 1024) : EReal := if h : j.val < 3 then 0 else a1 (ix3 0 ⟨j.val - 3, by omega⟩ c)

/-- The convolved and gated rows. -/
def mix (j : Fin 16384) (c : Fin 1024) : EReal :=
  silu (a4 (ix1 c) + lag a1 ⟨j.val, by omega⟩ c * a3 (ix2 0 c) + lag a1 ⟨j.val + 1, by omega⟩ c * a3 (ix2 1 c)
    + lag a1 ⟨j.val + 2, by omega⟩ c * a3 (ix2 2 c) + lag a1 ⟨j.val + 3, by omega⟩ c * a3 (ix2 3 c))

/-- The padded rows are the lagged ones. -/
theorem lag_apply (j : Fin 16387) (c : Fin 1024) : A_main_v3 a1 a2 a3 a4 a5 a6 (ix3 0 j c) = lag a1 j c := by
  unfold lag
  pointwise [A_main_v3, K_main_v0, K_main_cst]

/-- The convolution with its activation, at a row and a channel. -/
theorem mix_apply (j : Fin 16384) (c : Fin 1024) : A_main_v34 a1 a2 a3 a4 a5 a6 (ix3 0 j c) = mix a1 a3 a4 j c := by
  have e : A_main_v33 a1 a2 a3 a4 a5 a6 (ix3 0 j c) =
   (a4 (ix1 c) + lag a1 ⟨j.val, by omega⟩ c * a3 (ix2 0 c) + lag a1 ⟨j.val + 1, by omega⟩ c * a3 (ix2 1 c)
    + lag a1 ⟨j.val + 2, by omega⟩ c * a3 (ix2 2 c) + lag a1 ⟨j.val + 3, by omega⟩ c * a3 (ix2 3 c)) := by
    simp only [← lag_apply a1 a2 a3 a4 a5 a6]
    pointwise [A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4]
    simp only [Nat.add_comm]
  unfold mix
  rw [← e]
  pointwise [A_main_v34, A_main_call0_v5, A_main_call0_v3, A_main_call0_v1, A_main_call0_v0, K_main_call0_v4, K_main_call0_v2, K_main_call0_cst, K_main_call0_cst_0]
  rfl

/-- A row's step of a head. -/
theorem v45_apply (j : Fin 16384) (h : Fin 8) : A_main_v45 a1 a2 a3 a4 a5 a6 (ix3 0 j h) = softplus (a2 (ix3 0 j ⟨h.val, by omega⟩) + a5 (ix1 h)) := by
  pointwise [A_main_v45, A_main_call1_v11, A_main_call1_v10, A_main_call1_v9, A_main_call1_v8, A_main_call1_v7, A_main_call1_v6, A_main_call1_v4, A_main_call1_v3, A_main_call1_v1, A_main_v44, A_main_v43, A_main_v42, A_main_v2, K_main_call1_v5, K_main_call1_v2, K_main_call1_v0, K_main_call1_cst]
  rw [if_neg (fun h => h rfl)]
  rfl

/-- The inputs by chunk, row of the chunk, group, head and channel. -/
theorem v53_apply (n i : Fin 128) (g : Fin 2) (r : Fin 4) (p : Fin 64) :
    A_main_v53 a1 a2 a3 a4 a5 a6 (ix6 n 0 i g r p) = A_main_v34 a1 a2 a3 a4 a5 a6 (ix3 0 ⟨128 * n.val + i.val, by omega⟩ ⟨(chan (hd g r) p).val, by omega⟩) := by
  pointwise [A_main_v53, A_main_v48, A_main_v37, A_main_v36]
  refine congrArg _ (congrArg₂ _ (Fin.ext ?_) (Fin.ext ?_))
  · show n.val * 128 + i.val = 128 * n.val + i.val
    omega
  · show g.val * 256 + r.val * 64 + p.val = 64 * (4 * g.val + r.val) + p.val
    omega

/-- The steps by chunk, row of the chunk, group and head. -/
theorem v54_apply (n i : Fin 128) (g : Fin 2) (r : Fin 4) :
    A_main_v54 a1 a2 a3 a4 a5 a6 (ix5 n 0 i g r) = A_main_v45 a1 a2 a3 a4 a5 a6 (ix3 0 ⟨128 * n.val + i.val, by omega⟩ (hd g r)) := by
  pointwise [A_main_v54, A_main_v49]
  refine congrArg _ (congrArg₂ _ (Fin.ext ?_) (Fin.ext ?_))
  · show n.val * 128 + i.val = 128 * n.val + i.val
    omega
  · show g.val * 4 + r.val = 4 * g.val + r.val
    omega

/-- The input matrix's rows by chunk, repeated over the heads. -/
theorem v55_apply (n i : Fin 128) (g : Fin 2) (r : Fin 4) (x : Fin 128) :
    A_main_v55 a1 a2 a3 a4 a5 a6 (ix5 n 0 i g x) = A_main_v34 a1 a2 a3 a4 a5 a6 (ix3 0 ⟨128 * n.val + i.val, by omega⟩ ⟨512 + (ent (hd g r) x).val, by omega⟩) := by
  pointwise [A_main_v55, A_main_v50, A_main_v39, A_main_v38]
  refine congrArg _ (congrArg₂ _ (Fin.ext ?_) (Fin.ext ?_))
  · show n.val * 128 + i.val = 128 * n.val + i.val
    omega
  · show 512 + (g.val * 128 + x.val) = 512 + (128 * ((4 * g.val + r.val) / 4) + x.val)
    omega

/-- The output matrix's rows by chunk, repeated over the heads. -/
theorem v56_apply (n i : Fin 128) (g : Fin 2) (r : Fin 4) (x : Fin 128) :
    A_main_v56 a1 a2 a3 a4 a5 a6 (ix5 n 0 i g x) = A_main_v34 a1 a2 a3 a4 a5 a6 (ix3 0 ⟨128 * n.val + i.val, by omega⟩ ⟨768 + (ent (hd g r) x).val, by omega⟩) := by
  pointwise [A_main_v56, A_main_v51, A_main_v41, A_main_v40]
  refine congrArg _ (congrArg₂ _ (Fin.ext ?_) (Fin.ext ?_))
  · show n.val * 128 + i.val = 128 * n.val + i.val
    omega
  · show 768 + (g.val * 128 + x.val) = 768 + (128 * ((4 * g.val + r.val) / 4) + x.val)
    omega

/-- A head's rate. -/
theorem v47_apply (h : Fin 8) : A_main_v47 a1 a2 a3 a4 a5 a6 (ix1 h) = -Ideal.exp (a6 (ix1 h)) := by
  pointwise [A_main_v47, A_main_v46]

/-- The state starts at zero. -/
theorem v52_apply (g : Fin 2) (r : Fin 4) (p : Fin 64) (x : Fin 128) : K_main_v52 (F := Ideal) (ix5 0 g r p x) = (0 : EReal) := by
  pointwise [K_main_v52, K_main_v1, K_main_cst_0]

variable (s : State Ideal)

/-- The final state by channel is the scan's by group, head and channel. -/
theorem R79_apply (g : Fin 2) (r : Fin 4) (p : Fin 64) (x : Fin 128) : R_main_v79 s (ix3 0 (chan (hd g r) p) x) = s.main_v58_7 (ix5 0 g r p x) := by
  pointwise [R_main_v79]
  have e0 : ∀ h, (⟨(chan (hd g r) p).val / 256, h⟩ : Fin 2) = g := fun _ => Fin.ext (by show (64 * (4 * g.val + r.val) + p.val) / 256 = g.val; omega)
  have e1 : ∀ h, (⟨(chan (hd g r) p).val / 64 % 4, h⟩ : Fin 4) = r := fun _ => Fin.ext (by show (64 * (4 * g.val + r.val) + p.val) / 64 % 4 = r.val; omega)
  have e2 : ∀ h, (⟨(chan (hd g r) p).val % 64, h⟩ : Fin 64) = p := fun _ => Fin.ext (by show (64 * (4 * g.val + r.val) + p.val) % 64 = p.val; omega)
  rw [e0, e1, e2]

/-- The history is the last eight rows. -/
theorem R78_apply (i : Fin 8) (c : Fin 1024) : R_main_v78 s a1 (ix3 0 i c) = a1 (ix3 0 ⟨16376 + i.val, by omega⟩ c) := by
  pointwise [R_main_v78]

/-- The rows of the result are the scan's rows, gated and normed. -/
theorem R77_apply (n i : Fin 128) (c : Fin 512) (Y : Fin 512 → EReal)
    (hY : ∀ g r p, Y (chan (hd g r) p) = s.main_v58_8 (ix6 n 0 i g r p)) :
    R_main_v77 s a0 a8 (ix3 0 ⟨128 * n.val + i.val, by omega⟩ c) = gated Y (fun x => a0 (ix3 0 ⟨128 * n.val + i.val, by omega⟩ x)) (fun x => a8 (ix1 x)) c := by
  pointwise [R_main_v77]
  have e : ∀ x : Fin 512, s.main_v58_8 (ix6 n 0 i ⟨x.val / 256, by omega⟩ ⟨x.val / 64 % 4, by omega⟩ ⟨x.val % 64, by omega⟩) = Y x := by
    intro x
    rw [← hY]
    refine congrArg Y (Fin.ext ?_)
    show 64 * (4 * (x.val / 256) + x.val / 64 % 4) + x.val % 64 = x.val
    omega
  simp only [e]
  rfl

end Cert.ReferenceIdeal.Step

end
-- ==== Proof.SsdIter.lean ====
module

public import proofs.«01_k».proof.Proof.SsdInit

@[expose] public section

set_option maxRecDepth 16384

noncomputable section

/-!
The reference's loop, of its argument arrays: what each chunk reads, and what the loop leaves.
-/

namespace Cert.ReferenceIdeal.Step

open Idealize.ShloMosaic Cert.ReferenceIdeal.Gen
open Cert.Ssd

variable (a1 : (⟨S1x16384x1024, .f32⟩ : BufTy).Contents (Elt Ideal)) (a2 : (⟨S1x16384x128, .f32⟩ : BufTy).Contents (Elt Ideal))
  (a3 : (⟨S4x1024, .f32⟩ : BufTy).Contents (Elt Ideal)) (a4 : (⟨S1024, .f32⟩ : BufTy).Contents (Elt Ideal))
  (a5 : (⟨S8, .f32⟩ : BufTy).Contents (Elt Ideal)) (a6 : (⟨S8, .f32⟩ : BufTy).Contents (Elt Ideal)) (a7 : (⟨S8, .f32⟩ : BufTy).Contents (Elt Ideal))

/-- The state before chunk `k`. -/
def iter : ℕ → State Ideal
  | 0 => init a7 a1 a2 a3 a4 a5 a6
  | k + 1 => step k (iter k)

/-- The loop leaves the arrays it reads as they were. -/
theorem iter_kept (k : ℕ) : (iter a1 a2 a3 a4 a5 a6 a7 k).main_v58_0 = A_main_v53 a1 a2 a3 a4 a5 a6
    ∧ (iter a1 a2 a3 a4 a5 a6 a7 k).main_v58_1 = A_main_v54 a1 a2 a3 a4 a5 a6
    ∧ (iter a1 a2 a3 a4 a5 a6 a7 k).main_v58_2 = A_main_v55 a1 a2 a3 a4 a5 a6
    ∧ (iter a1 a2 a3 a4 a5 a6 a7 k).main_v58_3 = A_main_v56 a1 a2 a3 a4 a5 a6
    ∧ (iter a1 a2 a3 a4 a5 a6 a7 k).main_v58_4 = A_main_v47 a1 a2 a3 a4 a5 a6
    ∧ (iter a1 a2 a3 a4 a5 a6 a7 k).main_v58_5 = a7 := by
  induction k with
  | zero => exact ⟨rfl, rfl, rfl, rfl, rfl, rfl⟩
  | succ k ih => exact ih

/-- The row of chunk `n` numbered `i`. -/
def rowOf (n i : Fin 128) : Fin 16384 := ⟨128 * n.val + i.val, by omega⟩

/-- A head's steps in chunk `n`. -/
def dtOf (n : Fin 128) (h : Fin 8) (i : Fin 128) : EReal := softplus (a2 (ix3 0 (rowOf n i) ⟨h.val, by omega⟩) + a5 (ix1 h))

/-- A head's running sums in chunk `n`. -/
def sumOf (n : Fin 128) (h : Fin 8) : Fin 128 → EReal := running (dtOf a2 a5 n h) (-Ideal.exp (a6 (ix1 h)))

/-- The convolved rows of chunk `n`. -/
def mixOf (n i : Fin 128) (c : Fin 1024) : EReal := mix a1 a3 a4 (rowOf n i) c

/-- Chunk `n`'s inputs of a channel, -/
theorem iter_x (k : ℕ) (n i : Fin 128) (g : Fin 2) (r : Fin 4) (p : Fin 64) :
    (iter a1 a2 a3 a4 a5 a6 a7 k).main_v58_0 (ix6 n 0 i g r p) = mixOf a1 a3 a4 n i ⟨(chan (hd g r) p).val, by omega⟩ := by
  rw [(iter_kept a1 a2 a3 a4 a5 a6 a7 k).1, v53_apply, mix_apply]
  rfl

/-- its steps, -/
theorem iter_dt (k : ℕ) (n i : Fin 128) (g : Fin 2) (r : Fin 4) :
    (iter a1 a2 a3 a4 a5 a6 a7 k).main_v58_1 (ix5 n 0 i g r) = dtOf a2 a5 n (hd g r) i := by
  rw [(iter_kept a1 a2 a3 a4 a5 a6 a7 k).2.1, v54_apply, v45_apply]
  rfl

/-- its input directions, -/
theorem iter_b (k : ℕ) (n i : Fin 128) (g : Fin 2) (r : Fin 4) (x : Fin 128) :
    (iter a1 a2 a3 a4 a5 a6 a7 k).main_v58_2 (ix5 n 0 i g x) = mixOf a1 a3 a4 n i ⟨512 + (ent (hd g r) x).val, by omega⟩ := by
  rw [(iter_kept a1 a2 a3 a4 a5 a6 a7 k).2.2.1, v55_apply a1 a2 a3 a4 a5 a6 n i g r, mix_apply]
  rfl

/-- its output directions, -/
theorem iter_c (k : ℕ) (n i : Fin 128) (g : Fin 2) (r : Fin 4) (x : Fin 128) :
    (iter a1 a2 a3 a4 a5 a6 a7 k).main_v58_3 (ix5 n 0 i g x) = mixOf a1 a3 a4 n i ⟨768 + (ent (hd g r) x).val, by omega⟩ := by
  rw [(iter_kept a1 a2 a3 a4 a5 a6 a7 k).2.2.2.1, v56_apply a1 a2 a3 a4 a5 a6 n i g r, mix_apply]
  rfl

/-- and its running sums. -/
theorem iter_sum (k : ℕ) (n i : Fin 128) (g : Fin 2) (r : Fin 4) :
    b32 n.val (iter a1 a2 a3 a4 a5 a6 a7 k) (ix4 0 i g r) = sumOf a2 a5 a6 n (hd g r) i := by
  rw [b32_apply, (iter_kept a1 a2 a3 a4 a5 a6 a7 k).2.2.2.2.1, v47_apply]
  simp only [iter_dt]
  rfl

/-- The row of a channel in chunk `n`, of the state before the chunk. -/
theorem iter_row (n i : Fin 128) (g : Fin 2) (r : Fin 4) (p : Fin 64) :
    b87 n.val (iter a1 a2 a3 a4 a5 a6 a7 n.val) (ix5 0 i g r p)
      = row (fun j => mixOf a1 a3 a4 n j ⟨(chan (hd g r) p).val, by omega⟩) (dtOf a2 a5 n (hd g r)) (sumOf a2 a5 a6 n (hd g r))
        (fun j x => mixOf a1 a3 a4 n j ⟨512 + (ent (hd g r) x).val, by omega⟩) (fun j x => mixOf a1 a3 a4 n j ⟨768 + (ent (hd g r) x).val, by omega⟩)
        (fun x => (iter a1 a2 a3 a4 a5 a6 a7 n.val).main_v58_7 (ix5 0 g r p x)) (a7 (ix1 (hd g r))) i := by
  rw [b87_apply, (iter_kept a1 a2 a3 a4 a5 a6 a7 n.val).2.2.2.2.2]
  simp only [iter_x, iter_dt, iter_b a1 a2 a3 a4 a5 a6 a7 _ _ _ g r, iter_c a1 a2 a3 a4 a5 a6 a7 _ _ _ g r, iter_sum]

/-- The state after chunk `n`, of the state before. -/
theorem iter_state (n : Fin 128) (g : Fin 2) (r : Fin 4) (p : Fin 64) (k : Fin 128) :
    (iter a1 a2 a3 a4 a5 a6 a7 (n.val + 1)).main_v58_7 (ix5 0 g r p k)
      = after (fun j => mixOf a1 a3 a4 n j ⟨(chan (hd g r) p).val, by omega⟩) (dtOf a2 a5 n (hd g r)) (sumOf a2 a5 a6 n (hd g r))
        (fun j x => mixOf a1 a3 a4 n j ⟨512 + (ent (hd g r) x).val, by omega⟩)
        (fun x => (iter a1 a2 a3 a4 a5 a6 a7 n.val).main_v58_7 (ix5 0 g r p x)) k := by
  refine (b91_apply (iter a1 a2 a3 a4 a5 a6 a7 n.val) n g r p k).trans ?_
  simp only [iter_x, iter_dt, iter_b a1 a2 a3 a4 a5 a6 a7 _ _ _ g r, iter_sum]

/-- The state before the first chunk is zero. -/
theorem iter_first (g : Fin 2) (r : Fin 4) (p : Fin 64) (k : Fin 128) :
    (iter a1 a2 a3 a4 a5 a6 a7 0).main_v58_7 (ix5 0 g r p k) = (0 : EReal) := v52_apply g r p k

/-- After `k` chunks the stack holds the rows of each of them. -/
theorem iter_stack (k : ℕ) (hk : k ≤ 128) (n i : Fin 128) (hn : n.val < k) (g : Fin 2) (r : Fin 4) (p : Fin 64) :
    (iter a1 a2 a3 a4 a5 a6 a7 k).main_v58_8 (ix6 n 0 i g r p) = b87 n.val (iter a1 a2 a3 a4 a5 a6 a7 n.val) (ix5 0 i g r p) := by
  induction k with
  | zero => omega
  | succ k ih =>
    refine (b98_apply (iter a1 a2 a3 a4 a5 a6 a7 k) ⟨k, by omega⟩ n i g r p).trans ?_
    by_cases h : n = ⟨k, by omega⟩
    · rw [if_pos h, h]
    · rw [if_neg h]
      exact ih (by omega) (by have : n.val ≠ k := fun e => h (Fin.ext e); omega)

end Cert.ReferenceIdeal.Step

end
-- ==== Proof.SsdValue.lean ====
module

public import proofs.«01_k».proof.Proof.SsdBlocks
public import proofs.«01_k».proof.Proof.SsdIter

@[expose] public section

set_option maxRecDepth 16384
noncomputable section

/-!
The scan kernel and its reference, chunk by chunk: the carried rows and the carried state are those of the reference's loop, so
the rows, the history and the last state are the reference's.
-/

namespace Cert.KernelIdeal.Value
open Cert.KernelIdeal Cert.KernelIdeal.Gen Idealize.ShloMosaic Idealize.ShloMosaic.TcCoe Idealize.SL.Sem
open Idealize.ShloMosaic.Pipeline (Dat)
open Cert.Ssd
open Cert.ReferenceIdeal.Step (hd iter rowOf dtOf sumOf mixOf mix lag)

variable (m : (ℓ : Loc nD τ sig) → Buf (Elt Ideal) ℓ) (c : Dev nD)

/-- The reference's state before chunk `k`, of this memory's arguments. -/
def ref (k : ℕ) : Cert.ReferenceIdeal.Step.State Ideal :=
  iter (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) k

/-- A point's chunk. -/
def chunk (t : Fin cfg0.N) : Fin 128 := ⟨t.val, lt_of_lt_of_eq t.isLt N_0⟩

/-- Every head is a head of a group. -/
theorem exists_hd (h : Fin 8) : ∃ g r, h = hd g r :=
  ⟨⟨h.val / 4, by omega⟩, ⟨h.val % 4, by omega⟩, Fin.ext (by show h.val = 4 * (h.val / 4) + h.val % 4; omega)⟩

/-- The eight rows before a chunk: zeros before the first. -/
def Carried (t : Fin cfg0.N) (u : S8x1024.Idx → EReal) : Prop :=
  ∀ (i : Fin 8) (j : Fin 1024), u (ix2 i j)
    = if h : t.val = 0 then (0 : EReal)
      else m ((c : Thread nD τ).loc main_arg1) (ix3 0 ⟨128 * t.val - 8 + i.val, by have := lt_of_lt_of_eq t.isLt N_0; omega⟩ j)

/-- The state before a chunk is the reference's. -/
def Stated (k : ℕ) (H : Vec Ideal S128x512 .f32) : Prop :=
  ∀ (g : Fin 2) (r : Fin 4) (p : Fin 64) (x : Fin 128), H (ix2 x (chan (hd g r) p)) = (ref m c k).main_v58_7 (ix5 0 g r p x)

section Point
variable (t : Fin cfg0.N) (u : S8x1024.Idx → EReal) (H : Vec Ideal S128x512 .f32) (hu : Carried m c t u) (hH : Stated m c t.val H)
include hu

/-- The padded chunk's rows are the reference's delayed rows. -/
theorem padded_lag (q : Fin 136) (j : Fin 1024) (hq : 5 ≤ q.val) :
    padded u (k0_pay6 (F := Ideal) (iblk m c 1 t)) (ix2 q j)
      = lag (m ((c : Thread nD τ).loc main_arg1)) ⟨128 * t.val + (q.val - 5), by have := lt_of_lt_of_eq t.isLt N_0; omega⟩ j := by
  have ht := lt_of_lt_of_eq t.isLt N_0
  unfold padded lag
  by_cases h8 : q.val < 8
  · refine (dif_pos h8).trans ((hu ⟨q.val, h8⟩ j).trans ?_)
    by_cases h0 : t.val = 0
    · rw [dif_pos h0, dif_pos (by show 128 * t.val + (q.val - 5) < 3; omega)]
    · rw [dif_neg h0, dif_neg (by show ¬128 * t.val + (q.val - 5) < 3; omega)]
      refine congrArg (fun z => m ((c : Thread nD τ).loc main_arg1) (ix3 0 z j)) (Fin.ext ?_)
      show 128 * t.val - 8 + q.val = 128 * t.val + (q.val - 5) - 3
      omega
  · refine (dif_neg h8).trans ((rows_apply _ _ _).trans ((block1 m c t _ j).trans ?_))
    rw [dif_neg (by show ¬128 * t.val + (q.val - 5) < 3; omega)]
    refine congrArg (fun z => m ((c : Thread nD τ).loc main_arg1) (ix3 0 z j)) (Fin.ext ?_)
    show 128 * t.val + (q.val - 8) = 128 * t.val + (q.val - 5) - 3
    omega

/-- The convolved rows are the reference's. -/
theorem conv_ref (i : Fin 128) (j : Fin 1024) :
    conv (iblk m c 1 t) (padded u (k0_pay6 (F := Ideal) (iblk m c 1 t))) (iblk m c 5 t) (iblk m c 6 t) i j
      = mixOf (m ((c : Thread nD τ).loc main_arg1)) (m ((c : Thread nD τ).loc main_arg3)) (m ((c : Thread nD τ).loc main_arg4)) (chunk t) i j := by
  have ht := lt_of_lt_of_eq t.isLt N_0
  have w0 := block5 m c t 0 j
  have w1 := block5 m c t 1 j
  have w2 := block5 m c t 2 j
  have w3 := block5 m c t 3 j
  have own : (iblk m c 1 t : Vec Ideal S1x128x1024 .f32) (ix3 0 i j)
      = lag (m ((c : Thread nD τ).loc main_arg1)) ⟨128 * t.val + i.val + 3, by omega⟩ j := by
    rw [block1]
    unfold lag
    rw [dif_neg (by show ¬128 * t.val + i.val + 3 < 3; omega)]
    rfl
  have at_ : ∀ (d : ℕ) (hd : d < 3) (h), padded u (k0_pay6 (F := Ideal) (iblk m c 1 t)) (ix2 ⟨5 + d + i.val, h⟩ j)
      = lag (m ((c : Thread nD τ).loc main_arg1)) ⟨128 * t.val + i.val + d, by omega⟩ j := by
    intro d hd h
    rw [padded_lag m c t u hu _ _ (by show 5 ≤ 5 + d + i.val; omega)]
    refine congrArg (fun z => lag (m ((c : Thread nD τ).loc main_arg1)) z j) (Fin.ext ?_)
    show 128 * t.val + (5 + d + i.val - 5) = 128 * t.val + i.val + d
    omega
  unfold conv mixOf mix
  refine congrArg silu ?_
  refine congrArg₂ (· + ·) (congrArg₂ (· + ·) (congrArg₂ (· + ·) (congrArg₂ (· + ·) (block6 m c t j) ?_) ?_) ?_) ?_
  · exact congrArg₂ (· * ·) (at_ 0 (by omega) _) w0
  · exact congrArg₂ (· * ·) (at_ 1 (by omega) _) w1
  · exact congrArg₂ (· * ·) (at_ 2 (by omega) _) w2
  · exact congrArg₂ (· * ·) own w3

omit hu in
/-- A head's steps are the reference's, -/
theorem steps_ref (h : Fin 8) :
    steps (iblk m c 2 t) (iblk m c 7 t) h = dtOf (m ((c : Thread nD τ).loc main_arg2)) (m ((c : Thread nD τ).loc main_arg5)) (chunk t) h := by
  funext i
  unfold steps dtOf
  rw [block2, block7]
  rfl

omit hu in
/-- and so are its running sums. -/
theorem sums_ref (h : Fin 8) :
    sums (iblk m c 2 t) (iblk m c 7 t) (iblk m c 8 t) h
      = sumOf (m ((c : Thread nD τ).loc main_arg2)) (m ((c : Thread nD τ).loc main_arg5)) (m ((c : Thread nD τ).loc main_arg6)) (chunk t) h := by
  unfold sums sumOf
  rw [steps_ref, block8]

include hH

/-- The state after the chunk is the reference's, -/
theorem state_ref : Stated m c (t.val + 1) (stateAt m c t u H) := by
  intro g r p x
  unfold stateAt ref
  rw [newState_apply]
  refine Eq.trans ?_ (Cert.ReferenceIdeal.Step.iter_state _ _ _ _ _ _ _ (chunk t) g r p x).symm
  rw [steps_ref, sums_ref]
  simp only [conv_ref m c t u hu]
  refine congrArg (fun z => after _ _ _ _ z x) (funext fun y => ?_)
  exact hH g r p y

/-- and so are the rows. -/
theorem rows_ref (i : Fin 128) (j : Fin 512) (Y : Fin 512 → EReal)
    (hY : ∀ g r p, Y (chan (hd g r) p) = Cert.ReferenceIdeal.Step.b87 t.val (ref m c t.val) (ix5 0 i g r p)) :
    rowsAt m c t u H (ix3 0 i j) = gated Y (fun x => m ((c : Thread nD τ).loc main_arg0) (ix3 0 (rowNo t i) x))
      (fun x => m ((c : Thread nD τ).loc main_arg8) (ix1 x)) j := by
  unfold rowsAt
  rw [newRows_apply _ _ _ _ _ _ _ _ _ _ _ _ i j Y]
  · simp only [block0, block10]
  · intro h p
    obtain ⟨g, r, rfl⟩ := exists_hd h
    rw [hY]
    refine (Cert.ReferenceIdeal.Step.iter_row _ _ _ _ _ _ _ (chunk t) i g r p).trans ?_
    unfold headRow
    rw [steps_ref, sums_ref, block9]
    simp only [conv_ref m c t u hu]
    refine congrArg (fun z => row _ _ _ _ _ z _ i) (funext fun y => ?_)
    exact (hH g r p y).symm

end Point

/-- The last rows of a chunk are the rows before the next. -/
theorem carried_next (n : ℕ) (h : n + 1 < cfg0.N) (u : S8x1024.Idx → EReal) (hu : u = lastRows m c ⟨n, Nat.lt_of_succ_lt h⟩) :
    Carried m c ⟨n + 1, h⟩ u := by
  intro i j
  rw [hu, dif_neg (Nat.succ_ne_zero n)]
  unfold lastRows
  refine (rows_apply _ _ _).trans ((block1 m c _ _ _).trans ?_)
  refine congrArg (fun z => m ((c : Thread nD τ).loc main_arg1) (ix3 0 z j)) (Fin.ext ?_)
  show 128 * n + (120 + i.val) = 128 * (n + 1) - 8 + i.val
  omega

/-- Before the first chunk the carried rows are zeros, -/
theorem zeros_before (t : Fin cfg0.N) (h : t.val = 0) : Carried m c t (k0_pay4 (F := Ideal) (iblk m c 3 t)) := by
  intro i j
  rw [dif_pos h]
  exact (first_history_apply _ _ _).trans (block3 m c t i j)

/-- and so is the state. -/
theorem stated_first (t : Fin cfg0.N) (h : t.val = 0) : Stated m c t.val (k0_pay5 (F := Ideal) (iblk m c 4 t)) := by
  intro g r p x
  rw [h]
  exact ((first_state_apply _ _ _).trans (block4 m c t _ _)).trans (Cert.ReferenceIdeal.Step.iter_first _ _ _ _ _ _ _ g r p x).symm

/-- What a point stores, of rows `u` and a state `H` that are the reference's. -/
def Follows (n : ℕ) (hn : n < cfg0.N) (acc : Acc) : Prop :=
  ∃ (u : S8x1024.Idx → EReal) (H : Vec Ideal S128x512 .f32), Carried m c ⟨n, hn⟩ u ∧ Stated m c n H
    ∧ acc.1 = rowsAt m c ⟨n, hn⟩ u H ∧ acc.2.2.2.2 = stateAt m c ⟨n, hn⟩ u H ∧ head8 acc.2.2.2.1 = lastRows m c ⟨n, hn⟩
    ∧ (n = 127 → (∀ i j, acc.2.1 (ix3 0 i j) = lastRows m c ⟨n, hn⟩ (ix2 i j)) ∧ ∀ j x, acc.2.2.1 (ix3 0 j x) = acc.2.2.2.2 (ix2 x j))

/-- Every point follows the reference. -/
theorem follows : ∀ (n : ℕ) (hn : n < cfg0.N), Follows m c n hn (outsAt0 m c n hn)
  | 0, hn => by
    have h0 : (⟨0, hn⟩ : Fin cfg0.N).val % 128 = 0 := rfl
    have h1 : ¬(⟨0, hn⟩ : Fin cfg0.N).val % 128 = 127 := by show ¬0 % 128 = 127; omega
    rw [outsAt0_zero]
    exact ⟨_, _, zeros_before m c ⟨0, hn⟩ rfl, stated_first m c ⟨0, hn⟩ rfl, rows_A m c ⟨0, hn⟩ _ h0 h1, state_A m c ⟨0, hn⟩ _ h0 h1,
      carry_A m c ⟨0, hn⟩ _ h0 h1, fun h => absurd h (by omega)⟩
  | n + 1, hn => by
    obtain ⟨u, H, hu, hH, _, hs, hc, _⟩ := follows n (Nat.lt_of_succ_lt hn)
    have hN := lt_of_lt_of_eq hn N_0
    have h0 : ¬(⟨n + 1, hn⟩ : Fin cfg0.N).val % 128 = 0 := by show ¬(n + 1) % 128 = 0; omega
    have next := carried_next m c n hn _ hc
    have state : Stated m c (n + 1) (outsAt0 m c n (Nat.lt_of_succ_lt hn)).2.2.2.2 := by
      rw [hs]; exact state_ref m c ⟨n, Nat.lt_of_succ_lt hn⟩ u H hu hH
    rw [outsAt0_succ]
    by_cases h1 : (⟨n + 1, hn⟩ : Fin cfg0.N).val % 128 = 127
    · refine ⟨_, _, next, state, rows_C m c ⟨n + 1, hn⟩ _ h0 h1, state_C m c ⟨n + 1, hn⟩ _ h0 h1,
        carry_C m c ⟨n + 1, hn⟩ _ h0 h1, fun _ => ⟨kept_C m c ⟨n + 1, hn⟩ _ h0 h1, fun j x => ?_⟩⟩
      rw [state_C m c ⟨n + 1, hn⟩ _ h0 h1]
      exact final_C m c ⟨n + 1, hn⟩ _ h0 h1 j x
    · exact ⟨_, _, next, state, rows_B m c ⟨n + 1, hn⟩ _ h0 h1, state_B m c ⟨n + 1, hn⟩ _ h0 h1,
        carry_B m c ⟨n + 1, hn⟩ _ h0 h1, fun h => absurd (show (n + 1) % 128 = 127 by omega) h1⟩

/-- The rows of the whole run are the reference's. -/
theorem rows_value : G11 m c = Cert.ReferenceIdeal.Step.R_main_v77 (ref m c 128) (m ((c : Thread nD τ).loc main_arg0)) (m ((c : Thread nD τ).loc main_arg8)) := by
  funext y
  obtain ⟨q, j, rfl⟩ : ∃ (q : Fin 16384) (j : Fin 512), y = ix3 0 q j :=
    ⟨y 1, y 2, by funext d; fin_cases d <;> first | rfl | exact Subsingleton.elim (α := Fin 1) _ _⟩
  obtain ⟨n, i, rfl⟩ : ∃ n i : Fin 128, q = ⟨128 * n.val + i.val, by omega⟩ :=
    ⟨⟨q.val / 128, by omega⟩, ⟨q.val % 128, by omega⟩, Fin.ext (by show q.val = 128 * (q.val / 128) + q.val % 128; omega)⟩
  have hn : n.val < cfg0.N := lt_of_lt_of_eq n.isLt N_0.symm
  let Y : Fin 512 → EReal := fun x => (ref m c 128).main_v58_8 (ix6 n 0 i ⟨x.val / 256, by omega⟩ ⟨x.val / 64 % 4, by omega⟩ ⟨x.val % 64, by omega⟩)
  have hY : ∀ g r p, Y (chan (hd g r) p) = (ref m c 128).main_v58_8 (ix6 n 0 i g r p) := by
    intro g r p
    have e0 : ∀ h, (⟨(chan (hd g r) p).val / 256, h⟩ : Fin 2) = g := fun _ => Fin.ext (by show (64 * (4 * g.val + r.val) + p.val) / 256 = g.val; omega)
    have e1 : ∀ h, (⟨(chan (hd g r) p).val / 64 % 4, h⟩ : Fin 4) = r := fun _ => Fin.ext (by show (64 * (4 * g.val + r.val) + p.val) / 64 % 4 = r.val; omega)
    have e2 : ∀ h, (⟨(chan (hd g r) p).val % 64, h⟩ : Fin 64) = p := fun _ => Fin.ext (by show (64 * (4 * g.val + r.val) + p.val) % 64 = p.val; omega)
    simp only [Y, e0, e1, e2]
  rw [Cert.ReferenceIdeal.Step.R77_apply _ _ (ref m c 128) n i j Y hY]
  obtain ⟨u, H, hu, hH, hr, _⟩ := follows m c n.val hn
  refine Eq.trans ?_ (rows_ref m c ⟨n.val, hn⟩ u H hu hH i j Y fun g r p =>
    (hY g r p).trans (Cert.ReferenceIdeal.Step.iter_stack _ _ _ _ _ _ _ 128 le_rfl n i n.isLt g r p))
  rw [← hr, outsAt0_sweep]
  have hp : pt11Of (ix3 (0 : Fin 1) (⟨128 * n.val + i.val, by omega⟩ : Fin 16384) j) = n.val := by
    show 128 * (0 / 1 - 0) + 1 * ((128 * n.val + i.val) / 128 - 0) + 1 * (j.val / 512 - 0) = n.val
    omega
  have hl : loc11Of (ix3 (0 : Fin 1) (⟨128 * n.val + i.val, by omega⟩ : Fin 16384) j) = ix3 0 i j := by
    funext d
    fin_cases d
    · rfl
    · exact Fin.ext (by show (128 * n.val + i.val) % 128 = i.val; omega)
    · exact Fin.ext (by show j.val % 512 = j.val; omega)
  unfold G11
  rw [dif_pos (lt_of_eq_of_lt hp hn), fold0_congr m c _ _ n.val (by omega) hp, hl]

/-- The history is the last eight rows, as the reference's. -/
theorem history_value : G12 m c = Cert.ReferenceIdeal.Step.R_main_v78 (ref m c 128) (m ((c : Thread nD τ).loc main_arg1)) := by
  have hn : 127 < cfg0.N := lt_of_lt_of_eq (by decide) N_0.symm
  rw [G12_last, ← outsAt0_sweep m c 127 hn]
  funext y
  obtain ⟨i, j, rfl⟩ : ∃ (i : Fin 8) (j : Fin 1024), y = ix3 0 i j :=
    ⟨y 1, y 2, by funext d; fin_cases d <;> first | rfl | exact Subsingleton.elim (α := Fin 1) _ _⟩
  obtain ⟨_, _, _, _, _, _, _, hl⟩ := follows m c 127 hn
  rw [(hl rfl).1 i j]
  unfold lastRows
  refine (rows_apply _ _ _).trans ((block1 m c _ _ _).trans ?_)
  refine Eq.trans ?_ (Cert.ReferenceIdeal.Step.R78_apply _ (ref m c 128) i j).symm
  refine congrArg (fun z => m ((c : Thread nD τ).loc main_arg1) (ix3 0 z j)) (Fin.ext ?_)
  show 128 * 127 + (120 + i.val) = 16376 + i.val
  omega

/-- The last state is the reference's. -/
theorem state_value : G13 m c = Cert.ReferenceIdeal.Step.R_main_v79 (ref m c 128) := by
  have hn : 127 < cfg0.N := lt_of_lt_of_eq (by decide) N_0.symm
  rw [G13_last, ← outsAt0_sweep m c 127 hn]
  funext y
  obtain ⟨j, x, rfl⟩ : ∃ (j : Fin 512) (x : Fin 128), y = ix3 0 j x :=
    ⟨y 1, y 2, by funext d; fin_cases d <;> first | rfl | exact Subsingleton.elim (α := Fin 1) _ _⟩
  obtain ⟨h, p, rfl⟩ := exists_chan j
  obtain ⟨g, r, rfl⟩ := exists_hd h
  obtain ⟨u, H, hu, hH, _, hs, _, hl⟩ := follows m c 127 hn
  rw [(hl rfl).2 _ x, hs, Cert.ReferenceIdeal.Step.R79_apply]
  exact state_ref m c ⟨127, hn⟩ u H hu hH g r p x

end Cert.KernelIdeal.Value

end
-- ==== Proof.lean ====
module

public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeReferenceIdeal
public import proofs.«01_k».proof.Proof.Gen.MoeReferenceIdeal.Run
public import proofs.«01_k».proof.Proof.Gen.MoeReferenceIdeal.Read
public import proofs.«01_k».proof.Proof.Gen.Pre_experts_named
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontIdeal.Value
public import proofs.«01_k».proof.Proof.Gen.FrontReferenceIdeal
public import proofs.«01_k».proof.Proof.Gen.FrontReferenceIdeal.Run
public import proofs.«01_k».proof.Proof.Gen.FrontReferenceIdeal.Read
public import proofs.«01_k».proof.Proof.FfnValue
public import proofs.«01_k».proof.Proof.FrontValue
public import proofs.«01_k».proof.Proof.MoeTables
public import proofs.«01_k».proof.Proof.MoeIdealTables
public import proofs.«01_k».proof.Proof.MoeValue
public import proofs.«01_k».proof.Proof.SsdTrips
public import proofs.«01_k».proof.Proof.SsdValue

@[expose] public section

set_option maxRecDepth 16384

noncomputable section

namespace Cert.Proof

open Idealize.ShloMosaic Idealize.SL.Sem

/-- The reference of the recurrence runs and leaves its arguments as they were. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The reference of the feed-forward block runs and leaves its arguments as they were. -/
theorem frame_ffn_reference : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- The reference's state before a chunk is the loop's own, of the same arguments. -/
theorem before_eq (m : (ℓ : Loc Cert.ReferenceIdeal.nD Cert.ReferenceIdeal.τ Cert.ReferenceIdeal.sig) → Buf (Elt Ideal) ℓ)
    (c : Dev Cert.ReferenceIdeal.nD) : ∀ k, Cert.ReferenceIdeal.Trips.before m c k
      = Cert.ReferenceIdeal.Step.iter (m ((c.tc : Thread _ _).loc Cert.ReferenceIdeal.main_arg1)) (m ((c.tc : Thread _ _).loc Cert.ReferenceIdeal.main_arg2))
        (m ((c.tc : Thread _ _).loc Cert.ReferenceIdeal.main_arg3)) (m ((c.tc : Thread _ _).loc Cert.ReferenceIdeal.main_arg4))
        (m ((c.tc : Thread _ _).loc Cert.ReferenceIdeal.main_arg5)) (m ((c.tc : Thread _ _).loc Cert.ReferenceIdeal.main_arg6))
        (m ((c.tc : Thread _ _).loc Cert.ReferenceIdeal.main_arg7)) k
  | 0 => rfl
  | k + 1 => congrArg (Cert.ReferenceIdeal.Step.step k) (before_eq m c k)

/-- The recurrence's three results are its reference's. -/
theorem scan : Cert.algebraic_KernelIdeal_ReferenceIdeal := by
  intro m g m' g' _ hagree
  refine ⟨_, _, _, Cert.KernelIdeal.Value.run m g, ?_⟩
  refine (θ_run _ _ _).mono (fun _ h c => ⟨(h c).1.1.trans ?_, (h c).1.2.1.trans ?_, (h c).1.2.2.trans ?_, (h c).2⟩)
    (Cert.ReferenceIdeal.Trips.results (F := Ideal) m' g')
  all_goals
    obtain ⟨a0, a1, a2, a3, a4, a5, a6, a7, a8⟩ := hagree c
    rw [before_eq, a1, a2, a3, a4, a5, a6, a7]
  · rw [a0, a8]
    exact (Cert.KernelIdeal.Value.rows_value m c).symm
  · exact (Cert.KernelIdeal.Value.history_value m c).symm
  · exact (Cert.KernelIdeal.Value.state_value m c).symm

/-- The feed-forward kernel's result is its reference's. -/
theorem ffn : Cert.algebraic_FfnIdeal_FfnReferenceIdeal := by
  intro m g m' g' _ hagree
  refine ⟨_, Cert.FfnIdeal.Value.run m g, ?_⟩
  refine (θ_run _ _ _).mono (fun _ h c => ⟨(h c).1.trans ?_, (h c).2⟩)
    (Cert.FfnReferenceIdeal.Value.run (F := Ideal) m' g')
  obtain ⟨a0, a1, a2, a3, a4⟩ := hagree c
  rw [a0, a1, a2, a3, a4, Cert.FfnReferenceIdeal.Read.val_main_v6_eq]
  exact (Cert.FfnIdeal.Value.final m c).symm.trans (Cert.FfnIdeal.Value.final5 m c)

/-- The experts' kernel, at the machine's floats and at the extended reals, and its reference run and leave their
    arguments as they were. -/
theorem frame_moe : Cert.quiescent_Moe := fun m ρ h => Cert.Moe.Experts.frame m ρ (Cert.Moe.Experts.ok_of_named m h)
theorem frame_moe_ideal : Cert.quiescent_MoeIdeal := fun m ρ h => Cert.MoeIdeal.Experts.frame m ρ (Cert.MoeIdeal.Experts.ok_of_named m h)
theorem frame_moe_reference : Cert.quiescent_MoeReferenceIdeal := fun m ρ _ =>
  (θ_run Cert.MoeReferenceIdeal.defs _ _).mono (fun r h => ⟨fun c => (h c).2,
      Idealize.ShloMosaic.sem_eq_zero_of_no_sems (by decide) r.2⟩)
    (Cert.MoeReferenceIdeal.Value.run (F := Ideal) m ρ)

/-- The experts' kernel's result is its reference's. -/
theorem moe : Cert.algebraic_MoeIdeal_MoeReferenceIdeal := by
  intro m g m' g' hpre hagree
  refine ⟨_, Cert.MoeIdeal.Experts.run m g (Cert.MoeIdeal.Experts.ok_of_named m hpre) (fun b => Cert.MoeIdeal.Experts.named (F := Ideal) _ _ _ _ _ _ (hpre 0) b), ?_⟩
  refine (θ_run _ _ _).mono (fun _ h c => ⟨(h c).1.trans ?_, (h c).2⟩)
    (Cert.MoeReferenceIdeal.Value.run (F := Ideal) m' g')
  obtain ⟨a0, a1, a2, a3, a4, a5⟩ := hagree c
  rw [a0, a1, a2, a3, a4, a5, Cert.MoeReferenceIdeal.Read.val_main_v33_eq]

/-- The reference of the projection's front runs and leaves its arguments as they were. -/
theorem frame_front_reference : Cert.quiescent_FrontReferenceIdeal := fun m ρ _ =>
  (θ_run Cert.FrontReferenceIdeal.defs _ _).mono (fun r h => ⟨fun c => (h c).2.2.2.2.2.2.2,
      Idealize.ShloMosaic.sem_eq_zero_of_no_sems (by decide) r.2⟩)
    (Cert.FrontReferenceIdeal.Value.run (F := Ideal) m ρ)

/-- The front's seven results are its reference's. -/
theorem front : Cert.algebraic_FrontIdeal_FrontReferenceIdeal := by
  intro m g m' g' _ hagree
  refine ⟨_, _, _, _, _, _, _, Cert.FrontIdeal.Value.run_blocks m g, ?_⟩
  refine (θ_run _ _ _).mono (fun _ h c => ?_) (Cert.FrontReferenceIdeal.Value.run (F := Ideal) m' g')
  obtain ⟨a0, a1, a2⟩ := hagree c
  obtain ⟨h0, h1, h2, h3, h4, h5, h6, h7⟩ := h c
  refine ⟨h0.trans ?_, h1.trans ?_, h2.trans ?_, h3.trans ?_, h4.trans ?_, h5.trans ?_, h6.trans ?_, h7⟩
  · rw [a0, a1, a2, Cert.FrontReferenceIdeal.Read.val_main_v147_eq]
    exact (Cert.FrontIdeal.Value.final5 m c).symm
  · rw [a0, a1, a2, Cert.FrontReferenceIdeal.Read.val_main_v149_eq]
    exact (Cert.FrontIdeal.Value.final6 m c).symm
  · rw [a0, a1, a2, Cert.FrontReferenceIdeal.Read.val_main_v150_eq]
    exact (Cert.FrontIdeal.Value.final7 m c).symm
  · rw [a0, a1, a2, Cert.FrontReferenceIdeal.Read.val_main_v151_eq]
    exact (Cert.FrontIdeal.Value.final8 m c).symm
  · rw [Cert.FrontReferenceIdeal.Read.val_main_v152_eq, a0, a1, a2]
    exact (Cert.FrontIdeal.Value.final9 m c).symm
  · rw [Cert.FrontReferenceIdeal.Read.val_main_v153_eq, a0, a1, a2]
    exact (Cert.FrontIdeal.Value.final10 m c).symm
  · rw [Cert.FrontReferenceIdeal.Read.val_main_v154_eq, a0, a1, a2]
    exact (Cert.FrontIdeal.Value.final11 m c).symm

/-- The claims of the test file. -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Moe.Gen.facts, Cert.MoeIdeal.Gen.facts, Cert.MoeReferenceIdeal.Gen.facts,
  Cert.Front.Gen.facts, Cert.FrontIdeal.Gen.facts, Cert.FrontReferenceIdeal.Gen.facts, Cert.Pre_experts_named.Gen.facts,
  fun m ρ _ => Cert.Kernel.Gen.frame m ρ, fun m ρ _ => Cert.KernelIdeal.Gen.frame m ρ, frame_reference,
  fun m ρ _ => Cert.Ffn.Gen.frame m ρ, fun m ρ _ => Cert.FfnIdeal.Gen.frame m ρ, frame_ffn_reference,
  frame_moe, frame_moe_ideal, frame_moe_reference,
  fun m ρ _ => Cert.Front.Gen.frame m ρ, fun m ρ _ => Cert.FrontIdeal.Gen.frame m ρ, frame_front_reference,
  IdealRules.named_const.statement _ _ _ _ _ rfl, scan, trivial, ffn, trivial, moe, trivial, front⟩

end Cert.Proof
